-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostReferenceIdeal (m : (ℓ : Loc Cert.PostReferenceIdeal.nD Cert.PostReferenceIdeal.τ Cert.PostReferenceIdeal.sig) → Buf (Elt Ideal) ℓ) : Prop :=
  True

def Pre_Prompt (m : (ℓ : Loc Cert.Prompt.nD Cert.Prompt.τ Cert.Prompt.sig) → Buf (Elt Bits) ℓ) : Prop :=
  True

def Pre_PromptIdeal (m : (ℓ : Loc Cert.PromptIdeal.nD Cert.PromptIdeal.τ Cert.PromptIdeal.sig) → Buf (Elt Ideal) ℓ) : Prop :=
  True

def Pre_PromptReferenceIdeal (m : (ℓ : Loc Cert.PromptReferenceIdeal.nD Cert.PromptReferenceIdeal.τ Cert.PromptReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11)
      ∧ r.2.mem ((c.tc : Thread Cert.Post.nD Cert.Post.τ).loc Cert.Post.main_arg12) = m ((c.tc : Thread Cert.Post.nD Cert.Post.τ).loc Cert.Post.main_arg12)
      ∧ r.2.mem ((c.tc : Thread Cert.Post.nD Cert.Post.τ).loc Cert.Post.main_arg13) = m ((c.tc : Thread Cert.Post.nD Cert.Post.τ).loc Cert.Post.main_arg13)
      ∧ r.2.mem ((c.tc : Thread Cert.Post.nD Cert.Post.τ).loc Cert.Post.main_arg14) = m ((c.tc : Thread Cert.Post.nD Cert.Post.τ).loc Cert.Post.main_arg14))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
      ∧ r.2.mem ((c.tc : Thread Cert.PostIdeal.nD Cert.PostIdeal.τ).loc Cert.PostIdeal.main_arg13) = m ((c.tc : Thread Cert.PostIdeal.nD Cert.PostIdeal.τ).loc Cert.PostIdeal.main_arg13)
      ∧ r.2.mem ((c.tc : Thread Cert.PostIdeal.nD Cert.PostIdeal.τ).loc Cert.PostIdeal.main_arg14) = m ((c.tc : Thread Cert.PostIdeal.nD Cert.PostIdeal.τ).loc Cert.PostIdeal.main_arg14))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7)
      ∧ r.2.mem ((c.tc : Thread Cert.PostReferenceIdeal.nD Cert.PostReferenceIdeal.τ).loc Cert.PostReferenceIdeal.main_arg8) = m ((c.tc : Thread Cert.PostReferenceIdeal.nD Cert.PostReferenceIdeal.τ).loc Cert.PostReferenceIdeal.main_arg8)
      ∧ r.2.mem ((c.tc : Thread Cert.PostReferenceIdeal.nD Cert.PostReferenceIdeal.τ).loc Cert.PostReferenceIdeal.main_arg9) = m ((c.tc : Thread Cert.PostReferenceIdeal.nD Cert.PostReferenceIdeal.τ).loc Cert.PostReferenceIdeal.main_arg9)
      ∧ r.2.mem ((c.tc : Thread Cert.PostReferenceIdeal.nD Cert.PostReferenceIdeal.τ).loc Cert.PostReferenceIdeal.main_arg10) = m ((c.tc : Thread Cert.PostReferenceIdeal.nD Cert.PostReferenceIdeal.τ).loc Cert.PostReferenceIdeal.main_arg10)
      ∧ r.2.mem ((c.tc : Thread Cert.PostReferenceIdeal.nD Cert.PostReferenceIdeal.τ).loc Cert.PostReferenceIdeal.main_arg11) = m ((c.tc : Thread Cert.PostReferenceIdeal.nD Cert.PostReferenceIdeal.τ).loc Cert.PostReferenceIdeal.main_arg11)
      ∧ r.2.mem ((c.tc : Thread Cert.PostReferenceIdeal.nD Cert.PostReferenceIdeal.τ).loc Cert.PostReferenceIdeal.main_arg12) = m ((c.tc : Thread Cert.PostReferenceIdeal.nD Cert.PostReferenceIdeal.τ).loc Cert.PostReferenceIdeal.main_arg12)
      ∧ r.2.mem ((c.tc : Thread Cert.PostReferenceIdeal.nD Cert.PostReferenceIdeal.τ).loc Cert.PostReferenceIdeal.main_arg13) = m ((c.tc : Thread Cert.PostReferenceIdeal.nD Cert.PostReferenceIdeal.τ).loc Cert.PostReferenceIdeal.main_arg13)
      ∧ r.2.mem ((c.tc : Thread Cert.PostReferenceIdeal.nD Cert.PostReferenceIdeal.τ).loc Cert.PostReferenceIdeal.main_arg14) = m ((c.tc : Thread Cert.PostReferenceIdeal.nD Cert.PostReferenceIdeal.τ).loc Cert.PostReferenceIdeal.main_arg14))
      ∧ r.2.sem = fun _ => 0)

def quiescent_Prompt [hPrompt : Cert.Prompt.Facts] : Prop :=
  ∀ (m : (ℓ : Loc Cert.Prompt.nD Cert.Prompt.τ Cert.Prompt.sig) → Buf (Elt Bits) ℓ) (g : Dev Cert.Prompt.nD → PrngReg), Pre_Prompt m →
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1)
      ∧ r.2.mem ((c.tc : Thread Cert.Prompt.nD Cert.Prompt.τ).loc Cert.Prompt.main_arg2) = m ((c.tc : Thread Cert.Prompt.nD Cert.Prompt.τ).loc Cert.Prompt.main_arg2)
      ∧ r.2.mem ((c.tc : Thread Cert.Prompt.nD Cert.Prompt.τ).loc Cert.Prompt.main_arg3) = m ((c.tc : Thread Cert.Prompt.nD Cert.Prompt.τ).loc Cert.Prompt.main_arg3)
      ∧ r.2.mem ((c.tc : Thread Cert.Prompt.nD Cert.Prompt.τ).loc Cert.Prompt.main_arg4) = m ((c.tc : Thread Cert.Prompt.nD Cert.Prompt.τ).loc Cert.Prompt.main_arg4)
      ∧ r.2.mem ((c.tc : Thread Cert.Prompt.nD Cert.Prompt.τ).loc Cert.Prompt.main_arg5) = m ((c.tc : Thread Cert.Prompt.nD Cert.Prompt.τ).loc Cert.Prompt.main_arg5)
      ∧ r.2.mem ((c.tc : Thread Cert.Prompt.nD Cert.Prompt.τ).loc Cert.Prompt.main_arg6) = m ((c.tc : Thread Cert.Prompt.nD Cert.Prompt.τ).loc Cert.Prompt.main_arg6)
      ∧ r.2.mem ((c.tc : Thread Cert.Prompt.nD Cert.Prompt.τ).loc Cert.Prompt.main_arg7) = m ((c.tc : Thread Cert.Prompt.nD Cert.Prompt.τ).loc Cert.Prompt.main_arg7)
      ∧ r.2.mem ((c.tc : Thread Cert.Prompt.nD Cert.Prompt.τ).loc Cert.Prompt.main_arg8) = m ((c.tc : Thread Cert.Prompt.nD Cert.Prompt.τ).loc Cert.Prompt.main_arg8)
      ∧ r.2.mem ((c.tc : Thread Cert.Prompt.nD Cert.Prompt.τ).loc Cert.Prompt.main_arg9) = m ((c.tc : Thread Cert.Prompt.nD Cert.Prompt.τ).loc Cert.Prompt.main_arg9)
      ∧ r.2.mem ((c.tc : Thread Cert.Prompt.nD Cert.Prompt.τ).loc Cert.Prompt.main_arg10) = m ((c.tc : Thread Cert.Prompt.nD Cert.Prompt.τ).loc Cert.Prompt.main_arg10)
      ∧ r.2.mem ((c.tc : Thread Cert.Prompt.nD Cert.Prompt.τ).loc Cert.Prompt.main_arg11) = m ((c.tc : Thread Cert.Prompt.nD Cert.Prompt.τ).loc Cert.Prompt.main_arg11)
      ∧ r.2.mem ((c.tc : Thread Cert.Prompt.nD Cert.Prompt.τ).loc Cert.Prompt.main_arg12) = m ((c.tc : Thread Cert.Prompt.nD Cert.Prompt.τ).loc Cert.Prompt.main_arg12)
      ∧ r.2.mem ((c.tc : Thread Cert.Prompt.nD Cert.Prompt.τ).loc Cert.Prompt.main_arg13) = m ((c.tc : Thread Cert.Prompt.nD Cert.Prompt.τ).loc Cert.Prompt.main_arg13)
      ∧ r.2.mem ((c.tc : Thread Cert.Prompt.nD Cert.Prompt.τ).loc Cert.Prompt.main_arg14) = m ((c.tc : Thread Cert.Prompt.nD Cert.Prompt.τ).loc Cert.Prompt.main_arg14))
      ∧ r.2.sem = fun _ => 0)

def quiescent_PromptIdeal [hPromptIdeal : Cert.PromptIdeal.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
      ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
      ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
      ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
      ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7)
      ∧ r.2.mem ((c.tc : Thread Cert.PromptIdeal.nD Cert.PromptIdeal.τ).loc Cert.PromptIdeal.main_arg8) = m ((c.tc : Thread Cert.PromptIdeal.nD Cert.PromptIdeal.τ).loc Cert.PromptIdeal.main_arg8)
      ∧ r.2.mem ((c.tc : Thread Cert.PromptIdeal.nD Cert.PromptIdeal.τ).loc Cert.PromptIdeal.main_arg9) = m ((c.tc : Thread Cert.PromptIdeal.nD Cert.PromptIdeal.τ).loc Cert.PromptIdeal.main_arg9)
      ∧ r.2.mem ((c.tc : Thread Cert.PromptIdeal.nD Cert.PromptIdeal.τ).loc Cert.PromptIdeal.main_arg10) = m ((c.tc : Thread Cert.PromptIdeal.nD Cert.PromptIdeal.τ).loc Cert.PromptIdeal.main_arg10)
      ∧ r.2.mem ((c.tc : Thread Cert.PromptIdeal.nD Cert.PromptIdeal.τ).loc Cert.PromptIdeal.main_arg11) = m ((c.tc : Thread Cert.PromptIdeal.nD Cert.PromptIdeal.τ).loc Cert.PromptIdeal.main_arg11)
      ∧ r.2.mem ((c.tc : Thread Cert.PromptIdeal.nD Cert.PromptIdeal.τ).loc Cert.PromptIdeal.main_arg12) = m ((c.tc : Thread Cert.PromptIdeal.nD Cert.PromptIdeal.τ).loc Cert.PromptIdeal.main_arg12)
      ∧ r.2.mem ((c.tc : Thread Cert.PromptIdeal.nD Cert.PromptIdeal.τ).loc Cert.PromptIdeal.main_arg13) = m ((c.tc : Thread Cert.PromptIdeal.nD Cert.PromptIdeal.τ).loc Cert.PromptIdeal.main_arg13)
      ∧ r.2.mem ((c.tc : Thread Cert.PromptIdeal.nD Cert.PromptIdeal.τ).loc Cert.PromptIdeal.main_arg14) = m ((c.tc : Thread Cert.PromptIdeal.nD Cert.PromptIdeal.τ).loc Cert.PromptIdeal.main_arg14))
      ∧ r.2.sem = fun _ => 0)

def quiescent_PromptReferenceIdeal [hPromptReferenceIdeal : Cert.PromptReferenceIdeal.Facts] : Prop :=
  ∀ (m : (ℓ : Loc Cert.PromptReferenceIdeal.nD Cert.PromptReferenceIdeal.τ Cert.PromptReferenceIdeal.sig) → Buf (Elt Ideal) ℓ) (g : Dev Cert.PromptReferenceIdeal.nD → PrngReg), Pre_PromptReferenceIdeal m →
    θ_run (Cert.PromptReferenceIdeal.defs (F := Ideal)) (onTc (τ := Cert.PromptReferenceIdeal.τ) (Cert.PromptReferenceIdeal.main (F := Ideal))) ⟨m, fun _ => 0, g⟩ (fun r => (∀ c : Dev Cert.PromptReferenceIdeal.nD,
      r.2.mem ((c.tc : Thread Cert.PromptReferenceIdeal.nD Cert.PromptReferenceIdeal.τ).loc Cert.PromptReferenceIdeal.main_arg0) = m ((c.tc : Thread Cert.PromptReferenceIdeal.nD Cert.PromptReferenceIdeal.τ).loc Cert.PromptReferenceIdeal.main_arg0)
      ∧ r.2.mem ((c.tc : Thread Cert.PromptReferenceIdeal.nD Cert.PromptReferenceIdeal.τ).loc Cert.PromptReferenceIdeal.main_arg1) = m ((c.tc : Thread Cert.PromptReferenceIdeal.nD Cert.PromptReferenceIdeal.τ).loc Cert.PromptReferenceIdeal.main_arg1)
      ∧ r.2.mem ((c.tc : Thread Cert.PromptReferenceIdeal.nD Cert.PromptReferenceIdeal.τ).loc Cert.PromptReferenceIdeal.main_arg2) = m ((c.tc : Thread Cert.PromptReferenceIdeal.nD Cert.PromptReferenceIdeal.τ).loc Cert.PromptReferenceIdeal.main_arg2)
      ∧ r.2.mem ((c.tc : Thread Cert.PromptReferenceIdeal.nD Cert.PromptReferenceIdeal.τ).loc Cert.PromptReferenceIdeal.main_arg3) = m ((c.tc : Thread Cert.PromptReferenceIdeal.nD Cert.PromptReferenceIdeal.τ).loc Cert.PromptReferenceIdeal.main_arg3)
      ∧ r.2.mem ((c.tc : Thread Cert.PromptReferenceIdeal.nD Cert.PromptReferenceIdeal.τ).loc Cert.PromptReferenceIdeal.main_arg4) = m ((c.tc : Thread Cert.PromptReferenceIdeal.nD Cert.PromptReferenceIdeal.τ).loc Cert.PromptReferenceIdeal.main_arg4)
      ∧ r.2.mem ((c.tc : Thread Cert.PromptReferenceIdeal.nD Cert.PromptReferenceIdeal.τ).loc Cert.PromptReferenceIdeal.main_arg5) = m ((c.tc : Thread Cert.PromptReferenceIdeal.nD Cert.PromptReferenceIdeal.τ).loc Cert.PromptReferenceIdeal.main_arg5)
      ∧ r.2.mem ((c.tc : Thread Cert.PromptReferenceIdeal.nD Cert.PromptReferenceIdeal.τ).loc Cert.PromptReferenceIdeal.main_arg6) = m ((c.tc : Thread Cert.PromptReferenceIdeal.nD Cert.PromptReferenceIdeal.τ).loc Cert.PromptReferenceIdeal.main_arg6)
      ∧ r.2.mem ((c.tc : Thread Cert.PromptReferenceIdeal.nD Cert.PromptReferenceIdeal.τ).loc Cert.PromptReferenceIdeal.main_arg7) = m ((c.tc : Thread Cert.PromptReferenceIdeal.nD Cert.PromptReferenceIdeal.τ).loc Cert.PromptReferenceIdeal.main_arg7)
      ∧ r.2.mem ((c.tc : Thread Cert.PromptReferenceIdeal.nD Cert.PromptReferenceIdeal.τ).loc Cert.PromptReferenceIdeal.main_arg8) = m ((c.tc : Thread Cert.PromptReferenceIdeal.nD Cert.PromptReferenceIdeal.τ).loc Cert.PromptReferenceIdeal.main_arg8)
      ∧ r.2.mem ((c.tc : Thread Cert.PromptReferenceIdeal.nD Cert.PromptReferenceIdeal.τ).loc Cert.PromptReferenceIdeal.main_arg9) = m ((c.tc : Thread Cert.PromptReferenceIdeal.nD Cert.PromptReferenceIdeal.τ).loc Cert.PromptReferenceIdeal.main_arg9)
      ∧ r.2.mem ((c.tc : Thread Cert.PromptReferenceIdeal.nD Cert.PromptReferenceIdeal.τ).loc Cert.PromptReferenceIdeal.main_arg10) = m ((c.tc : Thread Cert.PromptReferenceIdeal.nD Cert.PromptReferenceIdeal.τ).loc Cert.PromptReferenceIdeal.main_arg10)
      ∧ r.2.mem ((c.tc : Thread Cert.PromptReferenceIdeal.nD Cert.PromptReferenceIdeal.τ).loc Cert.PromptReferenceIdeal.main_arg11) = m ((c.tc : Thread Cert.PromptReferenceIdeal.nD Cert.PromptReferenceIdeal.τ).loc Cert.PromptReferenceIdeal.main_arg11)
      ∧ r.2.mem ((c.tc : Thread Cert.PromptReferenceIdeal.nD Cert.PromptReferenceIdeal.τ).loc Cert.PromptReferenceIdeal.main_arg12) = m ((c.tc : Thread Cert.PromptReferenceIdeal.nD Cert.PromptReferenceIdeal.τ).loc Cert.PromptReferenceIdeal.main_arg12)
      ∧ r.2.mem ((c.tc : Thread Cert.PromptReferenceIdeal.nD Cert.PromptReferenceIdeal.τ).loc Cert.PromptReferenceIdeal.main_arg13) = m ((c.tc : Thread Cert.PromptReferenceIdeal.nD Cert.PromptReferenceIdeal.τ).loc Cert.PromptReferenceIdeal.main_arg13)
      ∧ r.2.mem ((c.tc : Thread Cert.PromptReferenceIdeal.nD Cert.PromptReferenceIdeal.τ).loc Cert.PromptReferenceIdeal.main_arg14) = m ((c.tc : Thread Cert.PromptReferenceIdeal.nD Cert.PromptReferenceIdeal.τ).loc Cert.PromptReferenceIdeal.main_arg14))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Post_PostIdeal : Prop :=
  True

def algebraic_PostIdeal_PostReferenceIdeal [hPostIdeal : Cert.PostIdeal.Facts] [hPostReferenceIdeal : Cert.PostReferenceIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostIdeal m →
    (∀ c : Dev Cert.PostIdeal.nD,
      m' ((c.tc : Thread Cert.PostReferenceIdeal.nD Cert.PostReferenceIdeal.τ).loc Cert.PostReferenceIdeal.main_arg0) = m ((c.tc : Thread Cert.PostIdeal.nD Cert.PostIdeal.τ).loc Cert.PostIdeal.main_arg0)
      ∧ m' ((c.tc : Thread Cert.PostReferenceIdeal.nD Cert.PostReferenceIdeal.τ).loc Cert.PostReferenceIdeal.main_arg1) = m ((c.tc : Thread Cert.PostIdeal.nD Cert.PostIdeal.τ).loc Cert.PostIdeal.main_arg1)
      ∧ m' ((c.tc : Thread Cert.PostReferenceIdeal.nD Cert.PostReferenceIdeal.τ).loc Cert.PostReferenceIdeal.main_arg2) = m ((c.tc : Thread Cert.PostIdeal.nD Cert.PostIdeal.τ).loc Cert.PostIdeal.main_arg2)
      ∧ m' ((c.tc : Thread Cert.PostReferenceIdeal.nD Cert.PostReferenceIdeal.τ).loc Cert.PostReferenceIdeal.main_arg3) = m ((c.tc : Thread Cert.PostIdeal.nD Cert.PostIdeal.τ).loc Cert.PostIdeal.main_arg3)
      ∧ m' ((c.tc : Thread Cert.PostReferenceIdeal.nD Cert.PostReferenceIdeal.τ).loc Cert.PostReferenceIdeal.main_arg4) = m ((c.tc : Thread Cert.PostIdeal.nD Cert.PostIdeal.τ).loc Cert.PostIdeal.main_arg4)
      ∧ m' ((c.tc : Thread Cert.PostReferenceIdeal.nD Cert.PostReferenceIdeal.τ).loc Cert.PostReferenceIdeal.main_arg5) = m ((c.tc : Thread Cert.PostIdeal.nD Cert.PostIdeal.τ).loc Cert.PostIdeal.main_arg5)
      ∧ m' ((c.tc : Thread Cert.PostReferenceIdeal.nD Cert.PostReferenceIdeal.τ).loc Cert.PostReferenceIdeal.main_arg6) = m ((c.tc : Thread Cert.PostIdeal.nD Cert.PostIdeal.τ).loc Cert.PostIdeal.main_arg6)
      ∧ m' ((c.tc : Thread Cert.PostReferenceIdeal.nD Cert.PostReferenceIdeal.τ).loc Cert.PostReferenceIdeal.main_arg7) = m ((c.tc : Thread Cert.PostIdeal.nD Cert.PostIdeal.τ).loc Cert.PostIdeal.main_arg7)
      ∧ m' ((c.tc : Thread Cert.PostReferenceIdeal.nD Cert.PostReferenceIdeal.τ).loc Cert.PostReferenceIdeal.main_arg8) = m ((c.tc : Thread Cert.PostIdeal.nD Cert.PostIdeal.τ).loc Cert.PostIdeal.main_arg8)
      ∧ m' ((c.tc : Thread Cert.PostReferenceIdeal.nD Cert.PostReferenceIdeal.τ).loc Cert.PostReferenceIdeal.main_arg9) = m ((c.tc : Thread Cert.PostIdeal.nD Cert.PostIdeal.τ).loc Cert.PostIdeal.main_arg9)
      ∧ m' ((c.tc : Thread Cert.PostReferenceIdeal.nD Cert.PostReferenceIdeal.τ).loc Cert.PostReferenceIdeal.main_arg10) = m ((c.tc : Thread Cert.PostIdeal.nD Cert.PostIdeal.τ).loc Cert.PostIdeal.main_arg10)
      ∧ m' ((c.tc : Thread Cert.PostReferenceIdeal.nD Cert.PostReferenceIdeal.τ).loc Cert.PostReferenceIdeal.main_arg11) = m ((c.tc : Thread Cert.PostIdeal.nD Cert.PostIdeal.τ).loc Cert.PostIdeal.main_arg11)
      ∧ m' ((c.tc : Thread Cert.PostReferenceIdeal.nD Cert.PostReferenceIdeal.τ).loc Cert.PostReferenceIdeal.main_arg12) = m ((c.tc : Thread Cert.PostIdeal.nD Cert.PostIdeal.τ).loc Cert.PostIdeal.main_arg12)
      ∧ m' ((c.tc : Thread Cert.PostReferenceIdeal.nD Cert.PostReferenceIdeal.τ).loc Cert.PostReferenceIdeal.main_arg13) = m ((c.tc : Thread Cert.PostIdeal.nD Cert.PostIdeal.τ).loc Cert.PostIdeal.main_arg13)
      ∧ m' ((c.tc : Thread Cert.PostReferenceIdeal.nD Cert.PostReferenceIdeal.τ).loc Cert.PostReferenceIdeal.main_arg14) = m ((c.tc : Thread Cert.PostIdeal.nD Cert.PostIdeal.τ).loc Cert.PostIdeal.main_arg14)) →
    ∃ (v0 : (c : Dev Cert.PostIdeal.nD) → Buf (Elt Ideal) ((c.tc : Thread Cert.PostIdeal.nD Cert.PostIdeal.τ).loc Cert.PostIdeal.main_v0)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v0) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
          ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
          ∧ r.2.mem ((c.tc : Thread Cert.PostIdeal.nD Cert.PostIdeal.τ).loc Cert.PostIdeal.main_arg13) = m ((c.tc : Thread Cert.PostIdeal.nD Cert.PostIdeal.τ).loc Cert.PostIdeal.main_arg13)
          ∧ r.2.mem ((c.tc : Thread Cert.PostIdeal.nD Cert.PostIdeal.τ).loc Cert.PostIdeal.main_arg14) = m ((c.tc : Thread Cert.PostIdeal.nD Cert.PostIdeal.τ).loc Cert.PostIdeal.main_arg14))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v96) = v0 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5)
          ∧ r.2.mem ((c.tc : Thread Cert.PostReferenceIdeal.nD Cert.PostReferenceIdeal.τ).loc Cert.PostReferenceIdeal.main_arg6) = m' ((c.tc : Thread Cert.PostReferenceIdeal.nD Cert.PostReferenceIdeal.τ).loc Cert.PostReferenceIdeal.main_arg6)
          ∧ r.2.mem ((c.tc : Thread Cert.PostReferenceIdeal.nD Cert.PostReferenceIdeal.τ).loc Cert.PostReferenceIdeal.main_arg7) = m' ((c.tc : Thread Cert.PostReferenceIdeal.nD Cert.PostReferenceIdeal.τ).loc Cert.PostReferenceIdeal.main_arg7)
          ∧ r.2.mem ((c.tc : Thread Cert.PostReferenceIdeal.nD Cert.PostReferenceIdeal.τ).loc Cert.PostReferenceIdeal.main_arg8) = m' ((c.tc : Thread Cert.PostReferenceIdeal.nD Cert.PostReferenceIdeal.τ).loc Cert.PostReferenceIdeal.main_arg8)
          ∧ r.2.mem ((c.tc : Thread Cert.PostReferenceIdeal.nD Cert.PostReferenceIdeal.τ).loc Cert.PostReferenceIdeal.main_arg9) = m' ((c.tc : Thread Cert.PostReferenceIdeal.nD Cert.PostReferenceIdeal.τ).loc Cert.PostReferenceIdeal.main_arg9)
          ∧ r.2.mem ((c.tc : Thread Cert.PostReferenceIdeal.nD Cert.PostReferenceIdeal.τ).loc Cert.PostReferenceIdeal.main_arg10) = m' ((c.tc : Thread Cert.PostReferenceIdeal.nD Cert.PostReferenceIdeal.τ).loc Cert.PostReferenceIdeal.main_arg10)
          ∧ r.2.mem ((c.tc : Thread Cert.PostReferenceIdeal.nD Cert.PostReferenceIdeal.τ).loc Cert.PostReferenceIdeal.main_arg11) = m' ((c.tc : Thread Cert.PostReferenceIdeal.nD Cert.PostReferenceIdeal.τ).loc Cert.PostReferenceIdeal.main_arg11)
          ∧ r.2.mem ((c.tc : Thread Cert.PostReferenceIdeal.nD Cert.PostReferenceIdeal.τ).loc Cert.PostReferenceIdeal.main_arg12) = m' ((c.tc : Thread Cert.PostReferenceIdeal.nD Cert.PostReferenceIdeal.τ).loc Cert.PostReferenceIdeal.main_arg12)
          ∧ r.2.mem ((c.tc : Thread Cert.PostReferenceIdeal.nD Cert.PostReferenceIdeal.τ).loc Cert.PostReferenceIdeal.main_arg13) = m' ((c.tc : Thread Cert.PostReferenceIdeal.nD Cert.PostReferenceIdeal.τ).loc Cert.PostReferenceIdeal.main_arg13)
          ∧ r.2.mem ((c.tc : Thread Cert.PostReferenceIdeal.nD Cert.PostReferenceIdeal.τ).loc Cert.PostReferenceIdeal.main_arg14) = m' ((c.tc : Thread Cert.PostReferenceIdeal.nD Cert.PostReferenceIdeal.τ).loc Cert.PostReferenceIdeal.main_arg14))

def preserves_Prompt_PromptIdeal : Prop :=
  True

def algebraic_PromptIdeal_PromptReferenceIdeal [hPromptIdeal : Cert.PromptIdeal.Facts] [hPromptReferenceIdeal : Cert.PromptReferenceIdeal.Facts] : Prop :=
  ∀ (m : (ℓ : Loc Cert.PromptIdeal.nD Cert.PromptIdeal.τ Cert.PromptIdeal.sig) → Buf (Elt Ideal) ℓ) (g : Dev Cert.PromptIdeal.nD → PrngReg)
    (m' : (ℓ : Loc Cert.PromptReferenceIdeal.nD Cert.PromptReferenceIdeal.τ Cert.PromptReferenceIdeal.sig) → Buf (Elt Ideal) ℓ) (g' : Dev Cert.PromptReferenceIdeal.nD → PrngReg), Pre_PromptIdeal m →
    (∀ c : Dev Cert.PromptIdeal.nD,
      m' ((c.tc : Thread Cert.PromptReferenceIdeal.nD Cert.PromptReferenceIdeal.τ).loc Cert.PromptReferenceIdeal.main_arg0) = m ((c.tc : Thread Cert.PromptIdeal.nD Cert.PromptIdeal.τ).loc Cert.PromptIdeal.main_arg0)
      ∧ m' ((c.tc : Thread Cert.PromptReferenceIdeal.nD Cert.PromptReferenceIdeal.τ).loc Cert.PromptReferenceIdeal.main_arg1) = m ((c.tc : Thread Cert.PromptIdeal.nD Cert.PromptIdeal.τ).loc Cert.PromptIdeal.main_arg1)
      ∧ m' ((c.tc : Thread Cert.PromptReferenceIdeal.nD Cert.PromptReferenceIdeal.τ).loc Cert.PromptReferenceIdeal.main_arg2) = m ((c.tc : Thread Cert.PromptIdeal.nD Cert.PromptIdeal.τ).loc Cert.PromptIdeal.main_arg2)
      ∧ m' ((c.tc : Thread Cert.PromptReferenceIdeal.nD Cert.PromptReferenceIdeal.τ).loc Cert.PromptReferenceIdeal.main_arg3) = m ((c.tc : Thread Cert.PromptIdeal.nD Cert.PromptIdeal.τ).loc Cert.PromptIdeal.main_arg3)
      ∧ m' ((c.tc : Thread Cert.PromptReferenceIdeal.nD Cert.PromptReferenceIdeal.τ).loc Cert.PromptReferenceIdeal.main_arg4) = m ((c.tc : Thread Cert.PromptIdeal.nD Cert.PromptIdeal.τ).loc Cert.PromptIdeal.main_arg4)
      ∧ m' ((c.tc : Thread Cert.PromptReferenceIdeal.nD Cert.PromptReferenceIdeal.τ).loc Cert.PromptReferenceIdeal.main_arg5) = m ((c.tc : Thread Cert.PromptIdeal.nD Cert.PromptIdeal.τ).loc Cert.PromptIdeal.main_arg5)
      ∧ m' ((c.tc : Thread Cert.PromptReferenceIdeal.nD Cert.PromptReferenceIdeal.τ).loc Cert.PromptReferenceIdeal.main_arg6) = m ((c.tc : Thread Cert.PromptIdeal.nD Cert.PromptIdeal.τ).loc Cert.PromptIdeal.main_arg6)
      ∧ m' ((c.tc : Thread Cert.PromptReferenceIdeal.nD Cert.PromptReferenceIdeal.τ).loc Cert.PromptReferenceIdeal.main_arg7) = m ((c.tc : Thread Cert.PromptIdeal.nD Cert.PromptIdeal.τ).loc Cert.PromptIdeal.main_arg7)
      ∧ m' ((c.tc : Thread Cert.PromptReferenceIdeal.nD Cert.PromptReferenceIdeal.τ).loc Cert.PromptReferenceIdeal.main_arg8) = m ((c.tc : Thread Cert.PromptIdeal.nD Cert.PromptIdeal.τ).loc Cert.PromptIdeal.main_arg8)
      ∧ m' ((c.tc : Thread Cert.PromptReferenceIdeal.nD Cert.PromptReferenceIdeal.τ).loc Cert.PromptReferenceIdeal.main_arg9) = m ((c.tc : Thread Cert.PromptIdeal.nD Cert.PromptIdeal.τ).loc Cert.PromptIdeal.main_arg9)
      ∧ m' ((c.tc : Thread Cert.PromptReferenceIdeal.nD Cert.PromptReferenceIdeal.τ).loc Cert.PromptReferenceIdeal.main_arg10) = m ((c.tc : Thread Cert.PromptIdeal.nD Cert.PromptIdeal.τ).loc Cert.PromptIdeal.main_arg10)
      ∧ m' ((c.tc : Thread Cert.PromptReferenceIdeal.nD Cert.PromptReferenceIdeal.τ).loc Cert.PromptReferenceIdeal.main_arg11) = m ((c.tc : Thread Cert.PromptIdeal.nD Cert.PromptIdeal.τ).loc Cert.PromptIdeal.main_arg11)
      ∧ m' ((c.tc : Thread Cert.PromptReferenceIdeal.nD Cert.PromptReferenceIdeal.τ).loc Cert.PromptReferenceIdeal.main_arg12) = m ((c.tc : Thread Cert.PromptIdeal.nD Cert.PromptIdeal.τ).loc Cert.PromptIdeal.main_arg12)
      ∧ m' ((c.tc : Thread Cert.PromptReferenceIdeal.nD Cert.PromptReferenceIdeal.τ).loc Cert.PromptReferenceIdeal.main_arg13) = m ((c.tc : Thread Cert.PromptIdeal.nD Cert.PromptIdeal.τ).loc Cert.PromptIdeal.main_arg13)
      ∧ m' ((c.tc : Thread Cert.PromptReferenceIdeal.nD Cert.PromptReferenceIdeal.τ).loc Cert.PromptReferenceIdeal.main_arg14) = m ((c.tc : Thread Cert.PromptIdeal.nD Cert.PromptIdeal.τ).loc Cert.PromptIdeal.main_arg14)) →
    ∃ (v0 : (c : Dev Cert.PromptIdeal.nD) → Buf (Elt Ideal) ((c.tc : Thread Cert.PromptIdeal.nD Cert.PromptIdeal.τ).loc Cert.PromptIdeal.main_v0)),
      θ_run (Cert.PromptIdeal.defs (F := Ideal)) (onTc (τ := Cert.PromptIdeal.τ) (Cert.PromptIdeal.main (F := Ideal))) ⟨m, fun _ => 0, g⟩ (fun r => ∀ c : Dev Cert.PromptIdeal.nD,
          r.2.mem ((c.tc : Thread Cert.PromptIdeal.nD Cert.PromptIdeal.τ).loc Cert.PromptIdeal.main_v0) = v0 c
          ∧ r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
          ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
          ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
          ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
          ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
          ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
          ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
          ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7)
          ∧ r.2.mem ((c.tc : Thread Cert.PromptIdeal.nD Cert.PromptIdeal.τ).loc Cert.PromptIdeal.main_arg8) = m ((c.tc : Thread Cert.PromptIdeal.nD Cert.PromptIdeal.τ).loc Cert.PromptIdeal.main_arg8)
          ∧ r.2.mem ((c.tc : Thread Cert.PromptIdeal.nD Cert.PromptIdeal.τ).loc Cert.PromptIdeal.main_arg9) = m ((c.tc : Thread Cert.PromptIdeal.nD Cert.PromptIdeal.τ).loc Cert.PromptIdeal.main_arg9)
          ∧ r.2.mem ((c.tc : Thread Cert.PromptIdeal.nD Cert.PromptIdeal.τ).loc Cert.PromptIdeal.main_arg10) = m ((c.tc : Thread Cert.PromptIdeal.nD Cert.PromptIdeal.τ).loc Cert.PromptIdeal.main_arg10)
          ∧ r.2.mem ((c.tc : Thread Cert.PromptIdeal.nD Cert.PromptIdeal.τ).loc Cert.PromptIdeal.main_arg11) = m ((c.tc : Thread Cert.PromptIdeal.nD Cert.PromptIdeal.τ).loc Cert.PromptIdeal.main_arg11)
          ∧ r.2.mem ((c.tc : Thread Cert.PromptIdeal.nD Cert.PromptIdeal.τ).loc Cert.PromptIdeal.main_arg12) = m ((c.tc : Thread Cert.PromptIdeal.nD Cert.PromptIdeal.τ).loc Cert.PromptIdeal.main_arg12)
          ∧ r.2.mem ((c.tc : Thread Cert.PromptIdeal.nD Cert.PromptIdeal.τ).loc Cert.PromptIdeal.main_arg13) = m ((c.tc : Thread Cert.PromptIdeal.nD Cert.PromptIdeal.τ).loc Cert.PromptIdeal.main_arg13)
          ∧ r.2.mem ((c.tc : Thread Cert.PromptIdeal.nD Cert.PromptIdeal.τ).loc Cert.PromptIdeal.main_arg14) = m ((c.tc : Thread Cert.PromptIdeal.nD Cert.PromptIdeal.τ).loc Cert.PromptIdeal.main_arg14))
      ∧ θ_run (Cert.PromptReferenceIdeal.defs (F := Ideal)) (onTc (τ := Cert.PromptReferenceIdeal.τ) (Cert.PromptReferenceIdeal.main (F := Ideal))) ⟨m', fun _ => 0, g'⟩ (fun r => ∀ c : Dev Cert.PromptReferenceIdeal.nD,
          r.2.mem ((c.tc : Thread Cert.PromptReferenceIdeal.nD Cert.PromptReferenceIdeal.τ).loc Cert.PromptReferenceIdeal.main_v96) = v0 c
          ∧ r.2.mem ((c.tc : Thread Cert.PromptReferenceIdeal.nD Cert.PromptReferenceIdeal.τ).loc Cert.PromptReferenceIdeal.main_arg0) = m' ((c.tc : Thread Cert.PromptReferenceIdeal.nD Cert.PromptReferenceIdeal.τ).loc Cert.PromptReferenceIdeal.main_arg0)
          ∧ r.2.mem ((c.tc : Thread Cert.PromptReferenceIdeal.nD Cert.PromptReferenceIdeal.τ).loc Cert.PromptReferenceIdeal.main_arg1) = m' ((c.tc : Thread Cert.PromptReferenceIdeal.nD Cert.PromptReferenceIdeal.τ).loc Cert.PromptReferenceIdeal.main_arg1)
          ∧ r.2.mem ((c.tc : Thread Cert.PromptReferenceIdeal.nD Cert.PromptReferenceIdeal.τ).loc Cert.PromptReferenceIdeal.main_arg2) = m' ((c.tc : Thread Cert.PromptReferenceIdeal.nD Cert.PromptReferenceIdeal.τ).loc Cert.PromptReferenceIdeal.main_arg2)
          ∧ r.2.mem ((c.tc : Thread Cert.PromptReferenceIdeal.nD Cert.PromptReferenceIdeal.τ).loc Cert.PromptReferenceIdeal.main_arg3) = m' ((c.tc : Thread Cert.PromptReferenceIdeal.nD Cert.PromptReferenceIdeal.τ).loc Cert.PromptReferenceIdeal.main_arg3)
          ∧ r.2.mem ((c.tc : Thread Cert.PromptReferenceIdeal.nD Cert.PromptReferenceIdeal.τ).loc Cert.PromptReferenceIdeal.main_arg4) = m' ((c.tc : Thread Cert.PromptReferenceIdeal.nD Cert.PromptReferenceIdeal.τ).loc Cert.PromptReferenceIdeal.main_arg4)
          ∧ r.2.mem ((c.tc : Thread Cert.PromptReferenceIdeal.nD Cert.PromptReferenceIdeal.τ).loc Cert.PromptReferenceIdeal.main_arg5) = m' ((c.tc : Thread Cert.PromptReferenceIdeal.nD Cert.PromptReferenceIdeal.τ).loc Cert.PromptReferenceIdeal.main_arg5)
          ∧ r.2.mem ((c.tc : Thread Cert.PromptReferenceIdeal.nD Cert.PromptReferenceIdeal.τ).loc Cert.PromptReferenceIdeal.main_arg6) = m' ((c.tc : Thread Cert.PromptReferenceIdeal.nD Cert.PromptReferenceIdeal.τ).loc Cert.PromptReferenceIdeal.main_arg6)
          ∧ r.2.mem ((c.tc : Thread Cert.PromptReferenceIdeal.nD Cert.PromptReferenceIdeal.τ).loc Cert.PromptReferenceIdeal.main_arg7) = m' ((c.tc : Thread Cert.PromptReferenceIdeal.nD Cert.PromptReferenceIdeal.τ).loc Cert.PromptReferenceIdeal.main_arg7)
          ∧ r.2.mem ((c.tc : Thread Cert.PromptReferenceIdeal.nD Cert.PromptReferenceIdeal.τ).loc Cert.PromptReferenceIdeal.main_arg8) = m' ((c.tc : Thread Cert.PromptReferenceIdeal.nD Cert.PromptReferenceIdeal.τ).loc Cert.PromptReferenceIdeal.main_arg8)
          ∧ r.2.mem ((c.tc : Thread Cert.PromptReferenceIdeal.nD Cert.PromptReferenceIdeal.τ).loc Cert.PromptReferenceIdeal.main_arg9) = m' ((c.tc : Thread Cert.PromptReferenceIdeal.nD Cert.PromptReferenceIdeal.τ).loc Cert.PromptReferenceIdeal.main_arg9)
          ∧ r.2.mem ((c.tc : Thread Cert.PromptReferenceIdeal.nD Cert.PromptReferenceIdeal.τ).loc Cert.PromptReferenceIdeal.main_arg10) = m' ((c.tc : Thread Cert.PromptReferenceIdeal.nD Cert.PromptReferenceIdeal.τ).loc Cert.PromptReferenceIdeal.main_arg10)
          ∧ r.2.mem ((c.tc : Thread Cert.PromptReferenceIdeal.nD Cert.PromptReferenceIdeal.τ).loc Cert.PromptReferenceIdeal.main_arg11) = m' ((c.tc : Thread Cert.PromptReferenceIdeal.nD Cert.PromptReferenceIdeal.τ).loc Cert.PromptReferenceIdeal.main_arg11)
          ∧ r.2.mem ((c.tc : Thread Cert.PromptReferenceIdeal.nD Cert.PromptReferenceIdeal.τ).loc Cert.PromptReferenceIdeal.main_arg12) = m' ((c.tc : Thread Cert.PromptReferenceIdeal.nD Cert.PromptReferenceIdeal.τ).loc Cert.PromptReferenceIdeal.main_arg12)
          ∧ r.2.mem ((c.tc : Thread Cert.PromptReferenceIdeal.nD Cert.PromptReferenceIdeal.τ).loc Cert.PromptReferenceIdeal.main_arg13) = m' ((c.tc : Thread Cert.PromptReferenceIdeal.nD Cert.PromptReferenceIdeal.τ).loc Cert.PromptReferenceIdeal.main_arg13)
          ∧ r.2.mem ((c.tc : Thread Cert.PromptReferenceIdeal.nD Cert.PromptReferenceIdeal.τ).loc Cert.PromptReferenceIdeal.main_arg14) = m' ((c.tc : Thread Cert.PromptReferenceIdeal.nD Cert.PromptReferenceIdeal.τ).loc Cert.PromptReferenceIdeal.main_arg14))

def Claim : Prop :=
  ∃ (hKernel : Cert.Kernel.Facts) (hKernelIdeal : Cert.KernelIdeal.Facts) (hReferenceIdeal : Cert.ReferenceIdeal.Facts) (hPost : Cert.Post.Facts) (hPostIdeal : Cert.PostIdeal.Facts) (hPostReferenceIdeal : Cert.PostReferenceIdeal.Facts) (hPrompt : Cert.Prompt.Facts) (hPromptIdeal : Cert.PromptIdeal.Facts) (hPromptReferenceIdeal : Cert.PromptReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Post (hPost := hPost)
    ∧ quiescent_PostIdeal (hPostIdeal := hPostIdeal)
    ∧ quiescent_PostReferenceIdeal (hPostReferenceIdeal := hPostReferenceIdeal)
    ∧ quiescent_Prompt (hPrompt := hPrompt)
    ∧ quiescent_PromptIdeal (hPromptIdeal := hPromptIdeal)
    ∧ quiescent_PromptReferenceIdeal (hPromptReferenceIdeal := hPromptReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Post_PostIdeal
    ∧ algebraic_PostIdeal_PostReferenceIdeal (hPostIdeal := hPostIdeal) (hPostReferenceIdeal := hPostReferenceIdeal)
    ∧ preserves_Prompt_PromptIdeal
    ∧ algebraic_PromptIdeal_PromptReferenceIdeal (hPromptIdeal := hPromptIdeal) (hPromptReferenceIdeal := hPromptReferenceIdeal)
-- ==== Pre_finite.lean ====
abbrev S8x1024x4096 : Shape := ⟨3, ![8, 1024, 4096]⟩
abbrev S8x8x4096x128 : Shape := ⟨4, ![8, 8, 4096, 128]⟩
abbrev S8x8x512x512 : Shape := ⟨4, ![8, 8, 512, 512]⟩
abbrev S_ : Shape := ⟨0, ![]⟩

class Facts : Prop where
  bitsLt_bf16_f32 : FTy.bits .bf16 < FTy.bits .f32
  bcast_S_S8x1024x4096 : S_.BroadcastsInDim S8x1024x4096 (![] : Fin 0 → Fin S8x1024x4096.rank)
  bcast_S_S8x8x4096x128 : S_.BroadcastsInDim S8x8x4096x128 (![] : Fin 0 → Fin S8x8x4096x128.rank)

variable [Facts]

def fn {F : FTy → Type} [FloatOps F] (main_arg0 : FVec F S8x1024x4096 .bf16) (main_arg1 : FVec F S8x8x4096x128 .bf16) (main_arg2 : FVec F S8x8x512x512 .bf16) : IVec S8x1024x4096 1 × IVec S8x8x4096x128 1 :=
  let main_v0 : FVec F S8x1024x4096 .f32 := (extf .f32 · bitsLt_bf16_f32) main_arg0
  let main_v1 : FVec F S8x1024x4096 .f32 := Host.absf main_v0
  let main_cst : FVec F S_ .f32 := constant S_ .f32 0x7F800000#32
  let main_v2 : FVec F S8x1024x4096 .f32 := broadcastInDim S8x1024x4096 ![] bcast_S_S8x1024x4096 main_cst
  let main_v3 : IVec S8x1024x4096 1 := cmpf .olt main_v1 main_v2
  let main_v4 : FVec F S8x8x4096x128 .f32 := (extf .f32 · bitsLt_bf16_f32) main_arg1
  let main_v5 : FVec F S8x8x4096x128 .f32 := Host.absf main_v4
  let main_cst_0 : FVec F S_ .f32 := constant S_ .f32 0x7F800000#32
  let main_v6 : FVec F S8x8x4096x128 .f32 := broadcastInDim S8x8x4096x128 ![] bcast_S_S8x8x4096x128 main_cst_0
  let main_v7 : IVec S8x8x4096x128 1 := cmpf .olt main_v5 main_v6
  (main_v3, main_v7)
-- ==== Kernel.lean ====
abbrev S8x1024x4096 : Shape := ⟨3, ![8, 1024, 4096]⟩
abbrev S8x8x4096x128 : Shape := ⟨4, ![8, 8, 4096, 128]⟩
abbrev S8x8x512x512 : Shape := ⟨4, ![8, 8, 512, 512]⟩
abbrev S8x512x4096 : Shape := ⟨3, ![8, 512, 4096]⟩
abbrev S1x512x256 : Shape := ⟨3, ![1, 512, 256]⟩
abbrev S1x256x256 : Shape := ⟨3, ![1, 256, 256]⟩
abbrev S4x4096x128 : Shape := ⟨3, ![4, 4096, 128]⟩
abbrev S8x256x512 : Shape := ⟨3, ![8, 256, 512]⟩
abbrev S2x8 : Shape := ⟨2, ![2, 8]⟩
abbrev S2x4x512x256 : Shape := ⟨4, ![2, 4, 512, 256]⟩
abbrev S4x80x256 : Shape := ⟨3, ![4, 80, 256]⟩
abbrev S1x1 : Shape := ⟨2, ![1, 1]⟩
abbrev S_ : Shape := ⟨0, ![]⟩
abbrev S4x512x128 : Shape := ⟨3, ![4, 512, 128]⟩
abbrev S1x4x512x128 : Shape := ⟨4, ![1, 4, 512, 128]⟩
abbrev S1x256x512 : Shape := ⟨3, ![1, 256, 512]⟩
abbrev S1x1x256x512 : Shape := ⟨4, ![1, 1, 256, 512]⟩
abbrev S1x128x256 : Shape := ⟨3, ![1, 128, 256]⟩
abbrev S128x256 : Shape := ⟨2, ![128, 256]⟩
abbrev S16x512 : Shape := ⟨2, ![16, 512]⟩
abbrev S1x128x128 : Shape := ⟨3, ![1, 128, 128]⟩
abbrev S128x128 : Shape := ⟨2, ![128, 128]⟩
abbrev S256 : Shape := ⟨1, ![256]⟩
abbrev S1x256 : Shape := ⟨2, ![1, 256]⟩
abbrev S1x512x128 : Shape := ⟨3, ![1, 512, 128]⟩
abbrev S512x128 : Shape := ⟨2, ![512, 128]⟩
abbrev S512x256 : Shape := ⟨2, ![512, 256]⟩
abbrev S1x1x512x256 : Shape := ⟨4, ![1, 1, 512, 256]⟩
abbrev S1x64x512 : Shape := ⟨3, ![1, 64, 512]⟩
abbrev S64x512 : Shape := ⟨2, ![64, 512]⟩
abbrev S80x512 : Shape := ⟨2, ![80, 512]⟩
abbrev S80x256 : Shape := ⟨2, ![80, 256]⟩
abbrev S1x80x256 : Shape := ⟨3, ![1, 80, 256]⟩
abbrev S64x256 : Shape := ⟨2, ![64, 256]⟩
abbrev S1x64x256 : Shape := ⟨3, ![1, 64, 256]⟩
abbrev S1x1x256 : Shape := ⟨3, ![1, 1, 256]⟩
abbrev S1 : Shape := ⟨1, ![1]⟩
abbrev S1x1x1 : Shape := ⟨3, ![1, 1, 1]⟩

abbrev nBuf : Space → Nat
  | .hbm => 4
  | .vmem => 9
  | .smem => 0
  | _ => 0

abbrev bufTy : (tb : Table) → Fin (tcTables nBuf tb) → BufTy
  | .hbm, ⟨0, _⟩ => ⟨S8x1024x4096, .bf16⟩
  | .hbm, ⟨1, _⟩ => ⟨S8x8x4096x128, .bf16⟩
  | .hbm, ⟨2, _⟩ => ⟨S8x8x512x512, .bf16⟩
  | .hbm, ⟨3, _⟩ => ⟨S8x512x4096, .f32⟩
  | .local _ .vmem, ⟨0, _⟩ => ⟨S1x512x256, .bf16⟩
  | .local _ .vmem, ⟨1, _⟩ => ⟨S1x512x256, .bf16⟩
  | .local _ .vmem, ⟨2, _⟩ => ⟨S1x256x256, .f32⟩
  | .local _ .vmem, ⟨3, _⟩ => ⟨S1x256x256, .f32⟩
  | .local _ .vmem, ⟨4, _⟩ => ⟨S4x4096x128, .bf16⟩
  | .local _ .vmem, ⟨5, _⟩ => ⟨S8x256x512, .bf16⟩
  | .local _ .vmem, ⟨6, _⟩ => ⟨S2x4x512x256, .f32⟩
  | .local _ .vmem, ⟨7, _⟩ => ⟨S2x4x512x256, .bf16⟩
  | .local _ .vmem, ⟨8, _⟩ => ⟨S4x80x256, .f32⟩
  | _, _ => ⟨S8x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨3, ![8, 2, 16], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_off1 (i : grid0.Coords) : Fin 4 → Nat :=
  let arg0 : BitVec 32 := BitVec.ofNat 32 (i 0).val
  let arg1 : BitVec 32 := BitVec.ofNat 32 (i 1).val
  let c4_i32 : BitVec 32 := 4#32
  let v1083 : BitVec 32 := Scalar.muli arg1 c4_i32
  let c0_i32_810 : BitVec 32 := 0#32
  let c0_i32_811 : BitVec 32 := 0#32
  ![arg0.toNat, v1083.toNat, 0, 0]
def k0_off2 (i : grid0.Coords) : Fin 4 → Nat :=
  let arg0 : BitVec 32 := BitVec.ofNat 32 (i 0).val
  let c0_i32_816 : BitVec 32 := 0#32
  let arg1 : BitVec 32 := BitVec.ofNat 32 (i 1).val
  let c256_i32 : BitVec 32 := 256#32
  let v1084 : BitVec 32 := Scalar.muli arg1 c256_i32
  let c0_i32_817 : BitVec 32 := 0#32
  ![arg0.toNat, 0, v1084.toNat, 0]
def k0_off3 (i : grid0.Coords) : Fin 4 → Nat :=
  let arg0 : BitVec 32 := BitVec.ofNat 32 (i 0).val
  let arg1 : BitVec 32 := BitVec.ofNat 32 (i 1).val
  let c4_i32_791 : BitVec 32 := 4#32
  let v1085 : BitVec 32 := Scalar.muli arg1 c4_i32_791
  let c512_i32_822 : BitVec 32 := 512#32
  let c0_i32_823 : BitVec 32 := 0#32
  ![arg0.toNat, v1085.toNat, 512, 0]
def k0_off4 (i : grid0.Coords) : Fin 4 → Nat :=
  let arg0 : BitVec 32 := BitVec.ofNat 32 (i 0).val
  let c1_i32_829 : BitVec 32 := 1#32
  let arg1 : BitVec 32 := BitVec.ofNat 32 (i 1).val
  let c256_i32_792 : BitVec 32 := 256#32
  let v1086 : BitVec 32 := Scalar.muli arg1 c256_i32_792
  let c0_i32_830 : BitVec 32 := 0#32
  ![arg0.toNat, 1, v1086.toNat, 0]
def k0_off5 (i : grid0.Coords) : Fin 4 → Nat :=
  let arg0 : BitVec 32 := BitVec.ofNat 32 (i 0).val
  let arg1 : BitVec 32 := BitVec.ofNat 32 (i 1).val
  let c4_i32_793 : BitVec 32 := 4#32
  let v1087 : BitVec 32 := Scalar.muli arg1 c4_i32_793
  let c1024_i32_834 : BitVec 32 := 1024#32
  let c0_i32_835 : BitVec 32 := 0#32
  ![arg0.toNat, v1087.toNat, 1024, 0]
def k0_off6 (i : grid0.Coords) : Fin 4 → Nat :=
  let arg0 : BitVec 32 := BitVec.ofNat 32 (i 0).val
  let c2_i32_841 : BitVec 32 := 2#32
  let arg1 : BitVec 32 := BitVec.ofNat 32 (i 1).val
  let c256_i32_794 : BitVec 32 := 256#32
  let v1088 : BitVec 32 := Scalar.muli arg1 c256_i32_794
  let c0_i32_842 : BitVec 32 := 0#32
  ![arg0.toNat, 2, v1088.toNat, 0]
def k0_off7 (i : grid0.Coords) : Fin 4 → Nat :=
  let arg0 : BitVec 32 := BitVec.ofNat 32 (i 0).val
  let arg1 : BitVec 32 := BitVec.ofNat 32 (i 1).val
  let c4_i32_795 : BitVec 32 := 4#32
  let v1089 : BitVec 32 := Scalar.muli arg1 c4_i32_795
  let c1536_i32_846 : BitVec 32 := 1536#32
  let c0_i32_847 : BitVec 32 := 0#32
  ![arg0.toNat, v1089.toNat, 1536, 0]
def k0_off8 (i : grid0.Coords) : Fin 4 → Nat :=
  let arg0 : BitVec 32 := BitVec.ofNat 32 (i 0).val
  let c3_i32_853 : BitVec 32 := 3#32
  let arg1 : BitVec 32 := BitVec.ofNat 32 (i 1).val
  let c256_i32_796 : BitVec 32 := 256#32
  let v1090 : BitVec 32 := Scalar.muli arg1 c256_i32_796
  let c0_i32_854 : BitVec 32 := 0#32
  ![arg0.toNat, 3, v1090.toNat, 0]
def k0_off9 (i : grid0.Coords) : Fin 4 → Nat :=
  let arg0 : BitVec 32 := BitVec.ofNat 32 (i 0).val
  let arg1 : BitVec 32 := BitVec.ofNat 32 (i 1).val
  let c4_i32_797 : BitVec 32 := 4#32
  let v1091 : BitVec 32 := Scalar.muli arg1 c4_i32_797
  let c2048_i32_859 : BitVec 32 := 2048#32
  let c0_i32_860 : BitVec 32 := 0#32
  ![arg0.toNat, v1091.toNat, 2048, 0]
def k0_off10 (i : grid0.Coords) : Fin 4 → Nat :=
  let arg0 : BitVec 32 := BitVec.ofNat 32 (i 0).val
  let c4_i32_866 : BitVec 32 := 4#32
  let arg1 : BitVec 32 := BitVec.ofNat 32 (i 1).val
  let c256_i32_798 : BitVec 32 := 256#32
  let v1092 : BitVec 32 := Scalar.muli arg1 c256_i32_798
  let c0_i32_867 : BitVec 32 := 0#32
  ![arg0.toNat, 4, v1092.toNat, 0]
def k0_off11 (i : grid0.Coords) : Fin 4 → Nat :=
  let arg0 : BitVec 32 := BitVec.ofNat 32 (i 0).val
  let arg1 : BitVec 32 := BitVec.ofNat 32 (i 1).val
  let c4_i32_799 : BitVec 32 := 4#32
  let v1093 : BitVec 32 := Scalar.muli arg1 c4_i32_799
  let c2560_i32_871 : BitVec 32 := 2560#32
  let c0_i32_872 : BitVec 32 := 0#32
  ![arg0.toNat, v1093.toNat, 2560, 0]
def k0_off12 (i : grid0.Coords) : Fin 4 → Nat :=
  let arg0 : BitVec 32 := BitVec.ofNat 32 (i 0).val
  let c5_i32_878 : BitVec 32 := 5#32
  let arg1 : BitVec 32 := BitVec.ofNat 32 (i 1).val
  let c256_i32_800 : BitVec 32 := 256#32
  let v1094 : BitVec 32 := Scalar.muli arg1 c256_i32_800
  let c0_i32_879 : BitVec 32 := 0#32
  ![arg0.toNat, 5, v1094.toNat, 0]
def k0_off13 (i : grid0.Coords) : Fin 4 → Nat :=
  let arg0 : BitVec 32 := BitVec.ofNat 32 (i 0).val
  let arg1 : BitVec 32 := BitVec.ofNat 32 (i 1).val
  let c4_i32_801 : BitVec 32 := 4#32
  let v1095 : BitVec 32 := Scalar.muli arg1 c4_i32_801
  let c3072_i32_883 : BitVec 32 := 3072#32
  let c0_i32_884 : BitVec 32 := 0#32
  ![arg0.toNat, v1095.toNat, 3072, 0]
def k0_off14 (i : grid0.Coords) : Fin 4 → Nat :=
  let arg0 : BitVec 32 := BitVec.ofNat 32 (i 0).val
  let c6_i32_890 : BitVec 32 := 6#32
  let arg1 : BitVec 32 := BitVec.ofNat 32 (i 1).val
  let c256_i32_802 : BitVec 32 := 256#32
  let v1096 : BitVec 32 := Scalar.muli arg1 c256_i32_802
  let c0_i32_891 : BitVec 32 := 0#32
  ![arg0.toNat, 6, v1096.toNat, 0]
def k0_off15 (i : grid0.Coords) : Fin 4 → Nat :=
  let arg0 : BitVec 32 := BitVec.ofNat 32 (i 0).val
  let arg1 : BitVec 32 := BitVec.ofNat 32 (i 1).val
  let c4_i32_803 : BitVec 32 := 4#32
  let v1097 : BitVec 32 := Scalar.muli arg1 c4_i32_803
  let c3584_i32_895 : BitVec 32 := 3584#32
  let c0_i32_896 : BitVec 32 := 0#32
  ![arg0.toNat, v1097.toNat, 3584, 0]
def k0_off16 (i : grid0.Coords) : Fin 4 → Nat :=
  let arg0 : BitVec 32 := BitVec.ofNat 32 (i 0).val
  let c7_i32_902 : BitVec 32 := 7#32
  let arg1 : BitVec 32 := BitVec.ofNat 32 (i 1).val
  let c256_i32_804 : BitVec 32 := 256#32
  let v1098 : BitVec 32 := Scalar.muli arg1 c256_i32_804
  let c0_i32_903 : BitVec 32 := 0#32
  ![arg0.toNat, 7, v1098.toNat, 0]
def k0_mult1 : BitVec 32 :=
  let c0_i32_795 : BitVec 32 := 0#32
  c0_i32_795
def k0_mult2 : BitVec 32 :=
  let c512_i32 : BitVec 32 := 512#32
  c512_i32
@[reducible] def k0_t1_loop : Scf.Loop 32 :=
  let c0_i32_896 : BitVec 32 := 0#32
  let c3_i32 : BitVec 32 := 3#32
  let v1213 : BitVec 32 := Scalar.addi c0_i32_896 c3_i32
  let c1_i32 : BitVec 32 := 1#32
  ⟨c0_i32_896, v1213, c1_i32⟩
def k0_mult3 (k0_t1 : Fin k0_t1_loop.trips) : BitVec 32 :=
  let c2_i32 : BitVec 32 := 2#32
  let c0_i32_896 : BitVec 32 := 0#32
  let c1_i32 : BitVec 32 := 1#32
  let arg13 : BitVec 32 := Scf.iv c0_i32_896 c1_i32 k0_t1
  let v1411 : BitVec 32 := Scalar.muli c2_i32 arg13
  let c1_i32_1066 : BitVec 32 := 1#32
  let v1412 : BitVec 32 := Scalar.addi v1411 c1_i32_1066
  let c1_i32_1067 : BitVec 32 := 1#32
  let v1413 : BitVec 32 := Scalar.addi v1412 c1_i32_1067
  let c512_i32_1068 : BitVec 32 := 512#32
  let v1414 : BitVec 32 := Scalar.muli v1413 c512_i32_1068
  v1414
def k0_off17 (k0_t1 : Fin k0_t1_loop.trips) : Fin 3 → Nat :=
  let c0_1069 : Index := 0#32
  let c2_i32 : BitVec 32 := 2#32
  let c0_i32_896 : BitVec 32 := 0#32
  let c1_i32 : BitVec 32 := 1#32
  let arg13 : BitVec 32 := Scf.iv c0_i32_896 c1_i32 k0_t1
  let v1411 : BitVec 32 := Scalar.muli c2_i32 arg13
  let c1_i32_1066 : BitVec 32 := 1#32
  let v1412 : BitVec 32 := Scalar.addi v1411 c1_i32_1066
  let c1_i32_1067 : BitVec 32 := 1#32
  let v1413 : BitVec 32 := Scalar.addi v1412 c1_i32_1067
  let c512_i32_1068 : BitVec 32 := 512#32
  let v1414 : BitVec 32 := Scalar.muli v1413 c512_i32_1068
  let v1415 : BitVec 32 := v1414
  let v1416 : Index := Scalar.indexCast v1415
  let c0_1070 : Index := 0#32
  ![0, v1416.toNat, 0]
def k0_off18 (k0_t1 : Fin k0_t1_loop.trips) : Fin 3 → Nat :=
  let c1_1077 : Index := 1#32
  let c2_i32 : BitVec 32 := 2#32
  let c0_i32_896 : BitVec 32 := 0#32
  let c1_i32 : BitVec 32 := 1#32
  let arg13 : BitVec 32 := Scf.iv c0_i32_896 c1_i32 k0_t1
  let v1411 : BitVec 32 := Scalar.muli c2_i32 arg13
  let c1_i32_1066 : BitVec 32 := 1#32
  let v1412 : BitVec 32 := Scalar.addi v1411 c1_i32_1066
  let c1_i32_1067 : BitVec 32 := 1#32
  let v1413 : BitVec 32 := Scalar.addi v1412 c1_i32_1067
  let c512_i32_1068 : BitVec 32 := 512#32
  let v1414 : BitVec 32 := Scalar.muli v1413 c512_i32_1068
  let v1415 : BitVec 32 := v1414
  let v1425 : Index := Scalar.indexCast v1415
  let c0_1078 : Index := 0#32
  ![1, v1425.toNat, 0]
def k0_off19 (k0_t1 : Fin k0_t1_loop.trips) : Fin 3 → Nat :=
  let c2_1085 : Index := 2#32
  let c2_i32 : BitVec 32 := 2#32
  let c0_i32_896 : BitVec 32 := 0#32
  let c1_i32 : BitVec 32 := 1#32
  let arg13 : BitVec 32 := Scf.iv c0_i32_896 c1_i32 k0_t1
  let v1411 : BitVec 32 := Scalar.muli c2_i32 arg13
  let c1_i32_1066 : BitVec 32 := 1#32
  let v1412 : BitVec 32 := Scalar.addi v1411 c1_i32_1066
  let c1_i32_1067 : BitVec 32 := 1#32
  let v1413 : BitVec 32 := Scalar.addi v1412 c1_i32_1067
  let c512_i32_1068 : BitVec 32 := 512#32
  let v1414 : BitVec 32 := Scalar.muli v1413 c512_i32_1068
  let v1415 : BitVec 32 := v1414
  let v1434 : Index := Scalar.indexCast v1415
  let c0_1086 : Index := 0#32
  ![2, v1434.toNat, 0]
def k0_off20 (k0_t1 : Fin k0_t1_loop.trips) : Fin 3 → Nat :=
  let c3_1093 : Index := 3#32
  let c2_i32 : BitVec 32 := 2#32
  let c0_i32_896 : BitVec 32 := 0#32
  let c1_i32 : BitVec 32 := 1#32
  let arg13 : BitVec 32 := Scf.iv c0_i32_896 c1_i32 k0_t1
  let v1411 : BitVec 32 := Scalar.muli c2_i32 arg13
  let c1_i32_1066 : BitVec 32 := 1#32
  let v1412 : BitVec 32 := Scalar.addi v1411 c1_i32_1066
  let c1_i32_1067 : BitVec 32 := 1#32
  let v1413 : BitVec 32 := Scalar.addi v1412 c1_i32_1067
  let c512_i32_1068 : BitVec 32 := 512#32
  let v1414 : BitVec 32 := Scalar.muli v1413 c512_i32_1068
  let v1415 : BitVec 32 := v1414
  let v1443 : Index := Scalar.indexCast v1415
  let c0_1094 : Index := 0#32
  ![3, v1443.toNat, 0]
def k0_off21 (k0_t1 : Fin k0_t1_loop.trips) : Fin 3 → Nat :=
  let c2_i32 : BitVec 32 := 2#32
  let c0_i32_896 : BitVec 32 := 0#32
  let c1_i32 : BitVec 32 := 1#32
  let arg13 : BitVec 32 := Scf.iv c0_i32_896 c1_i32 k0_t1
  let v1411 : BitVec 32 := Scalar.muli c2_i32 arg13
  let c1_i32_1066 : BitVec 32 := 1#32
  let v1412 : BitVec 32 := Scalar.addi v1411 c1_i32_1066
  let c1_i32_1133 : BitVec 32 := 1#32
  let v1500 : BitVec 32 := Scalar.subi v1412 c1_i32_1133
  let v1501 : Index := Scalar.indexCast v1500
  let c0_1134 : Index := 0#32
  let c0_1135 : Index := 0#32
  ![v1501.toNat, 0, 0]
def k0_off22 (k0_t1 : Fin k0_t1_loop.trips) : Fin 3 → Nat :=
  let c2_i32 : BitVec 32 := 2#32
  let c0_i32_896 : BitVec 32 := 0#32
  let c1_i32 : BitVec 32 := 1#32
  let arg13 : BitVec 32 := Scf.iv c0_i32_896 c1_i32 k0_t1
  let v1411 : BitVec 32 := Scalar.muli c2_i32 arg13
  let c1_i32_1066 : BitVec 32 := 1#32
  let v1412 : BitVec 32 := Scalar.addi v1411 c1_i32_1066
  let c1_i32_1133 : BitVec 32 := 1#32
  let v1500 : BitVec 32 := Scalar.subi v1412 c1_i32_1133
  let v1516 : Index := Scalar.indexCast v1500
  let c64_1147 : Index := 64#32
  let c0_1148 : Index := 0#32
  ![v1516.toNat, 64, 0]
def k0_off23 (k0_t1 : Fin k0_t1_loop.trips) : Fin 3 → Nat :=
  let c2_i32 : BitVec 32 := 2#32
  let c0_i32_896 : BitVec 32 := 0#32
  let c1_i32 : BitVec 32 := 1#32
  let arg13 : BitVec 32 := Scf.iv c0_i32_896 c1_i32 k0_t1
  let v1411 : BitVec 32 := Scalar.muli c2_i32 arg13
  let c1_i32_1066 : BitVec 32 := 1#32
  let v1412 : BitVec 32 := Scalar.addi v1411 c1_i32_1066
  let c1_i32_1133 : BitVec 32 := 1#32
  let v1500 : BitVec 32 := Scalar.subi v1412 c1_i32_1133
  let v1531 : Index := Scalar.indexCast v1500
  let c128_1160 : Index := 128#32
  let c0_1161 : Index := 0#32
  ![v1531.toNat, 128, 0]
def k0_off24 (k0_t1 : Fin k0_t1_loop.trips) : Fin 3 → Nat :=
  let c2_i32 : BitVec 32 := 2#32
  let c0_i32_896 : BitVec 32 := 0#32
  let c1_i32 : BitVec 32 := 1#32
  let arg13 : BitVec 32 := Scf.iv c0_i32_896 c1_i32 k0_t1
  let v1411 : BitVec 32 := Scalar.muli c2_i32 arg13
  let c1_i32_1066 : BitVec 32 := 1#32
  let v1412 : BitVec 32 := Scalar.addi v1411 c1_i32_1066
  let c1_i32_1133 : BitVec 32 := 1#32
  let v1500 : BitVec 32 := Scalar.subi v1412 c1_i32_1133
  let v1546 : Index := Scalar.indexCast v1500
  let c192_1173 : Index := 192#32
  let c0_1174 : Index := 0#32
  ![v1546.toNat, 192, 0]
def k0_mult4 (k0_t1 : Fin k0_t1_loop.trips) : BitVec 32 :=
  let c2_i32 : BitVec 32 := 2#32
  let c0_i32_896 : BitVec 32 := 0#32
  let c1_i32 : BitVec 32 := 1#32
  let arg13 : BitVec 32 := Scf.iv c0_i32_896 c1_i32 k0_t1
  let v1411 : BitVec 32 := Scalar.muli c2_i32 arg13
  let c1_i32_1066 : BitVec 32 := 1#32
  let v1412 : BitVec 32 := Scalar.addi v1411 c1_i32_1066
  let c1_i32_1186 : BitVec 32 := 1#32
  let v1561 : BitVec 32 := Scalar.addi v1412 c1_i32_1186
  let c1_i32_1187 : BitVec 32 := 1#32
  let v1562 : BitVec 32 := Scalar.addi v1561 c1_i32_1187
  let c512_i32_1188 : BitVec 32 := 512#32
  let v1563 : BitVec 32 := Scalar.muli v1562 c512_i32_1188
  v1563
def k0_off25 (k0_t1 : Fin k0_t1_loop.trips) : Fin 3 → Nat :=
  let c0_1189 : Index := 0#32
  let c2_i32 : BitVec 32 := 2#32
  let c0_i32_896 : BitVec 32 := 0#32
  let c1_i32 : BitVec 32 := 1#32
  let arg13 : BitVec 32 := Scf.iv c0_i32_896 c1_i32 k0_t1
  let v1411 : BitVec 32 := Scalar.muli c2_i32 arg13
  let c1_i32_1066 : BitVec 32 := 1#32
  let v1412 : BitVec 32 := Scalar.addi v1411 c1_i32_1066
  let c1_i32_1186 : BitVec 32 := 1#32
  let v1561 : BitVec 32 := Scalar.addi v1412 c1_i32_1186
  let c1_i32_1187 : BitVec 32 := 1#32
  let v1562 : BitVec 32 := Scalar.addi v1561 c1_i32_1187
  let c512_i32_1188 : BitVec 32 := 512#32
  let v1563 : BitVec 32 := Scalar.muli v1562 c512_i32_1188
  let v1564 : BitVec 32 := v1563
  let v1565 : Index := Scalar.indexCast v1564
  let c0_1190 : Index := 0#32
  ![0, v1565.toNat, 0]
def k0_off26 (k0_t1 : Fin k0_t1_loop.trips) : Fin 3 → Nat :=
  let c1_1197 : Index := 1#32
  let c2_i32 : BitVec 32 := 2#32
  let c0_i32_896 : BitVec 32 := 0#32
  let c1_i32 : BitVec 32 := 1#32
  let arg13 : BitVec 32 := Scf.iv c0_i32_896 c1_i32 k0_t1
  let v1411 : BitVec 32 := Scalar.muli c2_i32 arg13
  let c1_i32_1066 : BitVec 32 := 1#32
  let v1412 : BitVec 32 := Scalar.addi v1411 c1_i32_1066
  let c1_i32_1186 : BitVec 32 := 1#32
  let v1561 : BitVec 32 := Scalar.addi v1412 c1_i32_1186
  let c1_i32_1187 : BitVec 32 := 1#32
  let v1562 : BitVec 32 := Scalar.addi v1561 c1_i32_1187
  let c512_i32_1188 : BitVec 32 := 512#32
  let v1563 : BitVec 32 := Scalar.muli v1562 c512_i32_1188
  let v1564 : BitVec 32 := v1563
  let v1574 : Index := Scalar.indexCast v1564
  let c0_1198 : Index := 0#32
  ![1, v1574.toNat, 0]
def k0_off27 (k0_t1 : Fin k0_t1_loop.trips) : Fin 3 → Nat :=
  let c2_1205 : Index := 2#32
  let c2_i32 : BitVec 32 := 2#32
  let c0_i32_896 : BitVec 32 := 0#32
  let c1_i32 : BitVec 32 := 1#32
  let arg13 : BitVec 32 := Scf.iv c0_i32_896 c1_i32 k0_t1
  let v1411 : BitVec 32 := Scalar.muli c2_i32 arg13
  let c1_i32_1066 : BitVec 32 := 1#32
  let v1412 : BitVec 32 := Scalar.addi v1411 c1_i32_1066
  let c1_i32_1186 : BitVec 32 := 1#32
  let v1561 : BitVec 32 := Scalar.addi v1412 c1_i32_1186
  let c1_i32_1187 : BitVec 32 := 1#32
  let v1562 : BitVec 32 := Scalar.addi v1561 c1_i32_1187
  let c512_i32_1188 : BitVec 32 := 512#32
  let v1563 : BitVec 32 := Scalar.muli v1562 c512_i32_1188
  let v1564 : BitVec 32 := v1563
  let v1583 : Index := Scalar.indexCast v1564
  let c0_1206 : Index := 0#32
  ![2, v1583.toNat, 0]
def k0_off28 (k0_t1 : Fin k0_t1_loop.trips) : Fin 3 → Nat :=
  let c3_1213 : Index := 3#32
  let c2_i32 : BitVec 32 := 2#32
  let c0_i32_896 : BitVec 32 := 0#32
  let c1_i32 : BitVec 32 := 1#32
  let arg13 : BitVec 32 := Scf.iv c0_i32_896 c1_i32 k0_t1
  let v1411 : BitVec 32 := Scalar.muli c2_i32 arg13
  let c1_i32_1066 : BitVec 32 := 1#32
  let v1412 : BitVec 32 := Scalar.addi v1411 c1_i32_1066
  let c1_i32_1186 : BitVec 32 := 1#32
  let v1561 : BitVec 32 := Scalar.addi v1412 c1_i32_1186
  let c1_i32_1187 : BitVec 32 := 1#32
  let v1562 : BitVec 32 := Scalar.addi v1561 c1_i32_1187
  let c512_i32_1188 : BitVec 32 := 512#32
  let v1563 : BitVec 32 := Scalar.muli v1562 c512_i32_1188
  let v1564 : BitVec 32 := v1563
  let v1592 : Index := Scalar.indexCast v1564
  let c0_1214 : Index := 0#32
  ![3, v1592.toNat, 0]
def k0_off29 (k0_t1 : Fin k0_t1_loop.trips) : Fin 3 → Nat :=
  let c2_i32 : BitVec 32 := 2#32
  let c0_i32_896 : BitVec 32 := 0#32
  let c1_i32 : BitVec 32 := 1#32
  let arg13 : BitVec 32 := Scf.iv c0_i32_896 c1_i32 k0_t1
  let v1411 : BitVec 32 := Scalar.muli c2_i32 arg13
  let c1_i32_1066 : BitVec 32 := 1#32
  let v1412 : BitVec 32 := Scalar.addi v1411 c1_i32_1066
  let c1_i32_1186 : BitVec 32 := 1#32
  let v1561 : BitVec 32 := Scalar.addi v1412 c1_i32_1186
  let c1_i32_1253 : BitVec 32 := 1#32
  let v1649 : BitVec 32 := Scalar.subi v1561 c1_i32_1253
  let v1650 : Index := Scalar.indexCast v1649
  let c0_1254 : Index := 0#32
  let c0_1255 : Index := 0#32
  ![v1650.toNat, 0, 0]
def k0_off30 (k0_t1 : Fin k0_t1_loop.trips) : Fin 3 → Nat :=
  let c2_i32 : BitVec 32 := 2#32
  let c0_i32_896 : BitVec 32 := 0#32
  let c1_i32 : BitVec 32 := 1#32
  let arg13 : BitVec 32 := Scf.iv c0_i32_896 c1_i32 k0_t1
  let v1411 : BitVec 32 := Scalar.muli c2_i32 arg13
  let c1_i32_1066 : BitVec 32 := 1#32
  let v1412 : BitVec 32 := Scalar.addi v1411 c1_i32_1066
  let c1_i32_1186 : BitVec 32 := 1#32
  let v1561 : BitVec 32 := Scalar.addi v1412 c1_i32_1186
  let c1_i32_1253 : BitVec 32 := 1#32
  let v1649 : BitVec 32 := Scalar.subi v1561 c1_i32_1253
  let v1665 : Index := Scalar.indexCast v1649
  let c64_1267 : Index := 64#32
  let c0_1268 : Index := 0#32
  ![v1665.toNat, 64, 0]
def k0_off31 (k0_t1 : Fin k0_t1_loop.trips) : Fin 3 → Nat :=
  let c2_i32 : BitVec 32 := 2#32
  let c0_i32_896 : BitVec 32 := 0#32
  let c1_i32 : BitVec 32 := 1#32
  let arg13 : BitVec 32 := Scf.iv c0_i32_896 c1_i32 k0_t1
  let v1411 : BitVec 32 := Scalar.muli c2_i32 arg13
  let c1_i32_1066 : BitVec 32 := 1#32
  let v1412 : BitVec 32 := Scalar.addi v1411 c1_i32_1066
  let c1_i32_1186 : BitVec 32 := 1#32
  let v1561 : BitVec 32 := Scalar.addi v1412 c1_i32_1186
  let c1_i32_1253 : BitVec 32 := 1#32
  let v1649 : BitVec 32 := Scalar.subi v1561 c1_i32_1253
  let v1680 : Index := Scalar.indexCast v1649
  let c128_1280 : Index := 128#32
  let c0_1281 : Index := 0#32
  ![v1680.toNat, 128, 0]
def k0_off32 (k0_t1 : Fin k0_t1_loop.trips) : Fin 3 → Nat :=
  let c2_i32 : BitVec 32 := 2#32
  let c0_i32_896 : BitVec 32 := 0#32
  let c1_i32 : BitVec 32 := 1#32
  let arg13 : BitVec 32 := Scf.iv c0_i32_896 c1_i32 k0_t1
  let v1411 : BitVec 32 := Scalar.muli c2_i32 arg13
  let c1_i32_1066 : BitVec 32 := 1#32
  let v1412 : BitVec 32 := Scalar.addi v1411 c1_i32_1066
  let c1_i32_1186 : BitVec 32 := 1#32
  let v1561 : BitVec 32 := Scalar.addi v1412 c1_i32_1186
  let c1_i32_1253 : BitVec 32 := 1#32
  let v1649 : BitVec 32 := Scalar.subi v1561 c1_i32_1253
  let v1695 : Index := Scalar.indexCast v1649
  let c192_1293 : Index := 192#32
  let c0_1294 : Index := 0#32
  ![v1695.toNat, 192, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]
-- ==== ReferenceIdeal.lean ====
abbrev S8x1024x4096 : Shape := ⟨3, ![8, 1024, 4096]⟩
abbrev S8x8x4096x128 : Shape := ⟨4, ![8, 8, 4096, 128]⟩
abbrev S8x8x512x512 : Shape := ⟨4, ![8, 8, 512, 512]⟩
abbrev S8x8x128x4096 : Shape := ⟨4, ![8, 8, 128, 4096]⟩
abbrev S8x512x8x512 : Shape := ⟨4, ![8, 512, 8, 512]⟩
abbrev S8x8x64x4096 : Shape := ⟨4, ![8, 8, 64, 4096]⟩
abbrev S8x8x4096x4096 : Shape := ⟨4, ![8, 8, 4096, 4096]⟩
abbrev S_ : Shape := ⟨0, ![]⟩
abbrev S8x8x4096 : Shape := ⟨3, ![8, 8, 4096]⟩
abbrev S8x8x4096x1 : Shape := ⟨4, ![8, 8, 4096, 1]⟩
abbrev S8x512x4096 : Shape := ⟨3, ![8, 512, 4096]⟩

abbrev nBuf : Space → Nat
  | .hbm => 25
  | .vmem => 0
  | .smem => 0
  | _ => 0

abbrev bufTy : (tb : Table) → Fin (tcTables nBuf tb) → BufTy
  | .hbm, ⟨0, _⟩ => ⟨S8x1024x4096, .bf16⟩
  | .hbm, ⟨1, _⟩ => ⟨S8x8x4096x128, .bf16⟩
  | .hbm, ⟨2, _⟩ => ⟨S8x8x512x512, .bf16⟩
  | .hbm, ⟨3, _⟩ => ⟨S8x1024x4096, .f32⟩
  | .hbm, ⟨4, _⟩ => ⟨S8x8x128x4096, .f32⟩
  | .hbm, ⟨5, _⟩ => ⟨S8x8x4096x128, .f32⟩
  | .hbm, ⟨6, _⟩ => ⟨S8x8x512x512, .f32⟩
  | .hbm, ⟨7, _⟩ => ⟨S8x512x8x512, .f32⟩
  | .hbm, ⟨8, _⟩ => ⟨S8x8x64x4096, .f32⟩
  | .hbm, ⟨9, _⟩ => ⟨S8x8x4096x4096, .f32⟩
  | .hbm, ⟨10, _⟩ => ⟨S_, .f32⟩
  | .hbm, ⟨11, _⟩ => ⟨S8x8x4096, .f32⟩
  | .hbm, ⟨12, _⟩ => ⟨S8x8x4096x1, .f32⟩
  | .hbm, ⟨13, _⟩ => ⟨S8x8x4096x4096, .f32⟩
  | .hbm, ⟨14, _⟩ => ⟨S8x8x4096x4096, .f32⟩
  | .hbm, ⟨15, _⟩ => ⟨S_, .f32⟩
  | .hbm, ⟨16, _⟩ => ⟨S8x8x4096x4096, .f32⟩
  | .hbm, ⟨17, _⟩ => ⟨S8x8x4096x4096, .f32⟩
  | .hbm, ⟨18, _⟩ => ⟨S_, .f32⟩
  | .hbm, ⟨19, _⟩ => ⟨S8x8x4096, .f32⟩
  | .hbm, ⟨20, _⟩ => ⟨S8x8x4096x1, .f32⟩
  | .hbm, ⟨21, _⟩ => ⟨S8x8x4096x4096, .f32⟩
  | .hbm, ⟨22, _⟩ => ⟨S8x8x4096x4096, .f32⟩
  | .hbm, ⟨23, _⟩ => ⟨S8x8x64x4096, .f32⟩
  | .hbm, ⟨24, _⟩ => ⟨S8x512x4096, .f32⟩
  | _, _ => ⟨S8x1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Post.lean ====
abbrev S8x4096x1024 : Shape := ⟨3, ![8, 4096, 1024]⟩
abbrev S8x512x4096 : Shape := ⟨3, ![8, 512, 4096]⟩
abbrev S8x4096x256 : Shape := ⟨3, ![8, 4096, 256]⟩
abbrev S512x1 : Shape := ⟨2, ![512, 1]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S256x1024 : Shape := ⟨2, ![256, 1024]⟩
abbrev S1x512x1024 : Shape := ⟨3, ![1, 512, 1024]⟩
abbrev S1x512x512 : Shape := ⟨3, ![1, 512, 512]⟩
abbrev S1x512x256 : Shape := ⟨3, ![1, 512, 256]⟩
abbrev S1x512x128 : Shape := ⟨3, ![1, 512, 128]⟩
abbrev S512x128 : Shape := ⟨2, ![512, 128]⟩
abbrev S128 : Shape := ⟨1, ![128]⟩
abbrev S1x128 : Shape := ⟨2, ![1, 128]⟩
abbrev S1024x128 : Shape := ⟨2, ![1024, 128]⟩
abbrev S128x1024 : Shape := ⟨2, ![128, 1024]⟩
abbrev S1x128x1024 : Shape := ⟨3, ![1, 128, 1024]⟩
abbrev S128x1 : Shape := ⟨2, ![128, 1]⟩
abbrev S128x2816 : Shape := ⟨2, ![128, 2816]⟩
abbrev S1x128x256 : Shape := ⟨3, ![1, 128, 256]⟩
abbrev S128x256 : Shape := ⟨2, ![128, 256]⟩

abbrev nBuf : Space → Nat
  | .hbm => 16
  | .vmem => 21
  | .smem => 0
  | _ => 0

abbrev bufTy : (tb : Table) → Fin (tcTables nBuf tb) → BufTy
  | .hbm, ⟨0, _⟩ => ⟨S8x4096x1024, .f32⟩
  | .hbm, ⟨1, _⟩ => ⟨S8x512x4096, .f32⟩
  | .hbm, ⟨2, _⟩ => ⟨S8x512x4096, .f32⟩
  | .hbm, ⟨3, _⟩ => ⟨S8x4096x256, .f32⟩
  | .hbm, ⟨4, _⟩ => ⟨S512x1, .f32⟩
  | .hbm, ⟨5, _⟩ => ⟨S512x1, .f32⟩
  | .hbm, ⟨6, _⟩ => ⟨S1024x1024, .bf16⟩
  | .hbm, ⟨7, _⟩ => ⟨S1x1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S1x1024, .f32⟩
  | .hbm, ⟨12, _⟩ => ⟨S1024x1024, .bf16⟩
  | .hbm, ⟨13, _⟩ => ⟨S256x1024, .bf16⟩
  | .hbm, ⟨14, _⟩ => ⟨S1x1024, .f32⟩
  | .hbm, ⟨15, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x256, .f32⟩
  | .local _ .vmem, ⟨7, _⟩ => ⟨S1x512x256, .f32⟩
  | .local _ .vmem, ⟨8, _⟩ => ⟨S512x1, .f32⟩
  | .local _ .vmem, ⟨9, _⟩ => ⟨S512x1, .f32⟩
  | .local _ .vmem, ⟨10, _⟩ => ⟨S1024x1024, .bf16⟩
  | .local _ .vmem, ⟨11, _⟩ => ⟨S1x1024, .f32⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S1x1024, .f32⟩
  | .local _ .vmem, ⟨16, _⟩ => ⟨S1024x1024, .bf16⟩
  | .local _ .vmem, ⟨17, _⟩ => ⟨S256x1024, .bf16⟩
  | .local _ .vmem, ⟨18, _⟩ => ⟨S1x1024, .f32⟩
  | .local _ .vmem, ⟨19, _⟩ => ⟨S1x512x1024, .f32⟩
  | .local _ .vmem, ⟨20, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== PostIdeal.lean ====
abbrev S8x4096x1024 : Shape := ⟨3, ![8, 4096, 1024]⟩
abbrev S8x512x4096 : Shape := ⟨3, ![8, 512, 4096]⟩
abbrev S8x4096x256 : Shape := ⟨3, ![8, 4096, 256]⟩
abbrev S512x1 : Shape := ⟨2, ![512, 1]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S256x1024 : Shape := ⟨2, ![256, 1024]⟩
abbrev S1x512x1024 : Shape := ⟨3, ![1, 512, 1024]⟩
abbrev S1x512x512 : Shape := ⟨3, ![1, 512, 512]⟩
abbrev S1x512x256 : Shape := ⟨3, ![1, 512, 256]⟩
abbrev S1x512x128 : Shape := ⟨3, ![1, 512, 128]⟩
abbrev S512x128 : Shape := ⟨2, ![512, 128]⟩
abbrev S128 : Shape := ⟨1, ![128]⟩
abbrev S1x128 : Shape := ⟨2, ![1, 128]⟩
abbrev S1024x128 : Shape := ⟨2, ![1024, 128]⟩
abbrev S128x1024 : Shape := ⟨2, ![128, 1024]⟩
abbrev S1x128x1024 : Shape := ⟨3, ![1, 128, 1024]⟩
abbrev S128x1 : Shape := ⟨2, ![128, 1]⟩
abbrev S128x2816 : Shape := ⟨2, ![128, 2816]⟩
abbrev S1x128x256 : Shape := ⟨3, ![1, 128, 256]⟩
abbrev S128x256 : Shape := ⟨2, ![128, 256]⟩

abbrev nBuf : Space → Nat
  | .hbm => 16
  | .vmem => 21
  | .smem => 0
  | _ => 0

abbrev bufTy : (tb : Table) → Fin (tcTables nBuf tb) → BufTy
  | .hbm, ⟨0, _⟩ => ⟨S8x4096x1024, .f32⟩
  | .hbm, ⟨1, _⟩ => ⟨S8x512x4096, .f32⟩
  | .hbm, ⟨2, _⟩ => ⟨S8x512x4096, .f32⟩
  | .hbm, ⟨3, _⟩ => ⟨S8x4096x256, .f32⟩
  | .hbm, ⟨4, _⟩ => ⟨S512x1, .f32⟩
  | .hbm, ⟨5, _⟩ => ⟨S512x1, .f32⟩
  | .hbm, ⟨6, _⟩ => ⟨S1024x1024, .bf16⟩
  | .hbm, ⟨7, _⟩ => ⟨S1x1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S1x1024, .f32⟩
  | .hbm, ⟨12, _⟩ => ⟨S1024x1024, .bf16⟩
  | .hbm, ⟨13, _⟩ => ⟨S256x1024, .bf16⟩
  | .hbm, ⟨14, _⟩ => ⟨S1x1024, .f32⟩
  | .hbm, ⟨15, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x256, .f32⟩
  | .local _ .vmem, ⟨7, _⟩ => ⟨S1x512x256, .f32⟩
  | .local _ .vmem, ⟨8, _⟩ => ⟨S512x1, .f32⟩
  | .local _ .vmem, ⟨9, _⟩ => ⟨S512x1, .f32⟩
  | .local _ .vmem, ⟨10, _⟩ => ⟨S1024x1024, .bf16⟩
  | .local _ .vmem, ⟨11, _⟩ => ⟨S1x1024, .f32⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S1x1024, .f32⟩
  | .local _ .vmem, ⟨16, _⟩ => ⟨S1024x1024, .bf16⟩
  | .local _ .vmem, ⟨17, _⟩ => ⟨S256x1024, .bf16⟩
  | .local _ .vmem, ⟨18, _⟩ => ⟨S1x1024, .f32⟩
  | .local _ .vmem, ⟨19, _⟩ => ⟨S1x512x1024, .f32⟩
  | .local _ .vmem, ⟨20, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== PostReferenceIdeal.lean ====
abbrev S8x4096x1024 : Shape := ⟨3, ![8, 4096, 1024]⟩
abbrev S8x512x4096 : Shape := ⟨3, ![8, 512, 4096]⟩
abbrev S8x4096x256 : Shape := ⟨3, ![8, 4096, 256]⟩
abbrev S512x1 : Shape := ⟨2, ![512, 1]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S256x1024 : Shape := ⟨2, ![256, 1024]⟩
abbrev S8x4096x512 : Shape := ⟨3, ![8, 4096, 512]⟩
abbrev S512 : Shape := ⟨1, ![512]⟩
abbrev S_ : Shape := ⟨0, ![]⟩
abbrev S8x4096 : Shape := ⟨2, ![8, 4096]⟩
abbrev S8x4096x1 : Shape := ⟨3, ![8, 4096, 1]⟩
abbrev S1x1x512 : Shape := ⟨3, ![1, 1, 512]⟩
abbrev S1024 : Shape := ⟨1, ![1024]⟩
abbrev S1x1x1024 : Shape := ⟨3, ![1, 1, 1024]⟩
abbrev S8x4096x2816 : Shape := ⟨3, ![8, 4096, 2816]⟩

abbrev nBuf : Space → Nat
  | .hbm => 137
  | .vmem => 0
  | .smem => 0
  | _ => 0

abbrev hbmTy0_0 (i : Nat) : BufTy := match i % 128 with
  | 0 => ⟨S8x4096x1024, .f32⟩
  | 1 => ⟨S8x512x4096, .f32⟩
  | 2 => ⟨S8x512x4096, .f32⟩
  | 3 => ⟨S8x4096x256, .f32⟩
  | 4 => ⟨S512x1, .f32⟩
  | 5 => ⟨S512x1, .f32⟩
  | 6 => ⟨S1024x1024, .bf16⟩
  | 7 => ⟨S1x1024, .f32⟩
  | 8 => ⟨S1024x2816, .bf16⟩
  | 9 => ⟨S1024x2816, .bf16⟩
  | 10 => ⟨S2816x1024, .bf16⟩
  | 11 => ⟨S1x1024, .f32⟩
  | 12 => ⟨S1024x1024, .bf16⟩
  | 13 => ⟨S256x1024, .bf16⟩
  | 14 => ⟨S1x1024, .f32⟩
  | 15 => ⟨S8x4096x512, .f32⟩
  | 16 => ⟨S8x4096x512, .f32⟩
  | 17 => ⟨S512, .f32⟩
  | 18 => ⟨S8x4096x512, .f32⟩
  | 19 => ⟨S_, .f32⟩
  | 20 => ⟨S8x4096, .f32⟩
  | 21 => ⟨S8x4096x1, .f32⟩
  | 22 => ⟨S_, .f32⟩
  | 23 => ⟨S8x4096x1, .f32⟩
  | 24 => ⟨S8x4096x1, .f32⟩
  | 25 => ⟨S_, .f32⟩
  | 26 => ⟨S8x4096x1, .f32⟩
  | 27 => ⟨S8x4096x1, .f32⟩
  | 28 => ⟨S8x4096x1, .f32⟩
  | 29 => ⟨S8x4096x512, .f32⟩
  | 30 => ⟨S8x4096x512, .f32⟩
  | 31 => ⟨S1x1x512, .f32⟩
  | 32 => ⟨S8x4096x512, .f32⟩
  | 33 => ⟨S8x4096x512, .f32⟩
  | 34 => ⟨S512, .f32⟩
  | 35 => ⟨S8x4096x512, .f32⟩
  | 36 => ⟨S_, .f32⟩
  | 37 => ⟨S8x4096, .f32⟩
  | 38 => ⟨S8x4096x1, .f32⟩
  | 39 => ⟨S_, .f32⟩
  | 40 => ⟨S8x4096x1, .f32⟩
  | 41 => ⟨S8x4096x1, .f32⟩
  | 42 => ⟨S_, .f32⟩
  | 43 => ⟨S8x4096x1, .f32⟩
  | 44 => ⟨S8x4096x1, .f32⟩
  | 45 => ⟨S8x4096x1, .f32⟩
  | 46 => ⟨S8x4096x512, .f32⟩
  | 47 => ⟨S8x4096x512, .f32⟩
  | 48 => ⟨S1x1x512, .f32⟩
  | 49 => ⟨S8x4096x512, .f32⟩
  | 50 => ⟨S8x4096x512, .f32⟩
  | 51 => ⟨S8x4096x1024, .f32⟩
  | 52 => ⟨S1024x1024, .f32⟩
  | 53 => ⟨S8x4096x1024, .f32⟩
  | 54 => ⟨S8x4096x1024, .f32⟩
  | 55 => ⟨S1024, .f32⟩
  | 56 => ⟨S8x4096x1024, .f32⟩
  | 57 => ⟨S_, .f32⟩
  | 58 => ⟨S8x4096, .f32⟩
  | 59 => ⟨S8x4096x1, .f32⟩
  | 60 => ⟨S_, .f32⟩
  | 61 => ⟨S8x4096x1, .f32⟩
  | 62 => ⟨S8x4096x1, .f32⟩
  | 63 => ⟨S_, .f32⟩
  | 64 => ⟨S8x4096x1, .f32⟩
  | 65 => ⟨S8x4096x1, .f32⟩
  | 66 => ⟨S8x4096x1, .f32⟩
  | 67 => ⟨S8x4096x1024, .f32⟩
  | 68 => ⟨S8x4096x1024, .f32⟩
  | 69 => ⟨S1x1x1024, .f32⟩
  | 70 => ⟨S8x4096x1024, .f32⟩
  | 71 => ⟨S8x4096x1024, .f32⟩
  | 72 => ⟨S1024x2816, .f32⟩
  | 73 => ⟨S8x4096x2816, .f32⟩
  | 74 => ⟨S8x4096x2816, .f32⟩
  | 75 => ⟨S8x4096x2816, .f32⟩
  | 76 => ⟨S_, .f32⟩
  | 77 => ⟨S8x4096x2816, .f32⟩
  | 78 => ⟨S8x4096x2816, .f32⟩
  | 79 => ⟨S_, .f32⟩
  | 80 => ⟨S8x4096x2816, .f32⟩
  | 81 => ⟨S8x4096x2816, .f32⟩
  | 82 => ⟨S8x4096x2816, .f32⟩
  | 83 => ⟨S1024x2816, .f32⟩
  | 84 => ⟨S8x4096x2816, .f32⟩
  | 85 => ⟨S8x4096x2816, .f32⟩
  | 86 => ⟨S2816x1024, .f32⟩
  | 87 => ⟨S8x4096x1024, .f32⟩
  | 88 => ⟨S8x4096x1024, .f32⟩
  | 89 => ⟨S1024, .f32⟩
  | 90 => ⟨S8x4096x1024, .f32⟩
  | 91 => ⟨S_, .f32⟩
  | 92 => ⟨S8x4096, .f32⟩
  | 93 => ⟨S8x4096x1, .f32⟩
  | 94 => ⟨S_, .f32⟩
  | 95 => ⟨S8x4096x1, .f32⟩
  | 96 => ⟨S8x4096x1, .f32⟩
  | 97 => ⟨S_, .f32⟩
  | 98 => ⟨S8x4096x1, .f32⟩
  | 99 => ⟨S8x4096x1, .f32⟩
  | 100 => ⟨S8x4096x1, .f32⟩
  | 101 => ⟨S8x4096x1024, .f32⟩
  | 102 => ⟨S8x4096x1024, .f32⟩
  | 103 => ⟨S1x1x1024, .f32⟩
  | 104 => ⟨S8x4096x1024, .f32⟩
  | 105 => ⟨S8x4096x1024, .f32⟩
  | 106 => ⟨S1024x1024, .f32⟩
  | 107 => ⟨S8x4096x1024, .f32⟩
  | 108 => ⟨S8x4096x1024, .f32⟩
  | 109 => ⟨S8x4096x1024, .f32⟩
  | 110 => ⟨S_, .f32⟩
  | 111 => ⟨S8x4096x1024, .f32⟩
  | 112 => ⟨S8x4096x1024, .f32⟩
  | 113 => ⟨S_, .f32⟩
  | 114 => ⟨S8x4096x1024, .f32⟩
  | 115 => ⟨S8x4096x1024, .f32⟩
  | 116 => ⟨S256x1024, .f32⟩
  | 117 => ⟨S8x4096x1024, .f32⟩
  | 118 => ⟨S8x4096x1024, .f32⟩
  | 119 => ⟨S8x4096x1024, .f32⟩
  | 120 => ⟨S1024, .f32⟩
  | 121 => ⟨S8x4096x1024, .f32⟩
  | 122 => ⟨S_, .f32⟩
  | 123 => ⟨S8x4096, .f32⟩
  | 124 => ⟨S8x4096x1, .f32⟩
  | 125 => ⟨S_, .f32⟩
  | 126 => ⟨S8x4096x1, .f32⟩
  | 127 => ⟨S8x4096x1, .f32⟩
  | _ => ⟨S8x4096x1024, .f32⟩

abbrev hbmTy0_1 (i : Nat) : BufTy := match i % 128 with
  | 0 => ⟨S_, .f32⟩
  | 1 => ⟨S8x4096x1, .f32⟩
  | 2 => ⟨S8x4096x1, .f32⟩
  | 3 => ⟨S8x4096x1, .f32⟩
  | 4 => ⟨S8x4096x1024, .f32⟩
  | 5 => ⟨S8x4096x1024, .f32⟩
  | 6 => ⟨S1x1x1024, .f32⟩
  | 7 => ⟨S8x4096x1024, .f32⟩
  | 8 => ⟨S8x4096x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_v21 : Ref sig .tc := ⟨.hbm, 41, rfl⟩
abbrev main_cst_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_call0_v0 : Ref sig .tc := ⟨.hbm, 74, rfl⟩
abbrev main_call0_v1 : Ref sig .tc := ⟨.hbm, 75, rfl⟩
abbrev main_call0_cst : Ref sig .tc := ⟨.hbm, 76, rfl⟩
abbrev main_call0_v2 : Ref sig .tc := ⟨.hbm, 77, rfl⟩
abbrev main_call0_v3 : Ref sig .tc := ⟨.hbm, 78, rfl⟩
abbrev main_call0_cst_0 : Ref sig .tc := ⟨.hbm, 79, rfl⟩
abbrev main_call0_v4 : Ref sig .tc := ⟨.hbm, 80, rfl⟩
abbrev main_call0_v5 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_8 : Ref sig .tc := ⟨.hbm, 91, rfl⟩
abbrev main_v59 : Ref sig .tc := ⟨.hbm, 92, rfl⟩
abbrev main_v60 : Ref sig .tc := ⟨.hbm, 93, rfl⟩
abbrev main_cst_9 : Ref sig .tc := ⟨.hbm, 94, rfl⟩
abbrev main_v61 : Ref sig .tc := ⟨.hbm, 95, rfl⟩
abbrev main_v62 : Ref sig .tc := ⟨.hbm, 96, rfl⟩
abbrev main_cst_10 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_11 : Ref sig .tc := ⟨.hbm, 110, rfl⟩
abbrev main_v75 : Ref sig .tc := ⟨.hbm, 111, rfl⟩
abbrev main_v76 : Ref sig .tc := ⟨.hbm, 112, rfl⟩
abbrev main_cst_12 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_13 : Ref sig .tc := ⟨.hbm, 122, rfl⟩
abbrev main_v85 : Ref sig .tc := ⟨.hbm, 123, rfl⟩
abbrev main_v86 : Ref sig .tc := ⟨.hbm, 124, rfl⟩
abbrev main_cst_14 : Ref sig .tc := ⟨.hbm, 125, rfl⟩
abbrev main_v87 : Ref sig .tc := ⟨.hbm, 126, rfl⟩
abbrev main_v88 : Ref sig .tc := ⟨.hbm, 127, rfl⟩
abbrev main_cst_15 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩

abbrev nD : Nat := 1
abbrev τ : Topo := Topo.v7x

variable {F : FTy → Type} [FloatOps F]
-- ==== Prompt.lean ====
abbrev S2x16384x1024 : Shape := ⟨3, ![2, 16384, 1024]⟩
abbrev S2x512x16384 : Shape := ⟨3, ![2, 512, 16384]⟩
abbrev S2x16384x256 : Shape := ⟨3, ![2, 16384, 256]⟩
abbrev S512x1 : Shape := ⟨2, ![512, 1]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S256x1024 : Shape := ⟨2, ![256, 1024]⟩
abbrev S1x512x1024 : Shape := ⟨3, ![1, 512, 1024]⟩
abbrev S1x512x512 : Shape := ⟨3, ![1, 512, 512]⟩
abbrev S1x512x256 : Shape := ⟨3, ![1, 512, 256]⟩
abbrev S1x512x128 : Shape := ⟨3, ![1, 512, 128]⟩
abbrev S512x128 : Shape := ⟨2, ![512, 128]⟩
abbrev S128 : Shape := ⟨1, ![128]⟩
abbrev S1x128 : Shape := ⟨2, ![1, 128]⟩
abbrev S1024x128 : Shape := ⟨2, ![1024, 128]⟩
abbrev S128x1024 : Shape := ⟨2, ![128, 1024]⟩
abbrev S1x128x1024 : Shape := ⟨3, ![1, 128, 1024]⟩
abbrev S128x1 : Shape := ⟨2, ![128, 1]⟩
abbrev S128x2816 : Shape := ⟨2, ![128, 2816]⟩
abbrev S1x128x256 : Shape := ⟨3, ![1, 128, 256]⟩
abbrev S128x256 : Shape := ⟨2, ![128, 256]⟩

abbrev nBuf : Space → Nat
  | .hbm => 16
  | .vmem => 21
  | .smem => 0
  | _ => 0

abbrev bufTy : (tb : Table) → Fin (tcTables nBuf tb) → BufTy
  | .hbm, ⟨0, _⟩ => ⟨S2x16384x1024, .f32⟩
  | .hbm, ⟨1, _⟩ => ⟨S2x512x16384, .f32⟩
  | .hbm, ⟨2, _⟩ => ⟨S2x512x16384, .f32⟩
  | .hbm, ⟨3, _⟩ => ⟨S2x16384x256, .f32⟩
  | .hbm, ⟨4, _⟩ => ⟨S512x1, .f32⟩
  | .hbm, ⟨5, _⟩ => ⟨S512x1, .f32⟩
  | .hbm, ⟨6, _⟩ => ⟨S1024x1024, .bf16⟩
  | .hbm, ⟨7, _⟩ => ⟨S1x1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S1x1024, .f32⟩
  | .hbm, ⟨12, _⟩ => ⟨S1024x1024, .bf16⟩
  | .hbm, ⟨13, _⟩ => ⟨S256x1024, .bf16⟩
  | .hbm, ⟨14, _⟩ => ⟨S1x1024, .f32⟩
  | .hbm, ⟨15, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x256, .f32⟩
  | .local _ .vmem, ⟨7, _⟩ => ⟨S1x512x256, .f32⟩
  | .local _ .vmem, ⟨8, _⟩ => ⟨S512x1, .f32⟩
  | .local _ .vmem, ⟨9, _⟩ => ⟨S512x1, .f32⟩
  | .local _ .vmem, ⟨10, _⟩ => ⟨S1024x1024, .bf16⟩
  | .local _ .vmem, ⟨11, _⟩ => ⟨S1x1024, .f32⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S1x1024, .f32⟩
  | .local _ .vmem, ⟨16, _⟩ => ⟨S1024x1024, .bf16⟩
  | .local _ .vmem, ⟨17, _⟩ => ⟨S256x1024, .bf16⟩
  | .local _ .vmem, ⟨18, _⟩ => ⟨S1x1024, .f32⟩
  | .local _ .vmem, ⟨19, _⟩ => ⟨S1x512x1024, .f32⟩
  | .local _ .vmem, ⟨20, _⟩ => ⟨S1x512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== PromptReferenceIdeal.lean ====
abbrev S2x16384x1024 : Shape := ⟨3, ![2, 16384, 1024]⟩
abbrev S2x512x16384 : Shape := ⟨3, ![2, 512, 16384]⟩
abbrev S2x16384x256 : Shape := ⟨3, ![2, 16384, 256]⟩
abbrev S512x1 : Shape := ⟨2, ![512, 1]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S256x1024 : Shape := ⟨2, ![256, 1024]⟩
abbrev S2x16384x512 : Shape := ⟨3, ![2, 16384, 512]⟩
abbrev S512 : Shape := ⟨1, ![512]⟩
abbrev S_ : Shape := ⟨0, ![]⟩
abbrev S2x16384 : Shape := ⟨2, ![2, 16384]⟩
abbrev S2x16384x1 : Shape := ⟨3, ![2, 16384, 1]⟩
abbrev S1x1x512 : Shape := ⟨3, ![1, 1, 512]⟩
abbrev S1024 : Shape := ⟨1, ![1024]⟩
abbrev S1x1x1024 : Shape := ⟨3, ![1, 1, 1024]⟩
abbrev S2x16384x2816 : Shape := ⟨3, ![2, 16384, 2816]⟩

abbrev nBuf : Space → Nat
  | .hbm => 137
  | .vmem => 0
  | .smem => 0
  | _ => 0

abbrev hbmTy0_0 (i : Nat) : BufTy := match i % 128 with
  | 0 => ⟨S2x16384x1024, .f32⟩
  | 1 => ⟨S2x512x16384, .f32⟩
  | 2 => ⟨S2x512x16384, .f32⟩
  | 3 => ⟨S2x16384x256, .f32⟩
  | 4 => ⟨S512x1, .f32⟩
  | 5 => ⟨S512x1, .f32⟩
  | 6 => ⟨S1024x1024, .bf16⟩
  | 7 => ⟨S1x1024, .f32⟩
  | 8 => ⟨S1024x2816, .bf16⟩
  | 9 => ⟨S1024x2816, .bf16⟩
  | 10 => ⟨S2816x1024, .bf16⟩
  | 11 => ⟨S1x1024, .f32⟩
  | 12 => ⟨S1024x1024, .bf16⟩
  | 13 => ⟨S256x1024, .bf16⟩
  | 14 => ⟨S1x1024, .f32⟩
  | 15 => ⟨S2x16384x512, .f32⟩
  | 16 => ⟨S2x16384x512, .f32⟩
  | 17 => ⟨S512, .f32⟩
  | 18 => ⟨S2x16384x512, .f32⟩
  | 19 => ⟨S_, .f32⟩
  | 20 => ⟨S2x16384, .f32⟩
  | 21 => ⟨S2x16384x1, .f32⟩
  | 22 => ⟨S_, .f32⟩
  | 23 => ⟨S2x16384x1, .f32⟩
  | 24 => ⟨S2x16384x1, .f32⟩
  | 25 => ⟨S_, .f32⟩
  | 26 => ⟨S2x16384x1, .f32⟩
  | 27 => ⟨S2x16384x1, .f32⟩
  | 28 => ⟨S2x16384x1, .f32⟩
  | 29 => ⟨S2x16384x512, .f32⟩
  | 30 => ⟨S2x16384x512, .f32⟩
  | 31 => ⟨S1x1x512, .f32⟩
  | 32 => ⟨S2x16384x512, .f32⟩
  | 33 => ⟨S2x16384x512, .f32⟩
  | 34 => ⟨S512, .f32⟩
  | 35 => ⟨S2x16384x512, .f32⟩
  | 36 => ⟨S_, .f32⟩
  | 37 => ⟨S2x16384, .f32⟩
  | 38 => ⟨S2x16384x1, .f32⟩
  | 39 => ⟨S_, .f32⟩
  | 40 => ⟨S2x16384x1, .f32⟩
  | 41 => ⟨S2x16384x1, .f32⟩
  | 42 => ⟨S_, .f32⟩
  | 43 => ⟨S2x16384x1, .f32⟩
  | 44 => ⟨S2x16384x1, .f32⟩
  | 45 => ⟨S2x16384x1, .f32⟩
  | 46 => ⟨S2x16384x512, .f32⟩
  | 47 => ⟨S2x16384x512, .f32⟩
  | 48 => ⟨S1x1x512, .f32⟩
  | 49 => ⟨S2x16384x512, .f32⟩
  | 50 => ⟨S2x16384x512, .f32⟩
  | 51 => ⟨S2x16384x1024, .f32⟩
  | 52 => ⟨S1024x1024, .f32⟩
  | 53 => ⟨S2x16384x1024, .f32⟩
  | 54 => ⟨S2x16384x1024, .f32⟩
  | 55 => ⟨S1024, .f32⟩
  | 56 => ⟨S2x16384x1024, .f32⟩
  | 57 => ⟨S_, .f32⟩
  | 58 => ⟨S2x16384, .f32⟩
  | 59 => ⟨S2x16384x1, .f32⟩
  | 60 => ⟨S_, .f32⟩
  | 61 => ⟨S2x16384x1, .f32⟩
  | 62 => ⟨S2x16384x1, .f32⟩
  | 63 => ⟨S_, .f32⟩
  | 64 => ⟨S2x16384x1, .f32⟩
  | 65 => ⟨S2x16384x1, .f32⟩
  | 66 => ⟨S2x16384x1, .f32⟩
  | 67 => ⟨S2x16384x1024, .f32⟩
  | 68 => ⟨S2x16384x1024, .f32⟩
  | 69 => ⟨S1x1x1024, .f32⟩
  | 70 => ⟨S2x16384x1024, .f32⟩
  | 71 => ⟨S2x16384x1024, .f32⟩
  | 72 => ⟨S1024x2816, .f32⟩
  | 73 => ⟨S2x16384x2816, .f32⟩
  | 74 => ⟨S2x16384x2816, .f32⟩
  | 75 => ⟨S2x16384x2816, .f32⟩
  | 76 => ⟨S_, .f32⟩
  | 77 => ⟨S2x16384x2816, .f32⟩
  | 78 => ⟨S2x16384x2816, .f32⟩
  | 79 => ⟨S_, .f32⟩
  | 80 => ⟨S2x16384x2816, .f32⟩
  | 81 => ⟨S2x16384x2816, .f32⟩
  | 82 => ⟨S2x16384x2816, .f32⟩
  | 83 => ⟨S1024x2816, .f32⟩
  | 84 => ⟨S2x16384x2816, .f32⟩
  | 85 => ⟨S2x16384x2816, .f32⟩
  | 86 => ⟨S2816x1024, .f32⟩
  | 87 => ⟨S2x16384x1024, .f32⟩
  | 88 => ⟨S2x16384x1024, .f32⟩
  | 89 => ⟨S1024, .f32⟩
  | 90 => ⟨S2x16384x1024, .f32⟩
  | 91 => ⟨S_, .f32⟩
  | 92 => ⟨S2x16384, .f32⟩
  | 93 => ⟨S2x16384x1, .f32⟩
  | 94 => ⟨S_, .f32⟩
  | 95 => ⟨S2x16384x1, .f32⟩
  | 96 => ⟨S2x16384x1, .f32⟩
  | 97 => ⟨S_, .f32⟩
  | 98 => ⟨S2x16384x1, .f32⟩
  | 99 => ⟨S2x16384x1, .f32⟩
  | 100 => ⟨S2x16384x1, .f32⟩
  | 101 => ⟨S2x16384x1024, .f32⟩
  | 102 => ⟨S2x16384x1024, .f32⟩
  | 103 => ⟨S1x1x1024, .f32⟩
  | 104 => ⟨S2x16384x1024, .f32⟩
  | 105 => ⟨S2x16384x1024, .f32⟩
  | 106 => ⟨S1024x1024, .f32⟩
  | 107 => ⟨S2x16384x1024, .f32⟩
  | 108 => ⟨S2x16384x1024, .f32⟩
  | 109 => ⟨S2x16384x1024, .f32⟩
  | 110 => ⟨S_, .f32⟩
  | 111 => ⟨S2x16384x1024, .f32⟩
  | 112 => ⟨S2x16384x1024, .f32⟩
  | 113 => ⟨S_, .f32⟩
  | 114 => ⟨S2x16384x1024, .f32⟩
  | 115 => ⟨S2x16384x1024, .f32⟩
  | 116 => ⟨S256x1024, .f32⟩
  | 117 => ⟨S2x16384x1024, .f32⟩
  | 118 => ⟨S2x16384x1024, .f32⟩
  | 119 => ⟨S2x16384x1024, .f32⟩
  | 120 => ⟨S1024, .f32⟩
  | 121 => ⟨S2x16384x1024, .f32⟩
  | 122 => ⟨S_, .f32⟩
  | 123 => ⟨S2x16384, .f32⟩
  | 124 => ⟨S2x16384x1, .f32⟩
  | 125 => ⟨S_, .f32⟩
  | 126 => ⟨S2x16384x1, .f32⟩
  | 127 => ⟨S2x16384x1, .f32⟩
  | _ => ⟨S2x16384x1024, .f32⟩

abbrev hbmTy0_1 (i : Nat) : BufTy := match i % 128 with
  | 0 => ⟨S_, .f32⟩
  | 1 => ⟨S2x16384x1, .f32⟩
  | 2 => ⟨S2x16384x1, .f32⟩
  | 3 => ⟨S2x16384x1, .f32⟩
  | 4 => ⟨S2x16384x1024, .f32⟩
  | 5 => ⟨S2x16384x1024, .f32⟩
  | 6 => ⟨S1x1x1024, .f32⟩
  | 7 => ⟨S2x16384x1024, .f32⟩
  | 8 => ⟨S2x16384x1024, .f32⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_v21 : Ref sig .tc := ⟨.hbm, 41, rfl⟩
abbrev main_cst_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_call0_v0 : Ref sig .tc := ⟨.hbm, 74, rfl⟩
abbrev main_call0_v1 : Ref sig .tc := ⟨.hbm, 75, rfl⟩
abbrev main_call0_cst : Ref sig .tc := ⟨.hbm, 76, rfl⟩
abbrev main_call0_v2 : Ref sig .tc := ⟨.hbm, 77, rfl⟩
abbrev main_call0_v3 : Ref sig .tc := ⟨.hbm, 78, rfl⟩
abbrev main_call0_cst_0 : Ref sig .tc := ⟨.hbm, 79, rfl⟩
abbrev main_call0_v4 : Ref sig .tc := ⟨.hbm, 80, rfl⟩
abbrev main_call0_v5 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_8 : Ref sig .tc := ⟨.hbm, 91, rfl⟩
abbrev main_v59 : Ref sig .tc := ⟨.hbm, 92, rfl⟩
abbrev main_v60 : Ref sig .tc := ⟨.hbm, 93, rfl⟩
abbrev main_cst_9 : Ref sig .tc := ⟨.hbm, 94, rfl⟩
abbrev main_v61 : Ref sig .tc := ⟨.hbm, 95, rfl⟩
abbrev main_v62 : Ref sig .tc := ⟨.hbm, 96, rfl⟩
abbrev main_cst_10 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_11 : Ref sig .tc := ⟨.hbm, 110, rfl⟩
abbrev main_v75 : Ref sig .tc := ⟨.hbm, 111, rfl⟩
abbrev main_v76 : Ref sig .tc := ⟨.hbm, 112, rfl⟩
abbrev main_cst_12 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_13 : Ref sig .tc := ⟨.hbm, 122, rfl⟩
abbrev main_v85 : Ref sig .tc := ⟨.hbm, 123, rfl⟩
abbrev main_v86 : Ref sig .tc := ⟨.hbm, 124, rfl⟩
abbrev main_cst_14 : Ref sig .tc := ⟨.hbm, 125, rfl⟩
abbrev main_v87 : Ref sig .tc := ⟨.hbm, 126, rfl⟩
abbrev main_v88 : Ref sig .tc := ⟨.hbm, 127, rfl⟩
abbrev main_cst_15 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩

abbrev nD : Nat := 1
abbrev τ : Topo := Topo.v7x

variable {F : FTy → Type} [FloatOps F]
-- ==== Proof.Setup.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import proofs.«01_k».proof.Proof.Gen.Kernel.Frame
public import Idealize.ShloMosaic.Lib.Pipeline.FrameBody
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline library's beside the transfers' counters. -/
local notation "𝕄" => MT nD τ sig Unit (Elt F) ℕ (Pipeline.UD sig nD τ) ℕ

/-- A memref's buffer whole, at some contents. -/
abbrev some0 (c : Dev nD) {sp : Space} {S : Shape} {e : EltTy} (M : Memref sig .tc sp S e) : sProp 𝕄 :=
  iprop(∃ f : Buf (Elt F) (M.view.loc (c : Thread nD τ)), M.view.loc (c : Thread nD τ) ↦[M.view.set]{fullShare} f)

/-- The keys and the values left in HBM, and the five scratch buffers: the keys' copy, the values' copy, the scores, the weights, the sums. -/
abbrev kHbm : Memref sig .tc .hbm S8x8x4096x128 .bf16 := Memref.whole main_arg1
abbrev vHbm : Memref sig .tc .hbm S8x8x512x512 .bf16 := Memref.whole main_arg2
abbrev kScr : Memref sig .tc .vmem S4x4096x128 .bf16 := Memref.whole cc0_scratch0
abbrev vScr : Memref sig .tc .vmem S8x256x512 .bf16 := Memref.whole cc0_scratch1
abbrev sScr : Memref sig .tc .vmem S2x4x512x256 .f32 := Memref.whole cc0_scratch3
abbrev pScr : Memref sig .tc .vmem S2x4x512x256 .bf16 := Memref.whole cc0_scratch4
abbrev aScr : Memref sig .tc .vmem S4x80x256 .f32 := Memref.whole cc0_scratch5

/-- The sixteen transfer cells, all at zero. -/
abbrev cells0 (c : Dev nD) : sProp 𝕄 := iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0)

/-- An array left in HBM, whole at `f`. -/
abbrev hbPt (c : Dev nD) {sp : Space} {S : Shape} {e : EltTy} (M : Memref sig .tc sp S e) (f : Buf (Elt F) (M.view.loc (c : Thread nD τ))) : sProp 𝕄 := M.view.loc (c : Thread nD τ) ↦{fullShare} f

/-! ## The launch -/

variable (m : (ℓ : Loc nD τ sig) → Buf (Elt F) ℓ) (ρ : Dev nD → PrngReg)

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The sixteen cells the kernel waits on itself. -/
abbrev osem0 : Fin 16 → SemLoc sig := fun j => SemLoc.dma ⟨4 + j.val, by have := j.isLt; show 4 + j.val < 20; omega⟩
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄) = cells0 c := by
  rw [Pipeline.ownSems0_eq_of_list c osem0 [0, 1, 2, 3, 4, 5, 6, 7, 8, 9, 10, 11, 12, 13, 14, 15] (by decide) (by decide)]; rfl

/-- The two arrays the kernel's transfers read. -/
def H0 : Finset (Ref sig .tc) := {main_arg1, main_arg2}
theorem H0_sub : H0 ⊆ Pipeline.restRefs sig spec0 := by decide
theorem hbmPts0_eq (c : Dev nD) :
    (bigSep H0 (fun b => ((c : Thread nD τ).loc b) ↦{fullShare} V m c b) : sProp 𝕄)
      = iprop(hbPt c kHbm (V m c main_arg1) ∗ hbPt c vHbm (V m c main_arg2)) := by
  rw [BI.bigSep_eq_bigSepL_of_eq [main_arg1, main_arg2] (by decide) (by decide)]; rfl

/-- What the launch hands the pipeline's invariant: the scratch buffers at some contents, the generator, the cells at zero, the two HBM arrays. -/
theorem PhiD0_eq (c : Dev nD) :
    (Pipeline.ΦD osem0 spec0 H0 (V m) c : sProp 𝕄)
      = iprop(iprop(some0 c kScr ∗ some0 c vScr ∗ some0 c sScr ∗ some0 c pScr ∗ some0 c aScr)
          ∗ (∃ r, prngReg c r) ∗ cells0 c ∗ hbPt c kHbm (V m c main_arg1) ∗ hbPt c vHbm (V m c main_arg2)) := by
  rw [Pipeline.ΦD_eq, scopedRest0_eq, ownSems00_eq, hbmPts0_eq]
  simp only [some0, kScr, vScr, sScr, pScr, aScr, Memref.view_whole, View.set_whole]; try rfl

/-- At every point the queries' buffer holds its block, for any proof data whose array is the launch's and whose body leaves the block in place. -/
theorem before0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body table's one row is the body at the point's buffers. -/
theorem defs₀_row (t : Fin cfg0.N) :
    defs₀ (F := F) .tc cfg0.body (cfg0.bodyArgs t (cfg0.slots t)) = bodyAt0 t := by
  unfold defs₀; rw [Defs.onTc_tc]

end Cert.Kernel.Hand

end
-- ==== Proof.Frame.lean ====
module

public import proofs.«01_k».proof.Proof.Setup
public import Idealize.ShloMosaic.Lib.Pipeline.FrameBody
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline library's beside the transfers' counters. -/
local notation "𝕄" => MT nD τ sig Unit (Elt F) ℕ (Pipeline.UD sig nD τ) ℕ

set_option warn.classDefReducibility false in
set_option maxHeartbeats 4000000 in
/-- The second loop's invariant for the frame: the keys and the values as found, the three scratch buffers at some contents. -/
@[sl_loop] def loopSome (c : Dev nD) (bd : Option Variants.none.V) (E : Set ℕ) (i : grid0.Coords) (arg3 : Memref sig .tc .vmem S1x512x256 .bf16) (harg3 : arg3.IsWhole) (arg4 : Memref sig .tc .hbm S8x8x4096x128 .bf16) (harg4 : arg4.IsWhole) (arg5 : Memref sig .tc .hbm S8x8x512x512 .bf16) (harg5 : arg5.IsWhole) (arg6 : Memref sig .tc .vmem S1x256x256 .f32) (harg6 : arg6.IsWhole) (arg7 : Memref sig .tc .vmem S4x4096x128 .bf16) (harg7 : arg7.IsWhole) (arg8 : Memref sig .tc .vmem S8x256x512 .bf16) (harg8 : arg8.IsWhole) (arg9 : DmaSems sig S2x8) (arg10 : Memref sig .tc .vmem S2x4x512x256 .f32) (harg10 : arg10.IsWhole) (arg11 : Memref sig .tc .vmem S2x4x512x256 .bf16) (harg11 : arg11.IsWhole) (arg12 : Memref sig .tc .vmem S4x80x256 .f32) (harg12 : arg12.IsWhole) (v4 : FVec F S128x256 .bf16) (v6 : FVec F S128x256 .bf16) (v8 : FVec F S128x256 .bf16) (v10 : FVec F S128x256 .bf16) (v11 : FVec F S16x512 .bf16) (v1127 : FVec F S1x256 .f32) (v1137 : FVec F S1x256 .f32) (v1146 : FVec F S1x256 .f32) (v1155 : FVec F S1x256 .f32) (v1164 : FVec F S1x256 .f32) (v1165 : FVec F S1x256 .f32) (v1176 : FVec F S1x256 .f32) (v1177 : FVec F S1x256 .f32) (v1188 : FVec F S1x256 .f32) (v1189 : FVec F S1x256 .f32) (v1200 : FVec F S1x256 .f32) (v1201 : FVec F S1x256 .f32) (v1207 : FVec F S512x256 .bf16)  (X_arg7 : BufTy.Contents (Elt F) arg7.view.ty) (X_arg8 : BufTy.Contents (Elt F) arg8.view.ty) (init : FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) :
    LoopInvTy_k0_t1 (F := F) Unit ℕ (Pipeline.UD sig nD τ) ℕ Variants.none c bd E i arg3 harg3 arg4 harg4 arg5 harg5 arg6 harg6 arg7 harg7 arg8 harg8 arg9 arg10 harg10 arg11 harg11 arg12 harg12 v4 v6 v8 v10 v11 v1127 v1137 v1146 v1155 v1164 v1165 v1176 v1177 v1188 v1189 v1200 v1201 v1207 init where
  inv _ _ := iprop((arg7.view.loc (c : Thread nD τ) ↦[arg7.view.set]{fullShare} X_arg7) ∗ (arg8.view.loc (c : Thread nD τ) ↦[arg8.view.set]{fullShare} X_arg8)
    ∗ some0 c arg10 ∗ some0 c arg11 ∗ some0 c arg12)
  step k acc := by
    have hk : k.val < 3 := Nat.lt_of_lt_of_le k.isLt k0_t1_abs.2.1
    unfold k0_t1_body
    iintro ⟨H7, H8, ⟨%f10, H10⟩, ⟨%f11, H11⟩, ⟨%f12, H12⟩⟩
    sl_exec
    sl_step
    isplitl [H7]; · iexact H7
    isplitl [H8]; · iexact H8
    isplitl [H10]; · iexists _; iexact H10
    isplitl [H11]; · iexists _; iexact H11
    iexists _; iexact H12

section Body
variable (c : Dev nD) (i : grid0.Coords) (arg3 : Memref sig .tc .vmem S1x512x256 .bf16) (harg3 : arg3.IsWhole) (arg6 : Memref sig .tc .vmem S1x256x256 .f32) (harg6 : arg6.IsWhole)
  (f3 : Buf (Elt F) (arg3.view.loc (c : Thread nD τ))) (h1 : Buf (Elt F) (kHbm.view.loc (c : Thread nD τ))) (h2 : Buf (Elt F) (vHbm.view.loc (c : Thread nD τ)))

set_option maxHeartbeats 4000000 in
set_option sl_exec.dmaWindow true in
set_option sl_exec.dmaWindowSet true in
set_option sl_exec.dmaWindowLent true in
/-- The guarded transfers, then the queries' loads and the first scores: whatever the branch, the keys and the values end at some contents. -/
theorem part27_some (W : Waits sig Unit) :
    iprop((arg3.view.loc (c : Thread nD τ) ↦[arg3.view.set]{fullShare} f3)
      ∗ some0 c kScr ∗ some0 c vScr ∗ some0 c aScr
      ∗ cells0 c ∗ hbPt c kHbm h1 ∗ hbPt c vHbm h2 ∗ owes (c : Thread nD τ) 0 W)
      ⊢ wp frame (wpE (defs₀ (F := F)) Variants.none c none) Set.univ (k0_part27 i arg3 harg3 kHbm (Memref.isWhole_whole _) vHbm (Memref.isWhole_whole _) arg6 harg6 kScr (Memref.isWhole_whole _) vScr (Memref.isWhole_whole _) cc0_scratch2 sScr (Memref.isWhole_whole _) pScr (Memref.isWhole_whole _) aScr (Memref.isWhole_whole _))
        (fun _ => iprop((arg3.view.loc (c : Thread nD τ) ↦[arg3.view.set]{fullShare} f3)
          ∗ some0 c kScr ∗ some0 c vScr ∗ some0 c aScr
          ∗ cells0 c ∗ hbPt c kHbm h1 ∗ hbPt c vHbm h2 ∗ (∃ W', owes (c : Thread nD τ) 0 W'))) := by
  simp only [k0_part27_eq_skeleton]; unfold k0_part27_skel
  iintro ⟨H3, ⟨%f7, H7⟩, ⟨%f8, H8⟩, ⟨%f12, H12⟩, ⟨Hq0, Hq1, Hq2, Hq3, Hq4, Hq5, Hq6, Hq7, Hq8, Hq9, Hq10, Hq11, Hq12, Hq13, Hq14, Hq15⟩, Hh1, Hh2, HW⟩
  by_cases hc : k0_cond1 i = 1#1 <;>
  · sl_exec
    sl_step
    sl_close

set_option maxHeartbeats 8000000 in
/-- One grid point: the queries and the two HBM arrays as found, everything else at some contents. -/
theorem body_some (W : Waits sig Unit) (K : PUnit → sProp 𝕄) :
    iprop((arg3.view.loc (c : Thread nD τ) ↦[arg3.view.set]{fullShare} f3)
      ∗ some0 c arg6 ∗ some0 c kScr ∗ some0 c vScr ∗ some0 c sScr ∗ some0 c pScr ∗ some0 c aScr
      ∗ cells0 c ∗ hbPt c kHbm h1 ∗ hbPt c vHbm h2 ∗ owes (c : Thread nD τ) 0 W
      ∗ (iprop((arg3.view.loc (c : Thread nD τ) ↦[arg3.view.set]{fullShare} f3)
          ∗ some0 c arg6 ∗ some0 c kScr ∗ some0 c vScr ∗ some0 c sScr ∗ some0 c pScr ∗ some0 c aScr
          ∗ cells0 c ∗ hbPt c kHbm h1 ∗ hbPt c vHbm h2 ∗ (∃ W', owes (c : Thread nD τ) 0 W')) -∗ K ⟨⟩))
      ⊢ wp frame (wpE (defs₀ (F := F)) Variants.none c none) Set.univ (cc0_mla i arg3 harg3 kHbm (Memref.isWhole_whole _) vHbm (Memref.isWhole_whole _) arg6 harg6 kScr (Memref.isWhole_whole _) vScr (Memref.isWhole_whole _) cc0_scratch2 sScr (Memref.isWhole_whole _) pScr (Memref.isWhole_whole _) aScr (Memref.isWhole_whole _)) K := by
  simp only [cc0_mla_eq_skeleton]; unfold cc0_mla_skel
  have hcut := part27_some (F := F) c i arg3 harg3 arg6 harg6 f3 h1 h2
  iintro ⟨H3, ⟨%f6, H6⟩, ⟨%f7, H7⟩, ⟨%f8, H8⟩, ⟨%f10, H10⟩, ⟨%f11, H11⟩, ⟨%f12, H12⟩, ⟨Hq0, Hq1, Hq2, Hq3, Hq4, Hq5, Hq6, Hq7, Hq8, Hq9, Hq10, Hq11, Hq12, Hq13, Hq14, Hq15⟩, Hh1, Hh2, HW, Hk⟩
  sl_exec
  by_cases hw : body_some.sl.v1082 c v4 v6 v8 v10 v20 v25 fk0_part27_0 = 1#1 <;>
  · sl_exec
    sl_step
    iapply Hk
    sl_close
end Body

/-! ## The pipeline's frame run, the result's window forgotten -/

variable (m : (ℓ : Loc nD τ sig) → Buf (Elt F) ℓ) (ρ : Dev nD → PrngReg)

/-- The proof data for the frame: the arrays as the region finds them, the queries' buffer left in place, the invariant the launch's own. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]

/-- The windows whose contents the frame forgets: the result's. -/
abbrev fgt : Fin cfg0.W → Bool := ![false, true]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ X, owns (c : Thread nD τ) (st0_1 t) fullShare X))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ X, owns (c : Thread nD τ) (st0_1 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  simp only [before0 m (dats m 0 c) (A_eq m c 0) (after0_0 m c) t]
  unfold owns
  iintro ⟨⟨⟨H7, H8, H10, H11, H12⟩, Hg, Hq, Hh1, Hh2⟩, ⟨%W, -, HW⟩, ⟨%d0, %f0, %hf0, H0⟩, ⟨%X, %f6, -, H6⟩⟩
  iapply (body_some c (grid0.coords t) (st0_0 t) _ (st0_1 t) _ f0 (V m c main_arg1) (V m c main_arg2) W _)
  isplitl [H0]; · iexact H0
  isplitl [H6]; · iexists _; iexact H6
  isplitl [H7]; · iexact H7
  isplitl [H8]; · iexact H8
  isplitl [H10]; · iexact H10
  isplitl [H11]; · iexact H11
  isplitl [H12]; · iexact H12
  isplitl [Hq]; · iexact Hq
  isplitl [Hh1]; · iexact Hh1
  isplitl [Hh2]; · iexact Hh2
  isplitl [HW]; · iexact HW
  iintro ⟨H0, ⟨%f6', H6⟩, H7, H8, H10, H11, H12, Hq, Hh1, Hh2, ⟨%W', HW'⟩⟩
  isplitl [H7 H8 H10 H11 H12 Hg Hq Hh1 Hh2]
  · isplitl [H7 H8 H10 H11 H12]
    · isplitl [H7]; · iexact H7
      isplitl [H8]; · iexact H8
      isplitl [H10]; · iexact H10
      isplitl [H11]; · iexact H11
      iexact H12
    isplitl [Hg]; · iexact Hg
    isplitl [Hq]; · iexact Hq
    isplitl [Hh1]; · iexact Hh1
    iexact Hh2
  isplitl [HW']
  · iexists W'; isplitr; · ipureintro; exact fun _ _ => Or.inl trivial
    iexact HW'
  isplitl [H0]
  · iexists f0; isplitr; · ipureintro; exact hf0
    iexact H0
  iexists _, f6'; isplitr; · ipureintro; rfl
  iexact H6

theorem body_obligation (c : Dev nD) : Pipeline.BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_dma_forget (Q' := _) cfgs (dats m) (0 : Fin 1) launch0 osem0 defs₀ Variants.none fgt ownSemFacts0 H0 H0_sub m ρ main
    (hbody := body_obligation m) (hshare := fun c => (dats m 0 c).share_full fun _ => rfl)
    (howed := fun _ _ => rfl) (V := V m) (hmain := hmain m Variants.none) (hA := A_eq m)
    (hin := fun _ => .rfl) (hout := fun _ => .rfl)

/-- The frame: the kernel runs, its three arguments end as they were, and every semaphore reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨h.1.arr_in c 0 rfl,
      (h.1 c).2 main_arg1 (Pipeline.mem_restRefs_of main_arg1 (by decide) (by decide)),
      (h.1 c).2 main_arg2 (Pipeline.mem_restRefs_of main_arg2 (by decide) (by decide))⟩, h.2⟩) (run_main m ρ)

end Cert.Kernel.Hand

end
-- ==== Proof.Transfer.lean ====
module

public import proofs.«01_k».proof.Proof.Frame
public import proofs.«01_k».proof.Proof.Gen.KernelIdeal.Launch

@[expose] public section

set_option maxRecDepth 16384
set_option backward.isDefEq.respectTransparency false

noncomputable section

namespace Cert.Transfer

open Idealize.ShloMosaic Idealize.ShloMosaic.TcCoe Idealize.SL.Sem

variable (F : FTy → Type) [FloatOps F]

/-- The two printed programs have the same body table: no operation was rewritten. -/
theorem defs₀_eq : @Cert.Kernel.defs₀ F _ _ = @Cert.KernelIdeal.defs₀ F _ _ := by
  refine congrArg Defs.onTc (funext fun l => funext fun x => ?_)
  match l, x with
  | 0, (t, s) => rfl
  | ⟨n + 1, h⟩, _ => exact absurd h (Nat.not_lt.2 (Nat.le_add_left _ _))

/-- And so the same procedures. -/
theorem defs_eq : @Cert.Kernel.defs F _ _ = @Cert.KernelIdeal.defs F _ _ :=
  congrArg (Pipeline.defs Cert.KernelIdeal.pcfgs) (defs₀_eq F)

/-- What holds of every run of the printed program holds of every run of its idealization. -/
theorem run_ideal (m : (ℓ : Loc Cert.Kernel.nD Cert.Kernel.τ Cert.Kernel.sig) → Buf (Elt F) ℓ) (g : Dev Cert.Kernel.nD → PrngReg) (Q)
    (h : θ_run (Cert.Kernel.defs (F := F)) (onTc (τ := Cert.Kernel.τ) (Cert.Kernel.main (F := F))) ⟨m, fun _ => 0, g⟩ Q) :
    θ_run (Cert.KernelIdeal.defs (F := F)) (onTc (τ := Cert.KernelIdeal.τ) (Cert.KernelIdeal.main (F := F))) ⟨m, fun _ => 0, g⟩ Q := by
  rw [← defs_eq F]; exact h

end Cert.Transfer

end
-- ==== Proof.RefRun.lean ====
module

public import proofs.«01_k».proof.Defs
public import proofs.«01_k».proof.Proof.Gen.ReferenceIdeal
public import Idealize.ShloMosaic.Lib.Claim
public import Idealize.ShloMosaic.Lib.Quiescent

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen

variable {F : FTy → Type} [FloatOps F]

/-- The scores: every query against every key. -/
def scores (q : FVec F S8x1024x4096 .bf16) (k : FVec F S8x8x4096x128 .bf16) : FVec F S8x8x4096x4096 .f32 :=
  Host.dotGeneral dot_S8x8x128x4096_S8x8x4096x128_S8x8x4096x4096_2_3_3_2_01_01 none
    (shapeCast S8x8x128x4096 (extf .f32 q bitsLt_bf16_f32) shapeCasts_S8x1024x4096_S8x8x128x4096)
    (extf .f32 k bitsLt_bf16_f32)

/-- Two to the power of a score less its row's largest. -/
def weights (s : FVec F S8x8x4096x4096 .f32) : FVec F S8x8x4096x4096 .f32 :=
  Host.powf (broadcastInDim S8x8x4096x4096 ![] bcast_S_S8x8x4096x4096 (constant S_ .f32 0x40000000#32))
    (subf s (broadcastInDim S8x8x4096x4096 ![0, 1, 2, 3] bcast_S8x8x4096x1_S8x8x4096x4096_0_1_2_3
      (broadcastInDim S8x8x4096x1 ![0, 1, 2] bcast_S8x8x4096_S8x8x4096x1_0_1_2
        (Host.reduce FloatOps.maximumf s (constant S_ .f32 0xFF800000#32) reducesTo_S8x8x4096x4096_S8x8x4096_d3 h_S_))))

/-- The weights over their row's sum. -/
def normed (p : FVec F S8x8x4096x4096 .f32) : FVec F S8x8x4096x4096 .f32 :=
  Host.divf p (broadcastInDim S8x8x4096x4096 ![0, 1, 2, 3] bcast_S8x8x4096x1_S8x8x4096x4096_0_1_2_3
      (broadcastInDim S8x8x4096x1 ![0, 1, 2] bcast_S8x8x4096_S8x8x4096x1_0_1_2
        (Host.reduceAdd p (constant S_ .f32 0x00000000#32) reducesTo_S8x8x4096x4096_S8x8x4096_d3 h_S_)))

/-- The values, a head's rows together. -/
def values (v : FVec F S8x8x512x512 .bf16) : FVec F S8x8x64x4096 .f32 :=
  shapeCast S8x8x64x4096 (transpose S8x512x8x512 [0, 2, 1, 3] (extf .f32 v bitsLt_bf16_f32) transposes_S8x8x512x512_S8x512x8x512_0_2_1_3)
    shapeCasts_S8x512x8x512_S8x8x64x4096

/-- What the reference computes: the values weighted by the normed weights of the scores. -/
def result (q : FVec F S8x1024x4096 .bf16) (k : FVec F S8x8x4096x128 .bf16) (v : FVec F S8x8x512x512 .bf16) : FVec F S8x512x4096 .f32 :=
  shapeCast S8x512x4096 (Host.dotGeneral dot_S8x8x64x4096_S8x8x4096x4096_S8x8x64x4096_3_3_2_2_01_01 none
    (values v) (normed (weights (scores q k)))) shapeCasts_S8x8x64x4096_S8x512x4096

/-- The reference's run: its result is `result` of its arguments, which end as they were. -/
theorem run (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_v18) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  hlo_run
  rfl

/-- The reference runs, its arguments end as they were, and every semaphore reads zero. -/
theorem frame (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => (h c).2, Idealize.ShloMosaic.sem_eq_zero_of_no_sems (by decide) r.2⟩) (run m g)

end Cert.ReferenceIdeal.Hand

end
-- ==== Proof.Model.lean ====
module

public import proofs.«01_k».proof.Proof.Setup
public import Idealize.ShloMosaic.Lib.Pipeline.Value
public import Idealize.ShloMosaic.Lib.Pipeline.ReadBack
public import Idealize.ShloMosaic.Lib.Pipeline.ValueKit

@[expose] public section

set_option maxRecDepth 16384

noncomputable section

namespace Cert.Kernel.Model

open Cert.Kernel Cert.Kernel.Gen Cert.Kernel.Hand
open Idealize.ShloMosaic Idealize.ShloMosaic.TcCoe

variable {F : FTy → Type} [FloatOps F]

/-- The box of sizes `size` from `off` of an array, wrapping past its ends. -/
def blk {S : Shape} {α : Type} (hS : ∀ a, 0 < S.size a) (X : S.Idx → α) (off size : Fin S.rank → ℕ) : (⟨S.rank, size⟩ : Shape).Idx → α :=
  fun j => X fun a => ⟨(off a + (j a).val) % S.size a, Nat.mod_lt _ (hS a)⟩

/-- A load inside the array reads the box. -/
theorem ld_eq_blk {S : Shape} {e : EltTy} {Val : EltTy → Type} (hS : ∀ a, 0 < S.size a) (X : S.Idx → Val e) (off size : Fin S.rank → ℕ) (inb) :
    View.ld X (Rect.unit off size inb) = blk hS X off size := by
  funext j
  refine View.ld_unit_apply_of X off size inb j _ fun a => Nat.mod_eq_of_lt ?_
  have h1 := inb a; have h2 : (j a).val < size a := (j a).isLt
  omega

/-- A chunk of 512 keys of one head of the key scratch's contents `X`, from row `o` of head `g`. -/
def keysAt (X : FVec F S4x4096x128 .bf16) (g o : ℕ) : FVec F S1x512x128 .bf16 :=
  blk (by decide) X ![g, o, 0] S1x512x128.size

/-- The first 128 keys of head `g`. -/
def keys0 (X : FVec F S4x4096x128 .bf16) (g : ℕ) : FVec F S1x128x128 .bf16 :=
  blk (by decide) X ![g, 0, 0] S1x128x128.size

/-- The chunk `n` of the value scratch's contents `Y`, from row `o`: 64 rows of 512 values. -/
def valsAt (Y : FVec F S8x256x512 .bf16) (n o : ℕ) : FVec F S1x64x512 .bf16 :=
  blk (by decide) Y ![n, o, 0] S1x64x512.size

/-- The scores of a chunk of keys against a head's queries. -/
def scoreOf (k : FVec F S1x512x128 .bf16) (q : FVec F S128x256 .bf16) : FVec F S512x256 .f32 :=
  matmul dot_S512x128_S128x256_S512x256_1_0_0_1_n_n none (shapeCast S512x128 k shapeCasts_S1x512x128_S512x128) q (constant S512x256 .f32 0x00000000#32)

/-- The largest score of each query. -/
def topOf (s : FVec F S512x256 .f32) : FVec F S1x256 .f32 :=
  shapeCast S1x256 (multiReduction .maximumf [0] S256 s 0xFF800000#32 reduces_S512x256_S256 (.inl rfl) rfl) shapeCasts_S256_S1x256

/-- The largest score of each query over the first 128 keys. -/
def top0 (k : FVec F S1x128x128 .bf16) (q : FVec F S128x256 .bf16) : FVec F S1x256 .f32 :=
  shapeCast S1x256 (multiReduction .maximumf [0] S256
    (matmul dot_S128x128_S128x256_S128x256_1_0_0_1_n_n none (shapeCast S128x128 k shapeCasts_S1x128x128_S128x128) q (constant S128x256 .f32 0x00000000#32))
    0xFF800000#32 reduces_S128x256_S256 (.inl rfl) rfl) shapeCasts_S256_S1x256

/-- The weights of a chunk's scores against a reference. -/
def weightOf (s : FVec F S512x256 .f32) (r : FVec F S1x256 .f32) : FVec F S512x256 .bf16 :=
  truncf .bf16 (exp2 (subf s (broadcastTo S512x256 r broadcasts_S1x256_S512x256))) bitsLt_bf16_f32

/-- Sixteen rows of ones. -/
def onesRows : FVec F S16x512 .bf16 := broadcast S16x512 (Scalar.ofBits .bf16 0x3F80#16)

/-- A chunk's values above the rows `o`. -/
def stack (v : FVec F S64x512 .bf16) (o : FVec F S16x512 .bf16) : FVec F S80x512 .bf16 :=
  concatenate S80x512 0 [⟨S64x512, v⟩, ⟨S16x512, o⟩] concatenates_S64x512_S16x512_S80x512_d0

theorem stack_eq (v : FVec F S64x512 .bf16) (o : FVec F S16x512 .bf16) (h) :
    concatenate S80x512 0 [⟨S64x512, v⟩, ⟨S16x512, o⟩] h = stack v o := rfl

/-- One chunk added to a head's sums, which are first scaled by `2 ^ (r - r')`. -/
def addChunk (r r' : FVec F S1x256 .f32) (acc : FVec F S80x256 .f32) (p : FVec F S512x256 .bf16) (v : FVec F S1x64x512 .bf16) : FVec F S80x256 .f32 :=
  addf (mulf (broadcastTo S80x256 (exp2 (subf r r')) broadcasts_S1x256_S80x256) acc)
    (matmul dot_S80x512_S512x256_S80x256_1_0_0_1_n_n none
      (stack (shapeCast S64x512 v shapeCasts_S1x64x512_S64x512) onesRows)
      p (constant S80x256 .f32 0x00000000#32))

/-- What the kernel starts a running maximum at. -/
def lowest : FVec F S1x256 .f32 := broadcast S1x256 (Scalar.ofBits .f32 0xF149F2CA#32)

/-- A head's result from its sums. -/
def outOf (acc : FVec F S80x256 .f32) : FVec F S64x256 .f32 :=
  divf (extractStridedSlice S64x256 ![0, 0] acc slices_S80x256_o0_0_S64x256)
    (broadcastTo S64x256 (extractStridedSlice S1x256 ![64, 0] acc slices_S80x256_o64_0_S1x256) broadcasts_S1x256_S64x256)

/-- The sums after `n` chunks, chunk `n` weighted against the reference `ρ (n + 1)`. -/
def sums (k : ℕ → FVec F S1x512x128 .bf16) (q : FVec F S128x256 .bf16) (v : ℕ → FVec F S1x64x512 .bf16) (ρ : ℕ → FVec F S1x256 .f32) (z : FVec F S80x256 .f32) : ℕ → FVec F S80x256 .f32
  | 0 => z
  | n + 1 => addChunk (ρ n) (ρ (n + 1)) (sums k q v ρ z n) (weightOf (scoreOf (k n) q) (ρ (n + 1))) (v n)

/-- The references of the fast path: the running maximum two chunks behind. -/
def refFast (k : ℕ → FVec F S1x512x128 .bf16) (q : FVec F S128x256 .bf16) (r0 : FVec F S1x256 .f32) : ℕ → FVec F S1x256 .f32
  | 0 => r0
  | 1 => maximumf r0 lowest
  | 2 => maximumf (maximumf r0 lowest) r0
  | n + 3 => maximumf (refFast k q r0 (n + 2)) (topOf (scoreOf (k n) q))

/-- The references of the robust path: the running maximum. -/
def refRobust (k : ℕ → FVec F S1x512x128 .bf16) (q : FVec F S128x256 .bf16) : ℕ → FVec F S1x256 .f32
  | 0 => lowest
  | n + 1 => maximumf (refRobust k q n) (topOf (scoreOf (k n) q))

theorem readAt_keys (X : FVec F S4x4096x128 .bf16) (g o : ℕ) (inb) :
    View.readAt (Elt F) (View.whole cc0_scratch0) (Rect.unit (s := S4x4096x128) ![g, o, 0] ![1, 512, 128] inb).toLoadRect X = keysAt X g o :=
  ld_eq_blk (Val := Elt F) (e := .bf16) _ X _ _ _

theorem readAt_keys0 (X : FVec F S4x4096x128 .bf16) (g : ℕ) (inb) :
    View.readAt (Elt F) (View.whole cc0_scratch0) (Rect.unit (s := S4x4096x128) ![g, 0, 0] ![1, 128, 128] inb).toLoadRect X = keys0 X g :=
  ld_eq_blk (Val := Elt F) (e := .bf16) _ X _ _ _

theorem readAt_vals (X : FVec F S8x256x512 .bf16) (g o : ℕ) (inb) :
    View.readAt (Elt F) (View.whole cc0_scratch1) (Rect.unit (s := S8x256x512) ![g, o, 0] ![1, 64, 512] inb).toLoadRect X = valsAt X g o :=
  ld_eq_blk (Val := Elt F) (e := .bf16) _ X _ _ _

end Cert.Kernel.Model

end
-- ==== Proof.Tiles.lean ====
module

public import proofs.«01_k».proof.Proof.Model

@[expose] public section

set_option maxRecDepth 16384

noncomputable section

namespace Cert.Kernel.Hand

open Cert.Kernel Cert.Kernel.Gen Cert.Kernel.Model
open Idealize.ShloMosaic Idealize.ShloMosaic.TcCoe

variable {F : FTy → Type} [FloatOps F]

/-- An index of a shape, its coordinates wrapped into range. -/
def wrapIx {S : Shape} (hS : ∀ a, 0 < S.size a) (o : Fin S.rank → ℕ) : S.Idx := fun a => ⟨o a % S.size a, Nat.mod_lt _ (hS a)⟩

theorem wrapIx_eq {S : Shape} (hS : ∀ a, 0 < S.size a) (o : Fin S.rank → ℕ) (i : S.Idx) (h : ∀ a, o a = (i a).val) : wrapIx hS o = i :=
  funext fun a => Fin.ext (by show o a % _ = _; rw [h a]; exact Nat.mod_eq_of_lt (i a).isLt)

/-- The keys of four heads of one sequence, and the values of the same heads. -/
def kTile (X : FVec F S8x8x4096x128 .bf16) (b g : ℕ) : FVec F S4x4096x128 .bf16 :=
  fun j => X (wrapIx (by decide) ![b, 4 * g + (j 0).val, (j 1).val, (j 2).val])

def vTile (Y : FVec F S8x8x512x512 .bf16) (b g : ℕ) : FVec F S8x256x512 .bf16 :=
  fun j => Y (wrapIx (by decide) ![b, (j 0).val, 256 * g + (j 1).val, (j 2).val])

/-- Head `g`'s queries out of the block of four heads. -/
def qAt (X : FVec F S1x512x256 .bf16) (g : ℕ) : FVec F S128x256 .bf16 :=
  shapeCast S128x256 (blk (by decide) X ![0, 128 * g, 0] S1x128x256.size) shapeCasts_S1x128x256_S128x256

/-- What a list of stores covering a buffer leaves, where every store holds `G`'s own values. -/
theorem read_writes_eq {sig : RefSig} {κ : Kind} {sp : Space} {s : Shape} {e : EltTy} {Val : EltTy → Type} (v : View sig κ sp s e) (f : v.ty.Contents Val)
    (G : s.Idx → Val e) (y : s.Idx) : ∀ L : List (View.Piece Val s e), (∀ p ∈ L, ∀ x, p.2 x = G (p.1.emb x)) → (∃ p ∈ L, y ∈ p.1.set) →
      v.read Val (v.writes Val f L) y = G y
  | [], _, h => by obtain ⟨_, hm, _⟩ := h; exact absurd hm List.not_mem_nil
  | p :: L, hL, h => by
    by_cases hy : y ∈ p.1.set
    · obtain ⟨x, rfl⟩ : ∃ x, p.1.emb x = y := p.1.exists_idx_of_mem hy
      exact (View.read_writes_cons_emb v f p.1 p.2 L x).trans (hL p List.mem_cons_self x)
    · have hL' : ∃ p' ∈ L, y ∈ p'.1.set := by
        obtain ⟨p', hm, hy'⟩ := h
        rcases List.mem_cons.mp hm with rfl | hm
        · exact absurd hy' hy
        · exact ⟨p', hm, hy'⟩
      have hy' : y ∉ Finset.univ.map p.1.emb := by rwa [Rect.map_emb_univ]
      rw [View.writes_cons, View.read_slice_write_of_not_mem p.1 _ _ _ hy']
      exact read_writes_eq v f G y L (fun q hq => hL q (List.mem_cons_of_mem _ hq)) hL'

theorem kBlock_eq (X : FVec F S8x8x4096x128 .bf16) (i : grid0.Coords) (o : ℕ) (off : Fin 4 → ℕ) (hoff : off = ![(i 0).val, 4 * (i 1).val, o, 0]) (inb hr hq inb') (x : S4x512x128.Idx) :
    ReadAs.same.apply (View.read (Elt F) ((kHbm.slice (Rect.unit (s := S8x8x4096x128) off S1x4x512x128.size inb) hr).squeeze S4x512x128 hq).view X) x
      = kTile X (i 0).val (i 1).val ((Rect.unit (s := S4x4096x128) ![0, o, 0] S4x512x128.size inb').emb x) := by
  subst hoff
  show X ((Rect.unit (s := S8x8x4096x128) _ S1x4x512x128.size inb).emb (Shape.reshapeEquiv hq.numel_eq x)) = X _
  rw [Shape.reshapeEquiv_cons_one]
  refine congrArg X (wrapIx_eq _ _ _ fun a => ?_).symm
  rw [Rect.emb_apply]
  match a with
  | ⟨0, _⟩ => show (i 0).val = (i 0).val + 1 * 0; omega
  | ⟨1, _⟩ => show 4 * (i 1).val + (0 + 1 * (x 0).val) = 4 * (i 1).val + 1 * (x 0).val; omega
  | ⟨2, _⟩ => show o + 1 * (x 1).val = o + 1 * (x 1).val; omega
  | ⟨3, _⟩ => show 0 + 1 * (x 2).val = 0 + 1 * (x 2).val; omega

theorem vBlock_eq (Y : FVec F S8x8x512x512 .bf16) (i : grid0.Coords) (n : ℕ) (off : Fin 4 → ℕ) (hoff : off = ![(i 0).val, n, 256 * (i 1).val, 0]) (inb hr hq inb') (x : S1x256x512.Idx) :
    ReadAs.same.apply (View.read (Elt F) ((vHbm.slice (Rect.unit (s := S8x8x512x512) off S1x1x256x512.size inb) hr).squeeze S1x256x512 hq).view Y) x
      = vTile Y (i 0).val (i 1).val ((Rect.unit (s := S8x256x512) ![n, 0, 0] S1x256x512.size inb').emb x) := by
  subst hoff
  show Y ((Rect.unit (s := S8x8x512x512) _ S1x1x256x512.size inb).emb (Shape.reshapeEquiv hq.numel_eq x)) = Y _
  rw [Shape.reshapeEquiv_cons_one]
  refine congrArg Y (wrapIx_eq _ _ _ fun a => ?_).symm
  rw [Rect.emb_apply]
  match a with
  | ⟨0, _⟩ => show (i 0).val = (i 0).val + 1 * 0; omega
  | ⟨1, _⟩ => show n + 1 * (x 0).val = n + 1 * (x 0).val; omega
  | ⟨2, _⟩ => show 256 * (i 1).val + (0 + 1 * (x 1).val) = 256 * (i 1).val + 1 * (x 1).val; omega
  | ⟨3, _⟩ => show 0 + 1 * (x 2).val = 0 + 1 * (x 2).val; omega

theorem readAt_q (M : Memref sig .tc .vmem S1x512x256 .bf16) (f : M.view.ty.Contents (Elt F)) (g : ℕ) (inb) :
    shapeCast S128x256 (View.readAt (Elt F) M.view (Rect.unit (s := S1x512x256) ![0, 128 * g, 0] S1x128x256.size inb).toLoadRect f) shapeCasts_S1x128x256_S128x256
      = qAt (M.view.read (Elt F) f) g := by
  refine congrArg (fun z => shapeCast S128x256 z shapeCasts_S1x128x256_S128x256) ?_
  exact ld_eq_blk (Val := Elt F) (e := .bf16) _ (M.view.read (Elt F) f) _ _ _

end Cert.Kernel.Hand

end
-- ==== Proof.Lead.lean ====
module

public import proofs.«01_k».proof.Proof.Tiles
public import Idealize.ShloMosaic.Lib.Ring
public import Idealize.ShloMosaic.Lib.VecWindow

@[expose] public section

set_option maxRecDepth 16384

noncomputable section

namespace Cert.Kernel.Hand

open Cert.Kernel Cert.Kernel.Gen Cert.Kernel.Model
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline library's beside the transfers' counters. -/
local notation "𝕄" => MT nD τ sig Unit (Elt F) ℕ (Pipeline.UD sig nD τ) ℕ

/-- A memref's buffer whole, its contents known to satisfy `P`. -/
abbrev someP (c : Dev nD) {sp : Space} {S : Shape} {e : EltTy} (M : Memref sig .tc sp S e) (P : Buf (Elt F) (M.view.loc (c : Thread nD τ)) → Prop) : sProp 𝕄 :=
  iprop(∃ f : Buf (Elt F) (M.view.loc (c : Thread nD τ)), ⌜P f⌝ ∗ (M.view.loc (c : Thread nD τ) ↦[M.view.set]{fullShare} f))

theorem read_kScr (f : kScr.view.ty.Contents (Elt F)) : kScr.view.read (Elt F) f = f := rfl
theorem read_vScr (f : vScr.view.ty.Contents (Elt F)) : vScr.view.read (Elt F) f = f := rfl
theorem read_aScr (f : aScr.view.ty.Contents (Elt F)) : aScr.view.read (Elt F) f = f := rfl

/-- Eight stores, a chunk of 512 keys of every head each, leave the array `G` whose chunks they are. -/
theorem kList_eq (G : FVec F S4x4096x128 .bf16) (f : kScr.view.ty.Contents (Elt F)) (d7 d6 d5 d4 d3 d2 d1 d0 : S4x512x128.Idx → Elt F .bf16)
    (e7 : ∀ x, d7 x = G ((Rect.unit (s := S4x4096x128) ![0, 3584, 0] S4x512x128.size (by decide)).emb x)) (e6 : ∀ x, d6 x = G ((Rect.unit (s := S4x4096x128) ![0, 3072, 0] S4x512x128.size (by decide)).emb x)) (e5 : ∀ x, d5 x = G ((Rect.unit (s := S4x4096x128) ![0, 2560, 0] S4x512x128.size (by decide)).emb x)) (e4 : ∀ x, d4 x = G ((Rect.unit (s := S4x4096x128) ![0, 2048, 0] S4x512x128.size (by decide)).emb x)) (e3 : ∀ x, d3 x = G ((Rect.unit (s := S4x4096x128) ![0, 1536, 0] S4x512x128.size (by decide)).emb x)) (e2 : ∀ x, d2 x = G ((Rect.unit (s := S4x4096x128) ![0, 1024, 0] S4x512x128.size (by decide)).emb x)) (e1 : ∀ x, d1 x = G ((Rect.unit (s := S4x4096x128) ![0, 512, 0] S4x512x128.size (by decide)).emb x)) (e0 : ∀ x, d0 x = G ((Rect.unit (s := S4x4096x128) ![0, 0, 0] S4x512x128.size (by decide)).emb x)) :
    kScr.view.writes (Elt F) f [⟨Rect.unit (s := S4x4096x128) ![0, 3584, 0] S4x512x128.size (by decide), d7⟩, ⟨Rect.unit (s := S4x4096x128) ![0, 3072, 0] S4x512x128.size (by decide), d6⟩, ⟨Rect.unit (s := S4x4096x128) ![0, 2560, 0] S4x512x128.size (by decide), d5⟩, ⟨Rect.unit (s := S4x4096x128) ![0, 2048, 0] S4x512x128.size (by decide), d4⟩, ⟨Rect.unit (s := S4x4096x128) ![0, 1536, 0] S4x512x128.size (by decide), d3⟩, ⟨Rect.unit (s := S4x4096x128) ![0, 1024, 0] S4x512x128.size (by decide), d2⟩, ⟨Rect.unit (s := S4x4096x128) ![0, 512, 0] S4x512x128.size (by decide), d1⟩, ⟨Rect.unit (s := S4x4096x128) ![0, 0, 0] S4x512x128.size (by decide), d0⟩] = G :=
  (read_kScr _).symm.trans <| funext fun y => read_writes_eq kScr.view f G y _ (List.forall_mem_cons.2 ⟨e7, List.forall_mem_cons.2 ⟨e6, List.forall_mem_cons.2 ⟨e5, List.forall_mem_cons.2 ⟨e4, List.forall_mem_cons.2 ⟨e3, List.forall_mem_cons.2 ⟨e2, List.forall_mem_cons.2 ⟨e1, List.forall_mem_cons.2 ⟨e0, fun _ h => absurd h List.not_mem_nil⟩⟩⟩⟩⟩⟩⟩⟩)
    (View.cover_of_tiledL (s := S4x4096x128) _ S4x512x128.size (by sl_kernel_rfl) y)

/-- Eight stores, a chunk's values of every head each, leave the array `G` whose chunks they are. -/
theorem vList_eq (G : FVec F S8x256x512 .bf16) (f : vScr.view.ty.Contents (Elt F)) (d7 d6 d5 d4 d3 d2 d1 d0 : S1x256x512.Idx → Elt F .bf16)
    (e7 : ∀ x, d7 x = G ((Rect.unit (s := S8x256x512) ![7, 0, 0] S1x256x512.size (by decide)).emb x)) (e6 : ∀ x, d6 x = G ((Rect.unit (s := S8x256x512) ![6, 0, 0] S1x256x512.size (by decide)).emb x)) (e5 : ∀ x, d5 x = G ((Rect.unit (s := S8x256x512) ![5, 0, 0] S1x256x512.size (by decide)).emb x)) (e4 : ∀ x, d4 x = G ((Rect.unit (s := S8x256x512) ![4, 0, 0] S1x256x512.size (by decide)).emb x)) (e3 : ∀ x, d3 x = G ((Rect.unit (s := S8x256x512) ![3, 0, 0] S1x256x512.size (by decide)).emb x)) (e2 : ∀ x, d2 x = G ((Rect.unit (s := S8x256x512) ![2, 0, 0] S1x256x512.size (by decide)).emb x)) (e1 : ∀ x, d1 x = G ((Rect.unit (s := S8x256x512) ![1, 0, 0] S1x256x512.size (by decide)).emb x)) (e0 : ∀ x, d0 x = G ((Rect.unit (s := S8x256x512) ![0, 0, 0] S1x256x512.size (by decide)).emb x)) :
    vScr.view.writes (Elt F) f [⟨Rect.unit (s := S8x256x512) ![7, 0, 0] S1x256x512.size (by decide), d7⟩, ⟨Rect.unit (s := S8x256x512) ![6, 0, 0] S1x256x512.size (by decide), d6⟩, ⟨Rect.unit (s := S8x256x512) ![5, 0, 0] S1x256x512.size (by decide), d5⟩, ⟨Rect.unit (s := S8x256x512) ![4, 0, 0] S1x256x512.size (by decide), d4⟩, ⟨Rect.unit (s := S8x256x512) ![3, 0, 0] S1x256x512.size (by decide), d3⟩, ⟨Rect.unit (s := S8x256x512) ![2, 0, 0] S1x256x512.size (by decide), d2⟩, ⟨Rect.unit (s := S8x256x512) ![1, 0, 0] S1x256x512.size (by decide), d1⟩, ⟨Rect.unit (s := S8x256x512) ![0, 0, 0] S1x256x512.size (by decide), d0⟩] = G :=
  (read_vScr _).symm.trans <| funext fun y => read_writes_eq vScr.view f G y _ (List.forall_mem_cons.2 ⟨e7, List.forall_mem_cons.2 ⟨e6, List.forall_mem_cons.2 ⟨e5, List.forall_mem_cons.2 ⟨e4, List.forall_mem_cons.2 ⟨e3, List.forall_mem_cons.2 ⟨e2, List.forall_mem_cons.2 ⟨e1, List.forall_mem_cons.2 ⟨e0, fun _ h => absurd h List.not_mem_nil⟩⟩⟩⟩⟩⟩⟩⟩)
    (View.cover_of_tiledL (s := S8x256x512) _ S1x256x512.size (by sl_kernel_rfl) y)

/-- The first results, from the keys' scratch and the queries' block. -/
theorem lead_eq (M : Memref sig .tc .vmem S1x512x256 .bf16) (f : M.view.ty.Contents (Elt F)) (X : FVec F S4x4096x128 .bf16) (i0 i1 i2 i3 j0 j1) :
    (⟨k0_pay137 (View.readAt (Elt F) M.view (Rect.unit (s := S1x512x256) ![0, 0, 0] S1x128x256.size i0).toLoadRect f),
      k0_pay138 (View.readAt (Elt F) M.view (Rect.unit (s := S1x512x256) ![0, 128, 0] S1x128x256.size i1).toLoadRect f),
      k0_pay139 (View.readAt (Elt F) M.view (Rect.unit (s := S1x512x256) ![0, 256, 0] S1x128x256.size i2).toLoadRect f),
      k0_pay140 (View.readAt (Elt F) M.view (Rect.unit (s := S1x512x256) ![0, 384, 0] S1x128x256.size i3).toLoadRect f),
      k0_pay141,
      k0_pay143 (View.readAt (Elt F) M.view (Rect.unit (s := S1x512x256) ![0, 0, 0] S1x128x256.size i0).toLoadRect f)
        (View.readAt (Elt F) kScr.view (Rect.unit (s := S4x4096x128) ![0, 0, 0] S1x128x128.size j0).toLoadRect X),
      k0_pay144 (View.readAt (Elt F) M.view (Rect.unit (s := S1x512x256) ![0, 128, 0] S1x128x256.size i1).toLoadRect f)
        (View.readAt (Elt F) kScr.view (Rect.unit (s := S4x4096x128) ![1, 0, 0] S1x128x128.size j1).toLoadRect X)⟩ :
      Σ' (_ : FVec F S128x256 .bf16) (_ : FVec F S128x256 .bf16) (_ : FVec F S128x256 .bf16) (_ : FVec F S128x256 .bf16) (_ : FVec F S16x512 .bf16) (_ : FVec F S1x256 .f32), FVec F S1x256 .f32)
    = ⟨qAt (M.view.read (Elt F) f) 0, qAt (M.view.read (Elt F) f) 1, qAt (M.view.read (Elt F) f) 2, qAt (M.view.read (Elt F) f) 3, onesRows,
        top0 (keys0 X 0) (qAt (M.view.read (Elt F) f) 0), top0 (keys0 X 1) (qAt (M.view.read (Elt F) f) 1)⟩ := by
  rw [show View.readAt (Elt F) kScr.view (Rect.unit (s := S4x4096x128) ![0, 0, 0] S1x128x128.size j0).toLoadRect X = keys0 X 0 from readAt_keys0 X 0 j0,
    show View.readAt (Elt F) kScr.view (Rect.unit (s := S4x4096x128) ![1, 0, 0] S1x128x128.size j1).toLoadRect X = keys0 X 1 from readAt_keys0 X 1 j1,
    ← readAt_q M f 0 i0, ← readAt_q M f 1 i1, ← readAt_q M f 2 i2, ← readAt_q M f 3 i3]
  rfl

section Body
variable (c : Dev nD) (i : grid0.Coords) (arg3 : Memref sig .tc .vmem S1x512x256 .bf16) (harg3 : arg3.IsWhole) (arg6 : Memref sig .tc .vmem S1x256x256 .f32) (harg6 : arg6.IsWhole)
  (f3 : Buf (Elt F) (arg3.view.loc (c : Thread nD τ))) (h1 : Buf (Elt F) (kHbm.view.loc (c : Thread nD τ))) (h2 : Buf (Elt F) (vHbm.view.loc (c : Thread nD τ)))

set_option maxHeartbeats 4000000 in
set_option sl_exec.dmaWindow true in
set_option sl_exec.dmaWindowSet true in
set_option sl_exec.dmaWindowLent true in
/-- The guarded transfers, then the queries' loads and the first scores: the scratch holds this sequence's and these heads' keys and values, the sums are zero. -/
theorem part27_val (W : Waits sig Unit) :
    iprop((arg3.view.loc (c : Thread nD τ) ↦[arg3.view.set]{fullShare} f3)
      ∗ someP c kScr (fun f => k0_cond1 i ≠ 1#1 → f = kTile h1 (i 0).val (i 1).val) ∗ someP c vScr (fun f => k0_cond1 i ≠ 1#1 → f = vTile h2 (i 0).val (i 1).val) ∗ some0 c aScr
      ∗ cells0 c ∗ hbPt c kHbm h1 ∗ hbPt c vHbm h2 ∗ owes (c : Thread nD τ) 0 W)
      ⊢ wp frame (wpE (defs₀ (F := F)) Variants.none c none) Set.univ (k0_part27 i arg3 harg3 kHbm (Memref.isWhole_whole _) vHbm (Memref.isWhole_whole _) arg6 harg6 kScr (Memref.isWhole_whole _) vScr (Memref.isWhole_whole _) cc0_scratch2 sScr (Memref.isWhole_whole _) pScr (Memref.isWhole_whole _) aScr (Memref.isWhole_whole _))
        (fun r => iprop(⌜r = ⟨qAt (arg3.view.read (Elt F) f3) 0, qAt (arg3.view.read (Elt F) f3) 1, qAt (arg3.view.read (Elt F) f3) 2, qAt (arg3.view.read (Elt F) f3) 3, onesRows,
              top0 (keys0 (kTile h1 (i 0).val (i 1).val) 0) (qAt (arg3.view.read (Elt F) f3) 0), top0 (keys0 (kTile h1 (i 0).val (i 1).val) 1) (qAt (arg3.view.read (Elt F) f3) 1)⟩⌝
          ∗ (arg3.view.loc (c : Thread nD τ) ↦[arg3.view.set]{fullShare} f3)
          ∗ someP c kScr (fun f => f = kTile h1 (i 0).val (i 1).val) ∗ someP c vScr (fun f => f = vTile h2 (i 0).val (i 1).val) ∗ someP c aScr (fun f => f = k0_pay142)
          ∗ cells0 c ∗ hbPt c kHbm h1 ∗ hbPt c vHbm h2 ∗ (∃ W', owes (c : Thread nD τ) 0 W'))) := by
  simp only [k0_part27_eq_skeleton]; unfold k0_part27_skel
  iintro ⟨H3, ⟨%f7, %h7, H7⟩, ⟨%f8, %h8, H8⟩, ⟨%f12, H12⟩, ⟨Hq0, Hq1, Hq2, Hq3, Hq4, Hq5, Hq6, Hq7, Hq8, Hq9, Hq10, Hq11, Hq12, Hq13, Hq14, Hq15⟩, Hh1, Hh2, HW⟩
  by_cases hc : k0_cond1 i = 1#1
  · sl_exec
    sl_step
    have hK := fun f => kList_eq (F := F) (kTile h1 (i 0).val (i 1).val) f (part27_val.sl.dma0_14 c i h1 hc) (part27_val.sl.dma0_12 c i h1 hc) (part27_val.sl.dma0_10 c i h1 hc) (part27_val.sl.dma0_8 c i h1 hc) (part27_val.sl.dma0_6 c i h1 hc) (part27_val.sl.dma0_4 c i h1 hc) (part27_val.sl.dma0_2 c i h1 hc) (part27_val.sl.dma0 c i h1 hc)
        (fun x => kBlock_eq h1 i 3584 _ (k0_off15_eq i) _ _ _ _ x)
        (fun x => kBlock_eq h1 i 3072 _ (k0_off13_eq i) _ _ _ _ x)
        (fun x => kBlock_eq h1 i 2560 _ (k0_off11_eq i) _ _ _ _ x)
        (fun x => kBlock_eq h1 i 2048 _ (k0_off9_eq i) _ _ _ _ x)
        (fun x => kBlock_eq h1 i 1536 _ (k0_off7_eq i) _ _ _ _ x)
        (fun x => kBlock_eq h1 i 1024 _ (k0_off5_eq i) _ _ _ _ x)
        (fun x => kBlock_eq h1 i 512 _ (k0_off3_eq i) _ _ _ _ x)
        (fun x => kBlock_eq h1 i 0 _ (k0_off1_eq i) _ _ _ _ x)
    have hV := fun f => vList_eq (F := F) (vTile h2 (i 0).val (i 1).val) f (part27_val.sl.dma0_15 c i h2 hc) (part27_val.sl.dma0_13 c i h2 hc) (part27_val.sl.dma0_11 c i h2 hc) (part27_val.sl.dma0_9 c i h2 hc) (part27_val.sl.dma0_7 c i h2 hc) (part27_val.sl.dma0_5 c i h2 hc) (part27_val.sl.dma0_3 c i h2 hc) (part27_val.sl.dma0_1 c i h2 hc)
        (fun x => vBlock_eq h2 i 7 _ (k0_off16_eq i) _ _ _ _ x)
        (fun x => vBlock_eq h2 i 6 _ (k0_off14_eq i) _ _ _ _ x)
        (fun x => vBlock_eq h2 i 5 _ (k0_off12_eq i) _ _ _ _ x)
        (fun x => vBlock_eq h2 i 4 _ (k0_off10_eq i) _ _ _ _ x)
        (fun x => vBlock_eq h2 i 3 _ (k0_off8_eq i) _ _ _ _ x)
        (fun x => vBlock_eq h2 i 2 _ (k0_off6_eq i) _ _ _ _ x)
        (fun x => vBlock_eq h2 i 1 _ (k0_off4_eq i) _ _ _ _ x)
        (fun x => vBlock_eq h2 i 0 _ (k0_off2_eq i) _ _ _ _ x)
    isplitr
    · ipureintro
      have e16 : part27_val.sl.v16 c i h1 hc = _ := congrArg (View.readAt (Elt F) kScr.view (Rect.unit (s := S4x4096x128) ![0, 0, 0] S1x128x128.size inb_S4x4096x128_S1x128x128_0_0_0).toLoadRect) (hK kScr.view.junk)
      have e21 : part27_val.sl.v21 c i h1 hc = _ := congrArg (View.readAt (Elt F) kScr.view (Rect.unit (s := S4x4096x128) ![1, 0, 0] S1x128x128.size inb_S4x4096x128_S1x128x128_1_0_0).toLoadRect) (hK kScr.view.junk)
      rw [e16, e21]
      exact lead_eq arg3 f3 (kTile h1 (i 0).val (i 1).val) _ _ _ _ _ _
    isplitl [H3]; · iexact H3
    isplitl [H7]; · iexists _; isplitr; · ipureintro; exact hK f7
                    iexact H7
    isplitl [H8]; · iexists _; isplitr; · ipureintro; exact hV f8
                    iexact H8
    isplitl [H12]; · iexists _; isplitr; · ipureintro; exact (read_aScr _).symm.trans <| View.read_writes_full aScr.view f12 (off := ![0, 0, 0]) inb_S4x80x256_S4x80x256_0_0_0 k0_pay142 []
                     iexact H12
    sl_close
  · sl_exec
    sl_step
    rw [h7 hc, h8 hc]
    isplitr
    · ipureintro; exact lead_eq arg3 f3 (kTile h1 (i 0).val (i 1).val) _ _ _ _ _ _
    isplitl [H3]; · iexact H3
    isplitl [H7]; · iexists _; isplitr; · ipureintro; exact rfl
                    iexact H7
    isplitl [H8]; · iexists _; isplitr; · ipureintro; exact rfl
                    iexact H8
    isplitl [H12]; · iexists _; isplitr; · ipureintro; exact (read_aScr _).symm.trans <| View.read_writes_full aScr.view f12 (off := ![0, 0, 0]) inb_S4x80x256_S4x80x256_0_0_0 k0_pay142 []
                     iexact H12
    sl_close
end Body
end Cert.Kernel.Hand

end
-- ==== Proof.Loop.lean ====
module

public import proofs.«01_k».proof.Proof.Tiles

@[expose] public section

set_option maxRecDepth 16384

noncomputable section

namespace Cert.Kernel.Hand

open Cert.Kernel Cert.Kernel.Gen Cert.Kernel.Model
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline library's beside the transfers' counters. -/
local notation "𝕄" => MT nD τ sig Unit (Elt F) ℕ (Pipeline.UD sig nD τ) ℕ

/-- A load's box of an array. -/
def ldOf {S : Shape} {e : EltTy} (X : S.Idx → Elt F e) (r : Rect S) : r.shape.Idx → Elt F e := fun x => X (r.idx x)

theorem readAt_eq_ldOf {sig' : RefSig} {κ : Kind} {sp : Space} {s : Shape} {e : EltTy} (v : View sig' κ sp s e) (f : v.ty.Contents (Elt F)) (r : Rect s) :
    v.readAt (Elt F) r.toLoadRect f = ldOf (v.read (Elt F) f) r := rfl

/-- One head's part of the second loop's invariant: chunks below `n` are summed, chunk `n` is weighted, chunk `n + 1` is scored. -/
def HeadInv (X : FVec F S4x4096x128 .bf16) (Y : FVec F S8x256x512 .bf16) (g : ℕ) (q : FVec F S128x256 .bf16) (n : ℕ) (cm m al : FVec F S1x256 .f32)
    (f10 : FVec F S2x4x512x256 .f32) (f11 : FVec F S2x4x512x256 .bf16) (f12 : FVec F S4x80x256 .f32) : Prop :=
  cm = topOf (scoreOf (keysAt X g (512 * (n + 1))) q)
  ∧ m = refRobust (fun n => keysAt X g (512 * n)) q (n + 1)
  ∧ al = exp2 (subf (refRobust (fun n => keysAt X g (512 * n)) q n) (refRobust (fun n => keysAt X g (512 * n)) q (n + 1)))
  ∧ (∀ inb, ldOf (e := .f32) f10 (Rect.unit (s := S2x4x512x256) ![1, g, 0, 0] S1x1x512x256.size inb) = shapeCast S1x1x512x256 (scoreOf (keysAt X g (512 * (n + 1))) q) shapeCasts_S512x256_S1x1x512x256)
  ∧ (∀ inb, ldOf (e := .bf16) f11 (Rect.unit (s := S2x4x512x256) ![0, g, 0, 0] S1x1x512x256.size inb)
      = shapeCast S1x1x512x256 (weightOf (scoreOf (keysAt X g (512 * n)) q) (refRobust (fun n => keysAt X g (512 * n)) q (n + 1))) shapeCasts_S512x256_S1x1x512x256)
  ∧ (∀ inb, ldOf (e := .f32) f12 (Rect.unit (s := S4x80x256) ![g, 0, 0] S1x80x256.size inb)
      = shapeCast S1x80x256 (sums (fun n => keysAt X g (512 * n)) q (fun n => valsAt Y n (64 * g)) (refRobust (fun n => keysAt X g (512 * n)) q) (fun _ => Scalar.ofBits .f32 0x00000000#32) n) shapeCasts_S80x256_S1x80x256)

/-- What the second loop carries, and the three scratch arrays it stores to. -/
abbrev LoopSt (F : FTy → Type) [FloatOps F] : Type :=
  (FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32)
    × FVec F S2x4x512x256 .f32 × FVec F S2x4x512x256 .bf16 × FVec F S4x80x256 .f32

/-- The second loop's invariant before the trip that scores chunk `n + 2`. -/
def RobInv (X : FVec F S4x4096x128 .bf16) (Y : FVec F S8x256x512 .bf16) (q0 q1 q2 q3 : FVec F S128x256 .bf16) (ones : FVec F S16x512 .bf16) (n : ℕ)
    (st : LoopSt F) : Prop :=
  ones = onesRows
  ∧ HeadInv X Y 0 q0 n st.1.1 st.1.2.2.2.2.1 st.1.2.2.2.2.2.2.2.2.1 st.2.1 st.2.2.1 st.2.2.2
  ∧ HeadInv X Y 1 q1 n st.1.2.1 st.1.2.2.2.2.2.1 st.1.2.2.2.2.2.2.2.2.2.1 st.2.1 st.2.2.1 st.2.2.2
  ∧ HeadInv X Y 2 q2 n st.1.2.2.1 st.1.2.2.2.2.2.2.1 st.1.2.2.2.2.2.2.2.2.2.2.1 st.2.1 st.2.2.1 st.2.2.2
  ∧ HeadInv X Y 3 q3 n st.1.2.2.2.1 st.1.2.2.2.2.2.2.2.1 st.1.2.2.2.2.2.2.2.2.2.2.2 st.2.1 st.2.2.1 st.2.2.2

/-- A load of 512 keys of one head. -/
theorem ld_keys (X : FVec F S4x4096x128 .bf16) (off : Fin 3 → ℕ) (g o : ℕ) (h : off = ![g, o, 0]) (inb) :
    ldOf (e := .bf16) X (Rect.unit (s := S4x4096x128) off S1x512x128.size inb) = keysAt X g o := by
  subst h; exact ld_eq_blk (Val := Elt F) (e := .bf16) _ X _ _ _

/-- A load of 64 rows of one chunk's values. -/
theorem ld_vals (Y : FVec F S8x256x512 .bf16) (off : Fin 3 → ℕ) (n o : ℕ) (h : off = ![n, o, 0]) (inb) :
    ldOf (e := .bf16) Y (Rect.unit (s := S8x256x512) off S1x64x512.size inb) = valsAt Y n o := by
  subst h; exact ld_eq_blk (Val := Elt F) (e := .bf16) _ Y _ _ _

section Writes
variable {sig' : RefSig} {κ : Kind} {sp : Space} {s : Shape} {e : EltTy}

/-- A load of the rectangle stored last. -/
theorem ld_writes_last (v : View sig' κ sp s e) (f : v.ty.Contents (Elt F)) (r : Rect s) (w : r.shape.Idx → Elt F e) (L : List (View.Piece (Elt F) s e)) :
    ldOf (v.read (Elt F) (v.writes (Elt F) f (⟨r, w⟩ :: L))) r = w :=
  funext fun j => View.read_writes_cons_emb v f r w L j

/-- A load apart from the rectangle stored last. -/
theorem ld_writes_skip (v : View sig' κ sp s e) (f : v.ty.Contents (Elt F)) (off size off' size' : Fin s.rank → ℕ) (inb inb') (w : (Rect.unit (s := s) off size inb).shape.Idx → Elt F e)
    (L : List (View.Piece (Elt F) s e)) (h : ∃ a, off a + size a ≤ off' a ∨ off' a + size' a ≤ off a) :
    ldOf (v.read (Elt F) (v.writes (Elt F) f (⟨Rect.unit off size inb, w⟩ :: L))) (Rect.unit off' size' inb')
      = ldOf (v.read (Elt F) (v.writes (Elt F) f L)) (Rect.unit off' size' inb') := by
  funext j
  refine View.read_slice_write_of_not_mem _ _ w Finset.univ ?_
  rw [Rect.map_emb_univ]
  intro hm
  rw [Rect.mem_set_unit] at hm
  obtain ⟨a, ha⟩ := h
  have h1 := hm a
  have h2 : ((Rect.unit off' size' inb').idx j a).val = off' a + 1 * (j a).val := rfl
  have h3 : (j a).val < size' a := (j a).isLt
  omega
end Writes

open Classical in
/-- A state after `k` trips, marked by the first state: before any trip it is the first state itself, afterwards the mark stays as long as what held of the first state holds of this one. -/
def marked {S : Type} (G : ℕ → S → Prop) (s0 : S) : ℕ → S → Option S
  | 0, s => some s
  | k + 1, s => if G 0 s0 → G (k + 1) s then some s0 else none

theorem marked_good {S : Type} {G : ℕ → S → Prop} {s0 : S} {k : ℕ} {s : S} (h : marked G s0 k s = some s0) (h0 : G 0 s0) : G k s := by
  cases k with
  | zero => have e : some s = some s0 := h
            rw [Option.some.inj e]; exact h0
  | succ k => by_contra hn
              have e : marked G s0 (k + 1) s = none := if_neg fun hh => hn (hh h0)
              rw [e] at h; cases h

theorem marked_succ {S : Type} {G : ℕ → S → Prop} {s0 : S} {k : ℕ} {s : S} (h : G 0 s0 → G (k + 1) s) : marked G s0 (k + 1) s = some s0 := if_pos h

set_option warn.classDefReducibility false in
set_option maxHeartbeats 4000000 in
/-- The second loop's invariant: the keys and the values as found, the scratch buffers and the carried values as `RobInv` says. -/
@[sl_loop] def loopVal (c : Dev nD) (bd : Option Variants.none.V) (E : Set ℕ) (i : grid0.Coords) (arg3 : Memref sig .tc .vmem S1x512x256 .bf16) (harg3 : arg3.IsWhole) (arg4 : Memref sig .tc .hbm S8x8x4096x128 .bf16) (harg4 : arg4.IsWhole) (arg5 : Memref sig .tc .hbm S8x8x512x512 .bf16) (harg5 : arg5.IsWhole) (arg6 : Memref sig .tc .vmem S1x256x256 .f32) (harg6 : arg6.IsWhole) (arg7 : Memref sig .tc .vmem S4x4096x128 .bf16) (harg7 : arg7.IsWhole) (arg8 : Memref sig .tc .vmem S8x256x512 .bf16) (harg8 : arg8.IsWhole) (arg9 : DmaSems sig S2x8) (arg10 : Memref sig .tc .vmem S2x4x512x256 .f32) (harg10 : arg10.IsWhole) (arg11 : Memref sig .tc .vmem S2x4x512x256 .bf16) (harg11 : arg11.IsWhole) (arg12 : Memref sig .tc .vmem S4x80x256 .f32) (harg12 : arg12.IsWhole) (v4 : FVec F S128x256 .bf16) (v6 : FVec F S128x256 .bf16) (v8 : FVec F S128x256 .bf16) (v10 : FVec F S128x256 .bf16) (v11 : FVec F S16x512 .bf16) (v1127 : FVec F S1x256 .f32) (v1137 : FVec F S1x256 .f32) (v1146 : FVec F S1x256 .f32) (v1155 : FVec F S1x256 .f32) (v1164 : FVec F S1x256 .f32) (v1165 : FVec F S1x256 .f32) (v1176 : FVec F S1x256 .f32) (v1177 : FVec F S1x256 .f32) (v1188 : FVec F S1x256 .f32) (v1189 : FVec F S1x256 .f32) (v1200 : FVec F S1x256 .f32) (v1201 : FVec F S1x256 .f32) (v1207 : FVec F S512x256 .bf16)  (X_arg7 : BufTy.Contents (Elt F) arg7.view.ty) (X_arg8 : BufTy.Contents (Elt F) arg8.view.ty) (first : LoopSt F) (init : FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) :
    LoopInvTy_k0_t1 (F := F) Unit ℕ (Pipeline.UD sig nD τ) ℕ Variants.none c bd E i arg3 harg3 arg4 harg4 arg5 harg5 arg6 harg6 arg7 harg7 arg8 harg8 arg9 arg10 harg10 arg11 harg11 arg12 harg12 v4 v6 v8 v10 v11 v1127 v1137 v1146 v1155 v1164 v1165 v1176 v1177 v1188 v1189 v1200 v1201 v1207 init where
  inv k acc := iprop((arg7.view.loc (c : Thread nD τ) ↦[arg7.view.set]{fullShare} X_arg7) ∗ (arg8.view.loc (c : Thread nD τ) ↦[arg8.view.set]{fullShare} X_arg8)
    ∗ ∃ (f10 : Buf (Elt F) (arg10.view.loc (c : Thread nD τ))) (f11 : Buf (Elt F) (arg11.view.loc (c : Thread nD τ))) (f12 : Buf (Elt F) (arg12.view.loc (c : Thread nD τ))),
      (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)
      ∗ ⌜marked (fun n => RobInv (arg7.view.read (Elt F) X_arg7) (arg8.view.read (Elt F) X_arg8) v4 v6 v8 v10 v11 (2 * n)) first k (acc, arg10.view.read (Elt F) f10, arg11.view.read (Elt F) f11, arg12.view.read (Elt F) f12) = some first⌝)
  step k acc := by
    have hk : k.val < 3 := Nat.lt_of_lt_of_le k.isLt k0_t1_abs.2.1
    unfold k0_t1_body
    iintro ⟨H7, H8, ⟨%f10, %f11, %f12, H10, H11, H12, %hI⟩⟩
    sl_exec
    sl_step
    isplitl [H7]; · iexact H7
    isplitl [H8]; · iexact H8
    iexists _, _, _
    isplitl [H10]; · iexact H10
    isplitl [H11]; · iexact H11
    isplitl [H12]; · iexact H12
    ipureintro
    delta
      loopVal.sl.H10_8 loopVal.sl.H11_8 loopVal.sl.H12_4 loopVal.sl.H12_5 loopVal.sl.H12_6 loopVal.sl.H12_7 loopVal.sl.r loopVal.sl.r_1 loopVal.sl.r_10
      loopVal.sl.r_11 loopVal.sl.r_12 loopVal.sl.r_13 loopVal.sl.r_14 loopVal.sl.r_15 loopVal.sl.r_16 loopVal.sl.r_17 loopVal.sl.r_18 loopVal.sl.r_19
      loopVal.sl.r_2 loopVal.sl.r_20 loopVal.sl.r_21 loopVal.sl.r_22 loopVal.sl.r_23 loopVal.sl.r_24 loopVal.sl.r_25 loopVal.sl.r_26 loopVal.sl.r_27
      loopVal.sl.r_28 loopVal.sl.r_29 loopVal.sl.r_3 loopVal.sl.r_30 loopVal.sl.r_31 loopVal.sl.r_32 loopVal.sl.r_33 loopVal.sl.r_4 loopVal.sl.r_5
      loopVal.sl.r_6 loopVal.sl.r_7 loopVal.sl.r_8 loopVal.sl.r_9 loopVal.sl.v1453 loopVal.sl.v1465 loopVal.sl.v1477 loopVal.sl.v1489 loopVal.sl.v1505
      loopVal.sl.v1520 loopVal.sl.v1523 loopVal.sl.v1535 loopVal.sl.v1538 loopVal.sl.v1550 loopVal.sl.v1553 loopVal.sl.v1602 loopVal.sl.v1614 loopVal.sl.v1626
      loopVal.sl.v1638 loopVal.sl.v1654 loopVal.sl.v1657 loopVal.sl.v1669 loopVal.sl.v1672 loopVal.sl.v1684 loopVal.sl.v1687 loopVal.sl.v1699 loopVal.sl.v1702
    have h17 : k0_off17 k = ![0, 512 * (2 * k.val + 2), 0] := (k0_off17_eq k).trans (by congr 2; omega)
    have h25 : k0_off25 k = ![0, 512 * (2 * k.val + 3), 0] := (k0_off25_eq k).trans (by congr 2; omega)
    have h18 : k0_off18 k = ![1, 512 * (2 * k.val + 2), 0] := (k0_off18_eq k).trans (by congr 2; omega)
    have h26 : k0_off26 k = ![1, 512 * (2 * k.val + 3), 0] := (k0_off26_eq k).trans (by congr 2; omega)
    have h19 : k0_off19 k = ![2, 512 * (2 * k.val + 2), 0] := (k0_off19_eq k).trans (by congr 2; omega)
    have h27 : k0_off27 k = ![2, 512 * (2 * k.val + 3), 0] := (k0_off27_eq k).trans (by congr 2; omega)
    have h20 : k0_off20 k = ![3, 512 * (2 * k.val + 2), 0] := (k0_off20_eq k).trans (by congr 2; omega)
    have h28 : k0_off28 k = ![3, 512 * (2 * k.val + 3), 0] := (k0_off28_eq k).trans (by congr 2; omega)
    have h21 : k0_off21 k = ![2 * k.val, 0, 0] := k0_off21_eq k
    have h29 : k0_off29 k = ![2 * k.val + 1, 0, 0] := k0_off29_eq k
    have h22 : k0_off22 k = ![2 * k.val, 64, 0] := k0_off22_eq k
    have h30 : k0_off30 k = ![2 * k.val + 1, 64, 0] := k0_off30_eq k
    have h23 : k0_off23 k = ![2 * k.val, 128, 0] := k0_off23_eq k
    have h31 : k0_off31 k = ![2 * k.val + 1, 128, 0] := k0_off31_eq k
    have h24 : k0_off24 k = ![2 * k.val, 192, 0] := k0_off24_eq k
    have h32 : k0_off32 k = ![2 * k.val + 1, 192, 0] := k0_off32_eq k
    refine marked_succ fun h0 => ?_
    obtain ⟨hones, ⟨a0, m0, l0, s0, p0, c0⟩, ⟨a1, m1, l1, s1, p1, c1⟩, ⟨a2, m2, l2, s2, p2, c2⟩, ⟨a3, m3, l3, s3, p3, c3⟩⟩ := marked_good hI h0
    dsimp only at hones a0 m0 l0 s0 p0 c0 a1 m1 l1 s1 p1 c1 a2 m2 l2 s2 p2 c2 a3 m3 l3 s3 p3 c3
    refine ⟨hones, ⟨?_, ?_, ?_, fun inb => ?_, fun inb => ?_, fun inb => ?_⟩, ⟨?_, ?_, ?_, fun inb => ?_, fun inb => ?_, fun inb => ?_⟩,
      ⟨?_, ?_, ?_, fun inb => ?_, fun inb => ?_, fun inb => ?_⟩, ⟨?_, ?_, ?_, fun inb => ?_, fun inb => ?_, fun inb => ?_⟩⟩
    all_goals
      simp (disch := decide) only [
        k0_pay6, k0_pay7, k0_pay8, k0_pay9, k0_pay10, k0_pay11, k0_pay12, k0_pay13, k0_pay14, k0_pay15, k0_pay16, k0_pay17, k0_pay18, k0_pay19, k0_pay20, k0_pay21,
        k0_pay22, k0_pay23, k0_pay24, k0_pay25, k0_pay26, k0_pay27, k0_pay28, k0_pay29, k0_pay30, k0_pay31, k0_pay32, k0_pay33, k0_pay34, k0_pay35, k0_pay36, k0_pay37,
        k0_pay38, k0_pay39, k0_pay40, k0_pay41, k0_pay42, k0_pay43, k0_pay44, k0_pay45, k0_pay46, k0_pay47, k0_pay48, k0_pay49, k0_pay50, k0_pay51, k0_pay52, k0_pay53,
        k0_pay54, k0_pay55, k0_pay56, k0_pay57, k0_pay58, k0_pay59, k0_pay60, k0_pay61, k0_pay62, k0_pay63, k0_pay64, k0_pay65, k0_pay109,
        View.readCov_cons_toLoadRect, View.readCov_skip, readAt_eq_ldOf, ↓ld_writes_last, ↓ld_writes_skip, hones, a0, m0, l0, s0, p0, c0, a1, m1, l1, s1, p1, c1,
        a2, m2, l2, s2, p2, c2, a3, m3, l3, s3, p3, c3, ld_keys _ _ _ _ h17, ld_keys _ _ _ _ h25, ld_keys _ _ _ _ h18, ld_keys _ _ _ _ h26, ld_keys _ _ _ _ h19, ld_keys _ _ _ _ h27, ld_keys _ _ _ _ h20, ld_keys _ _ _ _ h28, ld_vals _ _ _ _ h21, ld_vals _ _ _ _ h29, ld_vals _ _ _ _ h22, ld_vals _ _ _ _ h30, ld_vals _ _ _ _ h23, ld_vals _ _ _ _ h31, ld_vals _ _ _ _ h24, ld_vals _ _ _ _ h32,
        stack_eq, shapeCast_shapeCast, sums, refRobust, addChunk, scoreOf, weightOf, topOf, Nat.mul_add, Nat.reduceMul, Nat.mul_one, Nat.add_assoc, Nat.reduceAdd]
    all_goals rfl

end Cert.Kernel.Hand

end
-- ==== Proof.BodyVal.lean ====
module

public import proofs.«01_k».proof.Proof.Lead
public import proofs.«01_k».proof.Proof.Loop
public import Idealize.ShloMosaic.Lib.ValueIdxCore

@[expose] public section

set_option maxRecDepth 65536

noncomputable section

namespace Cert.Kernel.Hand

open Cert.Kernel Cert.Kernel.Gen Cert.Kernel.Model
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline library's beside the transfers' counters. -/
local notation "𝕄" => MT nD τ sig Unit (Elt F) ℕ (Pipeline.UD sig nD τ) ℕ

/-- A load of 512 keys of one head, the offsets literal. -/
theorem ld_keysL (X : FVec F S4x4096x128 .bf16) (g o : ℕ) (inb) :
    ldOf (e := .bf16) X (Rect.unit (s := S4x4096x128) ![g, o, 0] ![1, 512, 128] inb) = keysAt X g o := ld_keys X _ g o rfl inb

/-- A load of the first 128 keys of one head. -/
theorem ld_keys0L (X : FVec F S4x4096x128 .bf16) (g : ℕ) (inb) :
    ldOf (e := .bf16) X (Rect.unit (s := S4x4096x128) ![g, 0, 0] ![1, 128, 128] inb) = keys0 X g :=
  ld_eq_blk (Val := Elt F) (e := .bf16) _ X _ _ _

/-- A load of 64 rows of one chunk's values, the offsets literal. -/
theorem ld_valsL (Y : FVec F S8x256x512 .bf16) (n o : ℕ) (inb) :
    ldOf (e := .bf16) Y (Rect.unit (s := S8x256x512) ![n, o, 0] ![1, 64, 512] inb) = valsAt Y n o := ld_vals Y _ n o rfl inb

theorem read_w0 (f : (View.whole cc0_scratch0).ty.Contents (Elt F)) : View.read (Elt F) (View.whole cc0_scratch0) f = f := rfl
theorem read_w1 (f : (View.whole cc0_scratch1).ty.Contents (Elt F)) : View.read (Elt F) (View.whole cc0_scratch1) f = f := rfl
theorem read_w3 (f : (View.whole cc0_scratch3).ty.Contents (Elt F)) : View.read (Elt F) (View.whole cc0_scratch3) f = f := rfl
theorem read_w4 (f : (View.whole cc0_scratch4).ty.Contents (Elt F)) : View.read (Elt F) (View.whole cc0_scratch4) f = f := rfl
theorem read_w5 (f : (View.whole cc0_scratch5).ty.Contents (Elt F)) : View.read (Elt F) (View.whole cc0_scratch5) f = f := rfl

/-- A load of one head's sums out of the zeros the sums start at. -/
theorem ld_zero (g : ℕ) (inb) :
    ldOf (e := .f32) (k0_pay142 (F := F)) (Rect.unit (s := S4x80x256) ![g, 0, 0] ![1, 80, 256] inb)
      = shapeCast S1x80x256 (fun _ => Scalar.ofBits .f32 0x00000000#32) shapeCasts_S80x256_S1x80x256 := rfl

theorem ld_zero' (z : Elt F .f32) (g : ℕ) (inb) (h) :
    ldOf (e := .f32) (shapeCast S4x80x256 (broadcast S4x80x256 z) h) (Rect.unit (s := S4x80x256) ![g, 0, 0] ![1, 80, 256] inb)
      = shapeCast S1x80x256 (fun _ => z) shapeCasts_S80x256_S1x80x256 := rfl

/-- A load of one head's sums after the zeros are stored again. -/
theorem ld_fill (f : aScr.view.ty.Contents (Elt F)) (Z : FVec F S4x80x256 .f32) (L : List (View.Piece (Elt F) S4x80x256 .f32)) (inb0) (r : Rect S4x80x256) :
    ldOf (aScr.view.read (Elt F) (aScr.view.writes (Elt F) f (⟨Rect.unit (s := S4x80x256) ![0, 0, 0] S4x80x256.size inb0, Z⟩ :: L))) r = ldOf (e := .f32) Z r := by
  rw [View.read_writes_full aScr.view f (off := ![0, 0, 0]) inb0 Z L]

/-- Four heads' rows one above the other. -/
def rowsOf (o : ℕ → FVec F S64x256 .f32) : FVec F S1x256x256 .f32 := fun j => o ((j 1).val / 64) (ValueIdx.ix2 ⟨(j 1).val % 64, Nat.mod_lt _ (by decide)⟩ (j 2))

theorem rowsOf_emb (o : ℕ → FVec F S64x256 .f32) (g p : ℕ) (hp : p = 64 * g) (inb) (x : S1x64x256.Idx) :
    shapeCast S1x64x256 (o g) shapeCasts_S64x256_S1x64x256 x = rowsOf o ((Rect.unit (s := S1x256x256) ![0, p, 0] S1x64x256.size inb).emb x) := by
  have hx : (x 1).val < 64 := (x 1).isLt
  have h1 : (((Rect.unit (s := S1x256x256) ![0, p, 0] S1x64x256.size inb).emb x) 1).val = p + (x 1).val := by
    show p + 1 * (x 1).val = _; omega
  have h2 : (((Rect.unit (s := S1x256x256) ![0, p, 0] S1x64x256.size inb).emb x) 2) = x 2 := Fin.ext (by show 0 + 1 * (x 2).val = _; omega)
  refine (shapeCast_addUnit_apply ![64, 256] (o g) shapeCasts_S64x256_S1x64x256 x).trans ?_
  unfold rowsOf
  have hg : (p + (x 1).val) / 64 = g := by omega
  simp only [h1, hg]
  refine congrArg (o g) (funext fun a => ?_)
  match a with
  | ⟨0, _⟩ => exact Fin.ext (by show (x 1).val = (p + (x 1).val) % 64; omega)
  | ⟨1, _⟩ => exact h2.symm

/-- Four stores, one of each head's rows, leave the four heads' rows. -/
theorem out_eq (v : View sig .tc .vmem S1x256x256 .f32) (f : v.ty.Contents (Elt F)) (o : ℕ → FVec F S64x256 .f32) (w3 w2 w1 w0 : FVec F S1x64x256 .f32) (i3 i2 i1 i0)
    (L : List (View.Piece (Elt F) S1x256x256 .f32))
    (h : w0 = shapeCast S1x64x256 (o 0) shapeCasts_S64x256_S1x64x256 ∧ w1 = shapeCast S1x64x256 (o 1) shapeCasts_S64x256_S1x64x256
      ∧ w2 = shapeCast S1x64x256 (o 2) shapeCasts_S64x256_S1x64x256 ∧ w3 = shapeCast S1x64x256 (o 3) shapeCasts_S64x256_S1x64x256) :
    v.read (Elt F) (v.writes (Elt F) f (⟨Rect.unit (s := S1x256x256) ![0, 192, 0] S1x64x256.size i3, w3⟩ :: ⟨Rect.unit (s := S1x256x256) ![0, 128, 0] S1x64x256.size i2, w2⟩
      :: ⟨Rect.unit (s := S1x256x256) ![0, 64, 0] S1x64x256.size i1, w1⟩ :: ⟨Rect.unit (s := S1x256x256) ![0, 0, 0] S1x64x256.size i0, w0⟩ :: L)) = rowsOf o := by
  obtain ⟨rfl, rfl, rfl, rfl⟩ := h
  funext y
  exact read_writes_eq v (v.writes (Elt F) f L) (rowsOf o) y
    [⟨Rect.unit (s := S1x256x256) ![0, 192, 0] S1x64x256.size i3, _⟩, ⟨Rect.unit (s := S1x256x256) ![0, 128, 0] S1x64x256.size i2, _⟩,
      ⟨Rect.unit (s := S1x256x256) ![0, 64, 0] S1x64x256.size i1, _⟩, ⟨Rect.unit (s := S1x256x256) ![0, 0, 0] S1x64x256.size i0, _⟩]
    (List.forall_mem_cons.2 ⟨fun x => rowsOf_emb o 3 192 rfl i3 x, List.forall_mem_cons.2 ⟨fun x => rowsOf_emb o 2 128 rfl i2 x,
      List.forall_mem_cons.2 ⟨fun x => rowsOf_emb o 1 64 rfl i1 x, List.forall_mem_cons.2 ⟨fun x => rowsOf_emb o 0 0 rfl i0 x, fun _ h => absurd h List.not_mem_nil⟩⟩⟩⟩)
    (View.cover_of_tiledL (s := S1x256x256) _ S1x64x256.size (by sl_kernel_rfl) y)

/-- One head's result, its chunks weighted against the references `ρ`. -/
def headOut (X : FVec F S4x4096x128 .bf16) (Y : FVec F S8x256x512 .bf16) (q : FVec F S128x256 .bf16) (g : ℕ) (ρ : ℕ → FVec F S1x256 .f32) : FVec F S64x256 .f32 :=
  outOf (sums (fun n => keysAt X g (512 * n)) q (fun n => valsAt Y n (64 * g)) ρ (fun _ => Scalar.ofBits .f32 0x00000000#32) 8)

/-- The four heads' results of the fast path. -/
def fastOut (X : FVec F S4x4096x128 .bf16) (Y : FVec F S8x256x512 .bf16) (Q : FVec F S1x512x256 .bf16) : FVec F S1x256x256 .f32 :=
  rowsOf fun g => headOut X Y (qAt Q g) g (refFast (fun n => keysAt X g (512 * n)) (qAt Q g) (top0 (keys0 X g) (qAt Q g)))

/-- The four heads' results of the robust path. -/
def robustOut (X : FVec F S4x4096x128 .bf16) (Y : FVec F S8x256x512 .bf16) (Q : FVec F S1x512x256 .bf16) : FVec F S1x256x256 .f32 :=
  rowsOf fun g => headOut X Y (qAt Q g) g (refRobust (fun n => keysAt X g (512 * n)) (qAt Q g))

/-- The last two chunks of a head's sums. -/
theorem sums_eight (k : ℕ → FVec F S1x512x128 .bf16) (q : FVec F S128x256 .bf16) (v : ℕ → FVec F S1x64x512 .bf16) (ρ : ℕ → FVec F S1x256 .f32) (z : FVec F S80x256 .f32) :
    sums k q v ρ z 8 = addChunk (ρ 7) (ρ 8) (addChunk (ρ 6) (ρ 7) (sums k q v ρ z 6) (weightOf (scoreOf (k 6) q) (ρ 7)) (v 6)) (weightOf (scoreOf (k 7) q) (ρ 8)) (v 7) := rfl

theorem robInv_intro {X : FVec F S4x4096x128 .bf16} {Y : FVec F S8x256x512 .bf16} {q0 q1 q2 q3 : FVec F S128x256 .bf16} {ones : FVec F S16x512 .bf16} {n : ℕ}
    {c0 c1 c2 c3 m0 m1 m2 m3 a0 a1 a2 a3 : FVec F S1x256 .f32} {f10 : FVec F S2x4x512x256 .f32} {f11 : FVec F S2x4x512x256 .bf16} {f12 : FVec F S4x80x256 .f32}
    (h : ones = onesRows) (h0 : HeadInv X Y 0 q0 n c0 m0 a0 f10 f11 f12) (h1 : HeadInv X Y 1 q1 n c1 m1 a1 f10 f11 f12)
    (h2 : HeadInv X Y 2 q2 n c2 m2 a2 f10 f11 f12) (h3 : HeadInv X Y 3 q3 n c3 m3 a3 f10 f11 f12) :
    RobInv X Y q0 q1 q2 q3 ones n ((c0, c1, c2, c3, m0, m1, m2, m3, a0, a1, a2, a3), f10, f11, f12) := ⟨h, h0, h1, h2, h3⟩

theorem refRobust_eight (k : ℕ → FVec F S1x512x128 .bf16) (q : FVec F S128x256 .bf16) : refRobust k q 8 = maximumf (refRobust k q 7) (topOf (scoreOf (k 7) q)) := rfl

section Body
variable (c : Dev nD) (i : grid0.Coords) (arg3 : Memref sig .tc .vmem S1x512x256 .bf16) (harg3 : arg3.IsWhole) (arg6 : Memref sig .tc .vmem S1x256x256 .f32) (harg6 : arg6.IsWhole)
  (f3 : Buf (Elt F) (arg3.view.loc (c : Thread nD τ))) (h1 : Buf (Elt F) (kHbm.view.loc (c : Thread nD τ))) (h2 : Buf (Elt F) (vHbm.view.loc (c : Thread nD τ)))

set_option maxHeartbeats 8000000 in
/-- One grid point: the queries and the two HBM arrays as found, the keys and the values of an earlier point of the same heads kept; the result's rows those of the fast path or of the robust one. -/
theorem body_val (W : Waits sig Unit) (K : PUnit → sProp 𝕄) :
    iprop((arg3.view.loc (c : Thread nD τ) ↦[arg3.view.set]{fullShare} f3)
      ∗ some0 c arg6 ∗ someP c kScr (fun f => k0_cond1 i ≠ 1#1 → f = kTile h1 (i 0).val (i 1).val) ∗ someP c vScr (fun f => k0_cond1 i ≠ 1#1 → f = vTile h2 (i 0).val (i 1).val) ∗ some0 c sScr ∗ some0 c pScr ∗ some0 c aScr
      ∗ cells0 c ∗ hbPt c kHbm h1 ∗ hbPt c vHbm h2 ∗ owes (c : Thread nD τ) 0 W
      ∗ (iprop((arg3.view.loc (c : Thread nD τ) ↦[arg3.view.set]{fullShare} f3)
          ∗ someP c arg6 (fun f => arg6.view.read (Elt F) f = fastOut (kTile h1 (i 0).val (i 1).val) (vTile h2 (i 0).val (i 1).val) (arg3.view.read (Elt F) f3)
              ∨ arg6.view.read (Elt F) f = robustOut (kTile h1 (i 0).val (i 1).val) (vTile h2 (i 0).val (i 1).val) (arg3.view.read (Elt F) f3)) ∗ someP c kScr (fun f => f = kTile h1 (i 0).val (i 1).val) ∗ someP c vScr (fun f => f = vTile h2 (i 0).val (i 1).val) ∗ some0 c sScr ∗ some0 c pScr ∗ some0 c aScr
          ∗ cells0 c ∗ hbPt c kHbm h1 ∗ hbPt c vHbm h2 ∗ (∃ W', owes (c : Thread nD τ) 0 W')) -∗ K ⟨⟩))
      ⊢ wp frame (wpE (defs₀ (F := F)) Variants.none c none) Set.univ (cc0_mla i arg3 harg3 kHbm (Memref.isWhole_whole _) vHbm (Memref.isWhole_whole _) arg6 harg6 kScr (Memref.isWhole_whole _) vScr (Memref.isWhole_whole _) cc0_scratch2 sScr (Memref.isWhole_whole _) pScr (Memref.isWhole_whole _) aScr (Memref.isWhole_whole _)) K := by
  simp only [cc0_mla_eq_skeleton]; unfold cc0_mla_skel
  have hcut := part27_val (F := F) c i arg3 harg3 arg6 harg6 f3 h1 h2
  iintro ⟨H3, ⟨%f6, H6⟩, ⟨%f7, %e7, H7⟩, ⟨%f8, %e8, H8⟩, ⟨%f10, H10⟩, ⟨%f11, H11⟩, ⟨%f12, H12⟩, ⟨Hq0, Hq1, Hq2, Hq3, Hq4, Hq5, Hq6, Hq7, Hq8, Hq9, Hq10, Hq11, Hq12, Hq13, Hq14, Hq15⟩, Hh1, Hh2, HW, Hk⟩
  sl_exec
  have e4 := congrArg (fun r => r.1) hk0_part27_0
  have e6 := congrArg (fun r => r.2.1) hk0_part27_0
  have e8' := congrArg (fun r => r.2.2.1) hk0_part27_0
  have e10 := congrArg (fun r => r.2.2.2.1) hk0_part27_0
  have e11 := congrArg (fun r => r.2.2.2.2.1) hk0_part27_0
  have e20 := congrArg (fun r => r.2.2.2.2.2.1) hk0_part27_0
  have e25 := congrArg (fun r => r.2.2.2.2.2.2) hk0_part27_0
  clear hk0_part27_0
  dsimp only at e4 e6 e8' e10 e11 e20 e25
  subst e4 e6 e8' e10 e11 e20 e25
  dsimp only at hk0_part27_2 hk0_part27_4 hk0_part27_6
  subst hk0_part27_2 hk0_part27_4 hk0_part27_6
  by_cases hw : body_val.sl.v1082 c (qAt (arg3.view.read (Elt F) f3) 0) (qAt (arg3.view.read (Elt F) f3) 1) (qAt (arg3.view.read (Elt F) f3) 2) (qAt (arg3.view.read (Elt F) f3) 3)
      (top0 (keys0 (kTile h1 (i 0).val (i 1).val) 0) (qAt (arg3.view.read (Elt F) f3) 0)) (top0 (keys0 (kTile h1 (i 0).val (i 1).val) 1) (qAt (arg3.view.read (Elt F) f3) 1))
      (kTile h1 (i 0).val (i 1).val) = 1#1
  · sl_exec
    sl_step
    iapply Hk
    isplitl [Hk0_part27_1]; · iexact Hk0_part27_1
    isplitl [H6]
    · iexists _
      isplitr [H6]; rotate_left; · iexact H6
      ipureintro
      refine Or.inr (out_eq _ _ _ _ _ _ _ _ _ _ _ _ ?_)
      rw [show Scf.trips k0_t1_loop.lb k0_t1_loop.ub k0_t1_loop.st = 3 from by decide] at hL5
      have hR := marked_good hL5 (by
        delta
          body_val.sl.H10_8 body_val.sl.H10_8_1 body_val.sl.H11_10 body_val.sl.H11_11 body_val.sl.H11_12 body_val.sl.H11_13 body_val.sl.H11_14 body_val.sl.H11_15
          body_val.sl.H11_16 body_val.sl.H11_17 body_val.sl.H11_18 body_val.sl.H11_19 body_val.sl.H11_20 body_val.sl.H11_21 body_val.sl.H11_22 body_val.sl.H11_23
          body_val.sl.H11_24 body_val.sl.H11_25 body_val.sl.H11_26 body_val.sl.H11_27 body_val.sl.H11_28 body_val.sl.H11_29 body_val.sl.H11_30 body_val.sl.H11_31
          body_val.sl.H11_32 body_val.sl.H11_36 body_val.sl.H11_4 body_val.sl.H11_5 body_val.sl.H11_6 body_val.sl.H11_7 body_val.sl.H11_8 body_val.sl.H11_9
          body_val.sl.H6_4 body_val.sl.H6_5 body_val.sl.Hk0_part27_7_10 body_val.sl.Hk0_part27_7_11 body_val.sl.Hk0_part27_7_12 body_val.sl.Hk0_part27_7_13
          body_val.sl.Hk0_part27_7_14 body_val.sl.Hk0_part27_7_15 body_val.sl.Hk0_part27_7_16 body_val.sl.Hk0_part27_7_17 body_val.sl.Hk0_part27_7_18
          body_val.sl.Hk0_part27_7_19 body_val.sl.Hk0_part27_7_20 body_val.sl.Hk0_part27_7_21 body_val.sl.Hk0_part27_7_22 body_val.sl.Hk0_part27_7_23
          body_val.sl.Hk0_part27_7_24 body_val.sl.Hk0_part27_7_25 body_val.sl.Hk0_part27_7_26 body_val.sl.Hk0_part27_7_27 body_val.sl.Hk0_part27_7_28
          body_val.sl.Hk0_part27_7_29 body_val.sl.Hk0_part27_7_30 body_val.sl.Hk0_part27_7_31 body_val.sl.Hk0_part27_7_32 body_val.sl.Hk0_part27_7_33
          body_val.sl.Hk0_part27_7_4 body_val.sl.Hk0_part27_7_4_1 body_val.sl.Hk0_part27_7_5 body_val.sl.Hk0_part27_7_5_1 body_val.sl.Hk0_part27_7_6
          body_val.sl.Hk0_part27_7_6_1 body_val.sl.Hk0_part27_7_7 body_val.sl.Hk0_part27_7_7_1 body_val.sl.Hk0_part27_7_8 body_val.sl.Hk0_part27_7_8_1
          body_val.sl.Hk0_part27_7_9 body_val.sl.cst_137 body_val.sl.cst_789 body_val.sl.r body_val.sl.r_1 body_val.sl.r_10 body_val.sl.r_100 body_val.sl.r_101
          body_val.sl.r_102 body_val.sl.r_103 body_val.sl.r_104 body_val.sl.r_105 body_val.sl.r_106 body_val.sl.r_107 body_val.sl.r_108 body_val.sl.r_109
          body_val.sl.r_11 body_val.sl.r_110 body_val.sl.r_111 body_val.sl.r_112 body_val.sl.r_113 body_val.sl.r_114 body_val.sl.r_115 body_val.sl.r_116
          body_val.sl.r_117 body_val.sl.r_118 body_val.sl.r_119 body_val.sl.r_12 body_val.sl.r_120 body_val.sl.r_121 body_val.sl.r_122 body_val.sl.r_123
          body_val.sl.r_124 body_val.sl.r_125 body_val.sl.r_126 body_val.sl.r_127 body_val.sl.r_128 body_val.sl.r_129 body_val.sl.r_13 body_val.sl.r_130
          body_val.sl.r_131 body_val.sl.r_132 body_val.sl.r_133 body_val.sl.r_134 body_val.sl.r_135 body_val.sl.r_136 body_val.sl.r_137 body_val.sl.r_138
          body_val.sl.r_139 body_val.sl.r_14 body_val.sl.r_140 body_val.sl.r_141 body_val.sl.r_142 body_val.sl.r_143 body_val.sl.r_144 body_val.sl.r_145
          body_val.sl.r_146 body_val.sl.r_147 body_val.sl.r_148 body_val.sl.r_149 body_val.sl.r_15 body_val.sl.r_150 body_val.sl.r_151 body_val.sl.r_152
          body_val.sl.r_153 body_val.sl.r_154 body_val.sl.r_155 body_val.sl.r_156 body_val.sl.r_157 body_val.sl.r_158 body_val.sl.r_159 body_val.sl.r_16
          body_val.sl.r_160 body_val.sl.r_161 body_val.sl.r_162 body_val.sl.r_163 body_val.sl.r_164 body_val.sl.r_165 body_val.sl.r_166 body_val.sl.r_167
          body_val.sl.r_168 body_val.sl.r_169 body_val.sl.r_17 body_val.sl.r_170 body_val.sl.r_171 body_val.sl.r_172 body_val.sl.r_173 body_val.sl.r_174
          body_val.sl.r_175 body_val.sl.r_176 body_val.sl.r_177 body_val.sl.r_178 body_val.sl.r_179 body_val.sl.r_18 body_val.sl.r_180 body_val.sl.r_181
          body_val.sl.r_182 body_val.sl.r_183 body_val.sl.r_184 body_val.sl.r_185 body_val.sl.r_186 body_val.sl.r_187 body_val.sl.r_188 body_val.sl.r_189
          body_val.sl.r_19 body_val.sl.r_190 body_val.sl.r_191 body_val.sl.r_192 body_val.sl.r_193 body_val.sl.r_194 body_val.sl.r_195 body_val.sl.r_196
          body_val.sl.r_197 body_val.sl.r_198 body_val.sl.r_199 body_val.sl.r_2 body_val.sl.r_20 body_val.sl.r_200 body_val.sl.r_201 body_val.sl.r_202
          body_val.sl.r_203 body_val.sl.r_204 body_val.sl.r_205 body_val.sl.r_206 body_val.sl.r_207 body_val.sl.r_208 body_val.sl.r_209 body_val.sl.r_21
          body_val.sl.r_210 body_val.sl.r_22 body_val.sl.r_23 body_val.sl.r_24 body_val.sl.r_25 body_val.sl.r_26 body_val.sl.r_27 body_val.sl.r_28
          body_val.sl.r_29 body_val.sl.r_3 body_val.sl.r_30 body_val.sl.r_31 body_val.sl.r_32 body_val.sl.r_33 body_val.sl.r_34 body_val.sl.r_35 body_val.sl.r_36
          body_val.sl.r_37 body_val.sl.r_38 body_val.sl.r_39 body_val.sl.r_4 body_val.sl.r_40 body_val.sl.r_41 body_val.sl.r_42 body_val.sl.r_43 body_val.sl.r_44
          body_val.sl.r_45 body_val.sl.r_46 body_val.sl.r_47 body_val.sl.r_48 body_val.sl.r_49 body_val.sl.r_5 body_val.sl.r_50 body_val.sl.r_51 body_val.sl.r_52
          body_val.sl.r_53 body_val.sl.r_54 body_val.sl.r_55 body_val.sl.r_56 body_val.sl.r_57 body_val.sl.r_58 body_val.sl.r_59 body_val.sl.r_6 body_val.sl.r_60
          body_val.sl.r_61 body_val.sl.r_62 body_val.sl.r_63 body_val.sl.r_64 body_val.sl.r_65 body_val.sl.r_66 body_val.sl.r_67 body_val.sl.r_68 body_val.sl.r_69
          body_val.sl.r_7 body_val.sl.r_70 body_val.sl.r_71 body_val.sl.r_72 body_val.sl.r_73 body_val.sl.r_74 body_val.sl.r_75 body_val.sl.r_76 body_val.sl.r_77
          body_val.sl.r_78 body_val.sl.r_79 body_val.sl.r_8 body_val.sl.r_80 body_val.sl.r_81 body_val.sl.r_82 body_val.sl.r_83 body_val.sl.r_84 body_val.sl.r_85
          body_val.sl.r_86 body_val.sl.r_87 body_val.sl.r_88 body_val.sl.r_89 body_val.sl.r_9 body_val.sl.r_90 body_val.sl.r_91 body_val.sl.r_92 body_val.sl.r_93
          body_val.sl.r_94 body_val.sl.r_95 body_val.sl.r_96 body_val.sl.r_97 body_val.sl.r_98 body_val.sl.r_99 body_val.sl.v1001 body_val.sl.v1012
          body_val.sl.v1015 body_val.sl.v1026 body_val.sl.v1029 body_val.sl.v1037 body_val.sl.v1046 body_val.sl.v1055 body_val.sl.v1064 body_val.sl.v1080
          body_val.sl.v1081 body_val.sl.v1082 body_val.sl.v1089 body_val.sl.v1098 body_val.sl.v1107 body_val.sl.v1116 body_val.sl.v1130 body_val.sl.v1139
          body_val.sl.v1148 body_val.sl.v1157 body_val.sl.v1166 body_val.sl.v1166_1 body_val.sl.v1178 body_val.sl.v1178_1 body_val.sl.v1190 body_val.sl.v1190_1
          body_val.sl.v1202 body_val.sl.v1202_1 body_val.sl.v1263 body_val.sl.v1266 body_val.sl.v1277 body_val.sl.v1280 body_val.sl.v1283 body_val.sl.v1291
          body_val.sl.v1294 body_val.sl.v1297 body_val.sl.v1305 body_val.sl.v1308 body_val.sl.v1311 body_val.sl.v1319 body_val.sl.v1322 body_val.sl.v1325
          body_val.sl.v133 body_val.sl.v1333 body_val.sl.v1336 body_val.sl.v1339 body_val.sl.v1347 body_val.sl.v1350 body_val.sl.v1353 body_val.sl.v1361
          body_val.sl.v1364 body_val.sl.v1367 body_val.sl.v1375 body_val.sl.v1384 body_val.sl.v1390 body_val.sl.v1393 body_val.sl.v1402 body_val.sl.v164
          body_val.sl.v167 body_val.sl.v195 body_val.sl.v198 body_val.sl.v226 body_val.sl.v229 body_val.sl.v257 body_val.sl.v260 body_val.sl.v288 body_val.sl.v291
          body_val.sl.v319 body_val.sl.v322 body_val.sl.v350 body_val.sl.v353 body_val.sl.v381 body_val.sl.v384 body_val.sl.v412 body_val.sl.v415 body_val.sl.v443
          body_val.sl.v446 body_val.sl.v474 body_val.sl.v477 body_val.sl.v505 body_val.sl.v508 body_val.sl.v536 body_val.sl.v539 body_val.sl.v567 body_val.sl.v570
          body_val.sl.v598 body_val.sl.v601 body_val.sl.v629 body_val.sl.v632 body_val.sl.v660 body_val.sl.v663 body_val.sl.v691 body_val.sl.v694 body_val.sl.v722
          body_val.sl.v725 body_val.sl.v753 body_val.sl.v756 body_val.sl.v784 body_val.sl.v787 body_val.sl.v815 body_val.sl.v818 body_val.sl.v846 body_val.sl.v849
          body_val.sl.v877 body_val.sl.v880 body_val.sl.v908 body_val.sl.v911 body_val.sl.v939 body_val.sl.v942 body_val.sl.v970 body_val.sl.v973 body_val.sl.v984
          body_val.sl.v987 body_val.sl.v998
        refine robInv_intro rfl ⟨?_, ?_, ?_, fun inb => ?_, fun inb => ?_, fun inb => ?_⟩ ⟨?_, ?_, ?_, fun inb => ?_, fun inb => ?_, fun inb => ?_⟩
          ⟨?_, ?_, ?_, fun inb => ?_, fun inb => ?_, fun inb => ?_⟩ ⟨?_, ?_, ?_, fun inb => ?_, fun inb => ?_, fun inb => ?_⟩
        all_goals
          simp (disch := decide) only [
          k0_pay1, k0_pay2, k0_pay3, k0_pay4, k0_pay5, k0_pay6, k0_pay7, k0_pay8, k0_pay9, k0_pay10, k0_pay11, k0_pay12, k0_pay13, k0_pay14, k0_pay15, k0_pay16, k0_pay17,
          k0_pay18, k0_pay19, k0_pay20, k0_pay21, k0_pay22, k0_pay23, k0_pay24, k0_pay25, k0_pay26, k0_pay27, k0_pay28, k0_pay29, k0_pay30, k0_pay31, k0_pay32, k0_pay33,
          k0_pay34, k0_pay35, k0_pay36, k0_pay37, k0_pay38, k0_pay39, k0_pay40, k0_pay41, k0_pay42, k0_pay43, k0_pay44, k0_pay45, k0_pay46, k0_pay47, k0_pay48, k0_pay49,
          k0_pay50, k0_pay51, k0_pay52, k0_pay53, k0_pay54, k0_pay55, k0_pay56, k0_pay57, k0_pay58, k0_pay59, k0_pay60, k0_pay61, k0_pay62, k0_pay63, k0_pay64, k0_pay65,
          k0_pay66, k0_pay67, k0_pay68, k0_pay69, k0_pay70, k0_pay71, k0_pay72, k0_pay73, k0_pay74, k0_pay75, k0_pay76, k0_pay77, k0_pay78, k0_pay79, k0_pay80, k0_pay81,
          k0_pay82, k0_pay83, k0_pay84, k0_pay85, k0_pay86, k0_pay87, k0_pay88, k0_pay89, k0_pay90, k0_pay91, k0_pay92, k0_pay93, k0_pay94, k0_pay95, k0_pay96, k0_pay97,
          k0_pay98, k0_pay99, k0_pay100, k0_pay101, k0_pay102, k0_pay103, k0_pay104, k0_pay105, k0_pay106, k0_pay107, k0_pay108, k0_pay109, k0_pay110, k0_pay111,
          k0_pay112, k0_pay113, k0_pay114, k0_pay115, k0_pay116, k0_pay117, k0_pay118, k0_pay119, k0_pay120, k0_pay121, k0_pay122, k0_pay123, k0_pay124, k0_pay125,
          k0_pay126, k0_pay127, k0_pay128, k0_pay129, k0_pay130, k0_pay131, k0_pay132, k0_pay133, k0_pay134, k0_pay135, k0_pay136, k0_pay137, k0_pay138, k0_pay139,
          k0_pay140, k0_pay141, k0_pay143, k0_pay144, k0_pay145, k0_pay146, k0_pay147, k0_pay148, k0_pay149, k0_pay150, k0_pay151, k0_pay152, k0_pay153, k0_pay154,
          k0_pay155, k0_pay156, k0_pay157, k0_pay158, k0_pay159, k0_pay160, k0_pay161, k0_pay162, k0_pay163, k0_pay164, k0_pay165, k0_pay166, k0_pay167, k0_pay168,
          k0_pay169, k0_pay170, k0_pay171, k0_pay172, k0_pay173, k0_pay174, k0_pay175, k0_pay176, k0_pay177, k0_pay178, k0_pay179, k0_pay180, k0_pay181, k0_pay182,
          k0_pay183, k0_pay184, k0_pay185, k0_pay186, k0_pay187, k0_pay188, k0_pay189, k0_pay190, k0_pay191, k0_pay192, k0_pay193, k0_pay194, k0_pay195, k0_pay196,
          k0_pay197, k0_pay198, k0_pay199, k0_pay200, k0_pay201, k0_pay202, k0_pay203, k0_pay204, k0_pay205, k0_pay206, k0_pay207, k0_pay208, k0_pay209, k0_pay210,
          k0_pay211, k0_pay212, k0_pay213, k0_pay214, k0_pay215, k0_pay216, k0_pay217, k0_pay218, k0_pay219, k0_pay220, k0_pay221, k0_pay222, k0_pay223, k0_pay224,
          k0_pay225, k0_pay226, k0_pay227, k0_pay228, k0_pay229, k0_pay230, k0_pay231, k0_pay232, k0_pay233, k0_pay234, k0_pay235, k0_pay236, k0_pay237, k0_pay238,
          k0_pay239, k0_pay240, k0_pay241, k0_pay242, k0_pay243, k0_pay244, k0_pay245, k0_pay246, k0_pay247, k0_pay248, k0_pay249, k0_pay250, k0_pay251, k0_pay252,
          k0_pay253, k0_pay254, k0_pay255, k0_pay256, k0_pay257, k0_pay258, k0_pay259, k0_pay260, k0_pay261, k0_pay262, k0_pay263, k0_pay264, k0_pay265, k0_pay266,
          k0_pay267, k0_pay268, k0_pay269, k0_pay270, k0_pay271, k0_pay272, k0_pay273, k0_pay274, k0_pay275, k0_pay276, k0_pay277, k0_pay278, k0_pay279, k0_pay280,
          k0_pay281, k0_pay282, k0_pay283, k0_pay284, k0_pay285, k0_pay286, k0_pay287, k0_pay288, k0_pay289, k0_pay290, k0_pay291, k0_pay292, k0_pay293, k0_pay294,
          k0_pay295, k0_pay296, k0_pay297, k0_pay298, k0_pay299, k0_pay300, k0_pay301, k0_pay302, k0_pay303, k0_pay304, k0_pay305, k0_pay306, k0_pay307, k0_pay308,
          k0_pay309, k0_pay310, k0_pay311, k0_pay312, k0_pay313, k0_pay314, k0_pay315, k0_pay316, k0_pay317, k0_pay318, k0_pay319, k0_pay320, k0_pay321, k0_pay322,
          k0_pay323, k0_pay324, k0_pay325, k0_pay326, k0_pay327, k0_pay328, k0_pay329, k0_pay330, k0_pay331, k0_pay332, k0_pay333, k0_pay334, k0_pay335, k0_pay336,
          k0_pay337, k0_pay338, k0_pay339, k0_pay340, k0_pay341, k0_pay342, k0_pay343, k0_pay344, k0_pay345, k0_pay346, k0_pay347, k0_pay348, k0_pay349, k0_pay350,
          k0_pay351, k0_pay352, k0_pay353, k0_pay354, k0_pay355, k0_pay356, k0_pay357, k0_pay358, k0_pay359, k0_pay360, k0_pay361, k0_pay362, k0_pay363, k0_pay364,
          k0_pay365, k0_pay366, k0_pay367, k0_pay368, k0_pay369, k0_pay370, k0_pay371, k0_pay372, k0_pay373, k0_pay374, k0_pay375, k0_pay376, k0_pay377, k0_pay378,
          k0_pay379, k0_pay380, k0_pay381, k0_pay382, k0_pay383, k0_pay384, k0_pay385, k0_pay386, k0_pay387, k0_pay388, k0_pay389, k0_pay390, k0_pay391, k0_pay392,
          k0_pay393, k0_pay394, k0_pay395, k0_pay396, k0_pay397, k0_pay398, k0_pay399, k0_pay400,
            View.readCov_cons_toLoadRect, View.readCov_skip, readAt_eq_ldOf, ↓ld_writes_last, ↓ld_writes_skip, ↓ld_fill, ld_keysL, ld_keys0L, ld_valsL, ld_zero, ld_zero', read_kScr, read_vScr, read_aScr, read_w0, read_w1, read_w3, read_w4, read_w5,
          stack_eq, shapeCast_shapeCast, sums, refRobust, addChunk, scoreOf, weightOf, topOf, Nat.reduceMul, Nat.reduceAdd]
        all_goals rfl
        )
      dsimp only at hR
      obtain ⟨-, ⟨a0, m0, l0, s0, p0, c0⟩, ⟨a1, m1, l1, s1, p1, c1⟩, ⟨a2, m2, l2, s2, p2, c2⟩, ⟨a3, m3, l3, s3, p3, c3⟩⟩ := hR
      dsimp only at a0 m0 l0 s0 p0 c0 a1 m1 l1 s1 p1 c1 a2 m2 l2 s2 p2 c2 a3 m3 l3 s3 p3 c3
      simp only [read_kScr, read_vScr, read_aScr, read_w0, read_w1, read_w3, read_w4, read_w5, Nat.reduceAdd, Nat.reduceMul] at a0 m0 l0 s0 p0 c0 a1 m1 l1 s1 p1 c1 a2 m2 l2 s2 p2 c2 a3 m3 l3 s3 p3 c3
      delta
        body_val.sl.H10_8 body_val.sl.H10_8_1 body_val.sl.H11_10 body_val.sl.H11_11 body_val.sl.H11_12 body_val.sl.H11_13 body_val.sl.H11_14 body_val.sl.H11_15
        body_val.sl.H11_16 body_val.sl.H11_17 body_val.sl.H11_18 body_val.sl.H11_19 body_val.sl.H11_20 body_val.sl.H11_21 body_val.sl.H11_22 body_val.sl.H11_23
        body_val.sl.H11_24 body_val.sl.H11_25 body_val.sl.H11_26 body_val.sl.H11_27 body_val.sl.H11_28 body_val.sl.H11_29 body_val.sl.H11_30 body_val.sl.H11_31
        body_val.sl.H11_32 body_val.sl.H11_36 body_val.sl.H11_4 body_val.sl.H11_5 body_val.sl.H11_6 body_val.sl.H11_7 body_val.sl.H11_8 body_val.sl.H11_9
        body_val.sl.H6_4 body_val.sl.H6_5 body_val.sl.Hk0_part27_7_10 body_val.sl.Hk0_part27_7_11 body_val.sl.Hk0_part27_7_12 body_val.sl.Hk0_part27_7_13
        body_val.sl.Hk0_part27_7_14 body_val.sl.Hk0_part27_7_15 body_val.sl.Hk0_part27_7_16 body_val.sl.Hk0_part27_7_17 body_val.sl.Hk0_part27_7_18
        body_val.sl.Hk0_part27_7_19 body_val.sl.Hk0_part27_7_20 body_val.sl.Hk0_part27_7_21 body_val.sl.Hk0_part27_7_22 body_val.sl.Hk0_part27_7_23
        body_val.sl.Hk0_part27_7_24 body_val.sl.Hk0_part27_7_25 body_val.sl.Hk0_part27_7_26 body_val.sl.Hk0_part27_7_27 body_val.sl.Hk0_part27_7_28
        body_val.sl.Hk0_part27_7_29 body_val.sl.Hk0_part27_7_30 body_val.sl.Hk0_part27_7_31 body_val.sl.Hk0_part27_7_32 body_val.sl.Hk0_part27_7_33
        body_val.sl.Hk0_part27_7_4 body_val.sl.Hk0_part27_7_4_1 body_val.sl.Hk0_part27_7_5 body_val.sl.Hk0_part27_7_5_1 body_val.sl.Hk0_part27_7_6
        body_val.sl.Hk0_part27_7_6_1 body_val.sl.Hk0_part27_7_7 body_val.sl.Hk0_part27_7_7_1 body_val.sl.Hk0_part27_7_8 body_val.sl.Hk0_part27_7_8_1
        body_val.sl.Hk0_part27_7_9 body_val.sl.cst_137 body_val.sl.cst_789 body_val.sl.r body_val.sl.r_1 body_val.sl.r_10 body_val.sl.r_100 body_val.sl.r_101
        body_val.sl.r_102 body_val.sl.r_103 body_val.sl.r_104 body_val.sl.r_105 body_val.sl.r_106 body_val.sl.r_107 body_val.sl.r_108 body_val.sl.r_109
        body_val.sl.r_11 body_val.sl.r_110 body_val.sl.r_111 body_val.sl.r_112 body_val.sl.r_113 body_val.sl.r_114 body_val.sl.r_115 body_val.sl.r_116
        body_val.sl.r_117 body_val.sl.r_118 body_val.sl.r_119 body_val.sl.r_12 body_val.sl.r_120 body_val.sl.r_121 body_val.sl.r_122 body_val.sl.r_123
        body_val.sl.r_124 body_val.sl.r_125 body_val.sl.r_126 body_val.sl.r_127 body_val.sl.r_128 body_val.sl.r_129 body_val.sl.r_13 body_val.sl.r_130
        body_val.sl.r_131 body_val.sl.r_132 body_val.sl.r_133 body_val.sl.r_134 body_val.sl.r_135 body_val.sl.r_136 body_val.sl.r_137 body_val.sl.r_138
        body_val.sl.r_139 body_val.sl.r_14 body_val.sl.r_140 body_val.sl.r_141 body_val.sl.r_142 body_val.sl.r_143 body_val.sl.r_144 body_val.sl.r_145
        body_val.sl.r_146 body_val.sl.r_147 body_val.sl.r_148 body_val.sl.r_149 body_val.sl.r_15 body_val.sl.r_150 body_val.sl.r_151 body_val.sl.r_152
        body_val.sl.r_153 body_val.sl.r_154 body_val.sl.r_155 body_val.sl.r_156 body_val.sl.r_157 body_val.sl.r_158 body_val.sl.r_159 body_val.sl.r_16
        body_val.sl.r_160 body_val.sl.r_161 body_val.sl.r_162 body_val.sl.r_163 body_val.sl.r_164 body_val.sl.r_165 body_val.sl.r_166 body_val.sl.r_167
        body_val.sl.r_168 body_val.sl.r_169 body_val.sl.r_17 body_val.sl.r_170 body_val.sl.r_171 body_val.sl.r_172 body_val.sl.r_173 body_val.sl.r_174
        body_val.sl.r_175 body_val.sl.r_176 body_val.sl.r_177 body_val.sl.r_178 body_val.sl.r_179 body_val.sl.r_18 body_val.sl.r_180 body_val.sl.r_181
        body_val.sl.r_182 body_val.sl.r_183 body_val.sl.r_184 body_val.sl.r_185 body_val.sl.r_186 body_val.sl.r_187 body_val.sl.r_188 body_val.sl.r_189
        body_val.sl.r_19 body_val.sl.r_190 body_val.sl.r_191 body_val.sl.r_192 body_val.sl.r_193 body_val.sl.r_194 body_val.sl.r_195 body_val.sl.r_196
        body_val.sl.r_197 body_val.sl.r_198 body_val.sl.r_199 body_val.sl.r_2 body_val.sl.r_20 body_val.sl.r_200 body_val.sl.r_201 body_val.sl.r_202
        body_val.sl.r_203 body_val.sl.r_204 body_val.sl.r_205 body_val.sl.r_206 body_val.sl.r_207 body_val.sl.r_208 body_val.sl.r_209 body_val.sl.r_21
        body_val.sl.r_210 body_val.sl.r_22 body_val.sl.r_23 body_val.sl.r_24 body_val.sl.r_25 body_val.sl.r_26 body_val.sl.r_27 body_val.sl.r_28
        body_val.sl.r_29 body_val.sl.r_3 body_val.sl.r_30 body_val.sl.r_31 body_val.sl.r_32 body_val.sl.r_33 body_val.sl.r_34 body_val.sl.r_35 body_val.sl.r_36
        body_val.sl.r_37 body_val.sl.r_38 body_val.sl.r_39 body_val.sl.r_4 body_val.sl.r_40 body_val.sl.r_41 body_val.sl.r_42 body_val.sl.r_43 body_val.sl.r_44
        body_val.sl.r_45 body_val.sl.r_46 body_val.sl.r_47 body_val.sl.r_48 body_val.sl.r_49 body_val.sl.r_5 body_val.sl.r_50 body_val.sl.r_51 body_val.sl.r_52
        body_val.sl.r_53 body_val.sl.r_54 body_val.sl.r_55 body_val.sl.r_56 body_val.sl.r_57 body_val.sl.r_58 body_val.sl.r_59 body_val.sl.r_6 body_val.sl.r_60
        body_val.sl.r_61 body_val.sl.r_62 body_val.sl.r_63 body_val.sl.r_64 body_val.sl.r_65 body_val.sl.r_66 body_val.sl.r_67 body_val.sl.r_68 body_val.sl.r_69
        body_val.sl.r_7 body_val.sl.r_70 body_val.sl.r_71 body_val.sl.r_72 body_val.sl.r_73 body_val.sl.r_74 body_val.sl.r_75 body_val.sl.r_76 body_val.sl.r_77
        body_val.sl.r_78 body_val.sl.r_79 body_val.sl.r_8 body_val.sl.r_80 body_val.sl.r_81 body_val.sl.r_82 body_val.sl.r_83 body_val.sl.r_84 body_val.sl.r_85
        body_val.sl.r_86 body_val.sl.r_87 body_val.sl.r_88 body_val.sl.r_89 body_val.sl.r_9 body_val.sl.r_90 body_val.sl.r_91 body_val.sl.r_92 body_val.sl.r_93
        body_val.sl.r_94 body_val.sl.r_95 body_val.sl.r_96 body_val.sl.r_97 body_val.sl.r_98 body_val.sl.r_99 body_val.sl.v1001 body_val.sl.v1012
        body_val.sl.v1015 body_val.sl.v1026 body_val.sl.v1029 body_val.sl.v1037 body_val.sl.v1046 body_val.sl.v1055 body_val.sl.v1064 body_val.sl.v1080
        body_val.sl.v1081 body_val.sl.v1082 body_val.sl.v1089 body_val.sl.v1098 body_val.sl.v1107 body_val.sl.v1116 body_val.sl.v1130 body_val.sl.v1139
        body_val.sl.v1148 body_val.sl.v1157 body_val.sl.v1166 body_val.sl.v1166_1 body_val.sl.v1178 body_val.sl.v1178_1 body_val.sl.v1190 body_val.sl.v1190_1
        body_val.sl.v1202 body_val.sl.v1202_1 body_val.sl.v1263 body_val.sl.v1266 body_val.sl.v1277 body_val.sl.v1280 body_val.sl.v1283 body_val.sl.v1291
        body_val.sl.v1294 body_val.sl.v1297 body_val.sl.v1305 body_val.sl.v1308 body_val.sl.v1311 body_val.sl.v1319 body_val.sl.v1322 body_val.sl.v1325
        body_val.sl.v133 body_val.sl.v1333 body_val.sl.v1336 body_val.sl.v1339 body_val.sl.v1347 body_val.sl.v1350 body_val.sl.v1353 body_val.sl.v1361
        body_val.sl.v1364 body_val.sl.v1367 body_val.sl.v1375 body_val.sl.v1384 body_val.sl.v1390 body_val.sl.v1393 body_val.sl.v1402 body_val.sl.v164
        body_val.sl.v167 body_val.sl.v195 body_val.sl.v198 body_val.sl.v226 body_val.sl.v229 body_val.sl.v257 body_val.sl.v260 body_val.sl.v288 body_val.sl.v291
        body_val.sl.v319 body_val.sl.v322 body_val.sl.v350 body_val.sl.v353 body_val.sl.v381 body_val.sl.v384 body_val.sl.v412 body_val.sl.v415 body_val.sl.v443
        body_val.sl.v446 body_val.sl.v474 body_val.sl.v477 body_val.sl.v505 body_val.sl.v508 body_val.sl.v536 body_val.sl.v539 body_val.sl.v567 body_val.sl.v570
        body_val.sl.v598 body_val.sl.v601 body_val.sl.v629 body_val.sl.v632 body_val.sl.v660 body_val.sl.v663 body_val.sl.v691 body_val.sl.v694 body_val.sl.v722
        body_val.sl.v725 body_val.sl.v753 body_val.sl.v756 body_val.sl.v784 body_val.sl.v787 body_val.sl.v815 body_val.sl.v818 body_val.sl.v846 body_val.sl.v849
        body_val.sl.v877 body_val.sl.v880 body_val.sl.v908 body_val.sl.v911 body_val.sl.v939 body_val.sl.v942 body_val.sl.v970 body_val.sl.v973 body_val.sl.v984
        body_val.sl.v987 body_val.sl.v998
      refine ⟨?_, ?_, ?_, ?_⟩
      all_goals
        simp (disch := decide) only [
        k0_pay1, k0_pay2, k0_pay3, k0_pay4, k0_pay5, k0_pay6, k0_pay7, k0_pay8, k0_pay9, k0_pay10, k0_pay11, k0_pay12, k0_pay13, k0_pay14, k0_pay15, k0_pay16, k0_pay17,
        k0_pay18, k0_pay19, k0_pay20, k0_pay21, k0_pay22, k0_pay23, k0_pay24, k0_pay25, k0_pay26, k0_pay27, k0_pay28, k0_pay29, k0_pay30, k0_pay31, k0_pay32, k0_pay33,
        k0_pay34, k0_pay35, k0_pay36, k0_pay37, k0_pay38, k0_pay39, k0_pay40, k0_pay41, k0_pay42, k0_pay43, k0_pay44, k0_pay45, k0_pay46, k0_pay47, k0_pay48, k0_pay49,
        k0_pay50, k0_pay51, k0_pay52, k0_pay53, k0_pay54, k0_pay55, k0_pay56, k0_pay57, k0_pay58, k0_pay59, k0_pay60, k0_pay61, k0_pay62, k0_pay63, k0_pay64, k0_pay65,
        k0_pay66, k0_pay67, k0_pay68, k0_pay69, k0_pay70, k0_pay71, k0_pay72, k0_pay73, k0_pay74, k0_pay75, k0_pay76, k0_pay77, k0_pay78, k0_pay79, k0_pay80, k0_pay81,
        k0_pay82, k0_pay83, k0_pay84, k0_pay85, k0_pay86, k0_pay87, k0_pay88, k0_pay89, k0_pay90, k0_pay91, k0_pay92, k0_pay93, k0_pay94, k0_pay95, k0_pay96, k0_pay97,
        k0_pay98, k0_pay99, k0_pay100, k0_pay101, k0_pay102, k0_pay103, k0_pay104, k0_pay105, k0_pay106, k0_pay107, k0_pay108, k0_pay109, k0_pay110, k0_pay111,
        k0_pay112, k0_pay113, k0_pay114, k0_pay115, k0_pay116, k0_pay117, k0_pay118, k0_pay119, k0_pay120, k0_pay121, k0_pay122, k0_pay123, k0_pay124, k0_pay125,
        k0_pay126, k0_pay127, k0_pay128, k0_pay129, k0_pay130, k0_pay131, k0_pay132, k0_pay133, k0_pay134, k0_pay135, k0_pay136, k0_pay137, k0_pay138, k0_pay139,
        k0_pay140, k0_pay141, k0_pay143, k0_pay144, k0_pay145, k0_pay146, k0_pay147, k0_pay148, k0_pay149, k0_pay150, k0_pay151, k0_pay152, k0_pay153, k0_pay154,
        k0_pay155, k0_pay156, k0_pay157, k0_pay158, k0_pay159, k0_pay160, k0_pay161, k0_pay162, k0_pay163, k0_pay164, k0_pay165, k0_pay166, k0_pay167, k0_pay168,
        k0_pay169, k0_pay170, k0_pay171, k0_pay172, k0_pay173, k0_pay174, k0_pay175, k0_pay176, k0_pay177, k0_pay178, k0_pay179, k0_pay180, k0_pay181, k0_pay182,
        k0_pay183, k0_pay184, k0_pay185, k0_pay186, k0_pay187, k0_pay188, k0_pay189, k0_pay190, k0_pay191, k0_pay192, k0_pay193, k0_pay194, k0_pay195, k0_pay196,
        k0_pay197, k0_pay198, k0_pay199, k0_pay200, k0_pay201, k0_pay202, k0_pay203, k0_pay204, k0_pay205, k0_pay206, k0_pay207, k0_pay208, k0_pay209, k0_pay210,
        k0_pay211, k0_pay212, k0_pay213, k0_pay214, k0_pay215, k0_pay216, k0_pay217, k0_pay218, k0_pay219, k0_pay220, k0_pay221, k0_pay222, k0_pay223, k0_pay224,
        k0_pay225, k0_pay226, k0_pay227, k0_pay228, k0_pay229, k0_pay230, k0_pay231, k0_pay232, k0_pay233, k0_pay234, k0_pay235, k0_pay236, k0_pay237, k0_pay238,
        k0_pay239, k0_pay240, k0_pay241, k0_pay242, k0_pay243, k0_pay244, k0_pay245, k0_pay246, k0_pay247, k0_pay248, k0_pay249, k0_pay250, k0_pay251, k0_pay252,
        k0_pay253, k0_pay254, k0_pay255, k0_pay256, k0_pay257, k0_pay258, k0_pay259, k0_pay260, k0_pay261, k0_pay262, k0_pay263, k0_pay264, k0_pay265, k0_pay266,
        k0_pay267, k0_pay268, k0_pay269, k0_pay270, k0_pay271, k0_pay272, k0_pay273, k0_pay274, k0_pay275, k0_pay276, k0_pay277, k0_pay278, k0_pay279, k0_pay280,
        k0_pay281, k0_pay282, k0_pay283, k0_pay284, k0_pay285, k0_pay286, k0_pay287, k0_pay288, k0_pay289, k0_pay290, k0_pay291, k0_pay292, k0_pay293, k0_pay294,
        k0_pay295, k0_pay296, k0_pay297, k0_pay298, k0_pay299, k0_pay300, k0_pay301, k0_pay302, k0_pay303, k0_pay304, k0_pay305, k0_pay306, k0_pay307, k0_pay308,
        k0_pay309, k0_pay310, k0_pay311, k0_pay312, k0_pay313, k0_pay314, k0_pay315, k0_pay316, k0_pay317, k0_pay318, k0_pay319, k0_pay320, k0_pay321, k0_pay322,
        k0_pay323, k0_pay324, k0_pay325, k0_pay326, k0_pay327, k0_pay328, k0_pay329, k0_pay330, k0_pay331, k0_pay332, k0_pay333, k0_pay334, k0_pay335, k0_pay336,
        k0_pay337, k0_pay338, k0_pay339, k0_pay340, k0_pay341, k0_pay342, k0_pay343, k0_pay344, k0_pay345, k0_pay346, k0_pay347, k0_pay348, k0_pay349, k0_pay350,
        k0_pay351, k0_pay352, k0_pay353, k0_pay354, k0_pay355, k0_pay356, k0_pay357, k0_pay358, k0_pay359, k0_pay360, k0_pay361, k0_pay362, k0_pay363, k0_pay364,
        k0_pay365, k0_pay366, k0_pay367, k0_pay368, k0_pay369, k0_pay370, k0_pay371, k0_pay372, k0_pay373, k0_pay374, k0_pay375, k0_pay376, k0_pay377, k0_pay378,
        k0_pay379, k0_pay380, k0_pay381, k0_pay382, k0_pay383, k0_pay384, k0_pay385, k0_pay386, k0_pay387, k0_pay388, k0_pay389, k0_pay390, k0_pay391, k0_pay392,
        k0_pay393, k0_pay394, k0_pay395, k0_pay396, k0_pay397, k0_pay398, k0_pay399, k0_pay400,
          a0, m0, l0, s0, p0, c0, a1, m1, l1, s1, p1, c1, a2, m2, l2, s2, p2, c2, a3, m3, l3, s3, p3, c3,
          View.readCov_cons_toLoadRect, View.readCov_skip, readAt_eq_ldOf, ↓ld_writes_last, ↓ld_writes_skip, ↓ld_fill, ld_keysL, ld_keys0L, ld_valsL, ld_zero, ld_zero', read_kScr, read_vScr, read_aScr, read_w0, read_w1, read_w3, read_w4, read_w5,
        stack_eq, shapeCast_shapeCast, headOut, outOf, sums_eight, refRobust_eight, addChunk, scoreOf, weightOf, topOf, Nat.reduceMul, Nat.reduceAdd]
      all_goals rfl
    isplitl [Hk0_part27_3]; · iexists _; isplitr [Hk0_part27_3]; rotate_left; · iexact Hk0_part27_3
                              ipureintro; rfl
    isplitl [Hk0_part27_5]; · iexists _; isplitr [Hk0_part27_5]; rotate_left; · iexact Hk0_part27_5
                              ipureintro; rfl
    sl_close
  · sl_exec
    sl_step
    iapply Hk
    isplitl [Hk0_part27_1]; · iexact Hk0_part27_1
    isplitl [H6]
    · iexists _
      isplitr [H6]; rotate_left; · iexact H6
      ipureintro
      refine Or.inl (out_eq _ _ _ _ _ _ _ _ _ _ _ _ ?_)
      delta
        body_val.sl.H10_8 body_val.sl.H10_8_1 body_val.sl.H11_10 body_val.sl.H11_11 body_val.sl.H11_12 body_val.sl.H11_13 body_val.sl.H11_14 body_val.sl.H11_15
        body_val.sl.H11_16 body_val.sl.H11_17 body_val.sl.H11_18 body_val.sl.H11_19 body_val.sl.H11_20 body_val.sl.H11_21 body_val.sl.H11_22 body_val.sl.H11_23
        body_val.sl.H11_24 body_val.sl.H11_25 body_val.sl.H11_26 body_val.sl.H11_27 body_val.sl.H11_28 body_val.sl.H11_29 body_val.sl.H11_30 body_val.sl.H11_31
        body_val.sl.H11_32 body_val.sl.H11_36 body_val.sl.H11_4 body_val.sl.H11_5 body_val.sl.H11_6 body_val.sl.H11_7 body_val.sl.H11_8 body_val.sl.H11_9
        body_val.sl.H6_4 body_val.sl.H6_5 body_val.sl.Hk0_part27_7_10 body_val.sl.Hk0_part27_7_11 body_val.sl.Hk0_part27_7_12 body_val.sl.Hk0_part27_7_13
        body_val.sl.Hk0_part27_7_14 body_val.sl.Hk0_part27_7_15 body_val.sl.Hk0_part27_7_16 body_val.sl.Hk0_part27_7_17 body_val.sl.Hk0_part27_7_18
        body_val.sl.Hk0_part27_7_19 body_val.sl.Hk0_part27_7_20 body_val.sl.Hk0_part27_7_21 body_val.sl.Hk0_part27_7_22 body_val.sl.Hk0_part27_7_23
        body_val.sl.Hk0_part27_7_24 body_val.sl.Hk0_part27_7_25 body_val.sl.Hk0_part27_7_26 body_val.sl.Hk0_part27_7_27 body_val.sl.Hk0_part27_7_28
        body_val.sl.Hk0_part27_7_29 body_val.sl.Hk0_part27_7_30 body_val.sl.Hk0_part27_7_31 body_val.sl.Hk0_part27_7_32 body_val.sl.Hk0_part27_7_33
        body_val.sl.Hk0_part27_7_4 body_val.sl.Hk0_part27_7_4_1 body_val.sl.Hk0_part27_7_5 body_val.sl.Hk0_part27_7_5_1 body_val.sl.Hk0_part27_7_6
        body_val.sl.Hk0_part27_7_6_1 body_val.sl.Hk0_part27_7_7 body_val.sl.Hk0_part27_7_7_1 body_val.sl.Hk0_part27_7_8 body_val.sl.Hk0_part27_7_8_1
        body_val.sl.Hk0_part27_7_9 body_val.sl.cst_137 body_val.sl.cst_789 body_val.sl.r body_val.sl.r_1 body_val.sl.r_10 body_val.sl.r_100 body_val.sl.r_101
        body_val.sl.r_102 body_val.sl.r_103 body_val.sl.r_104 body_val.sl.r_105 body_val.sl.r_106 body_val.sl.r_107 body_val.sl.r_108 body_val.sl.r_109
        body_val.sl.r_11 body_val.sl.r_110 body_val.sl.r_111 body_val.sl.r_112 body_val.sl.r_113 body_val.sl.r_114 body_val.sl.r_115 body_val.sl.r_116
        body_val.sl.r_117 body_val.sl.r_118 body_val.sl.r_119 body_val.sl.r_12 body_val.sl.r_120 body_val.sl.r_121 body_val.sl.r_122 body_val.sl.r_123
        body_val.sl.r_124 body_val.sl.r_125 body_val.sl.r_126 body_val.sl.r_127 body_val.sl.r_128 body_val.sl.r_129 body_val.sl.r_13 body_val.sl.r_130
        body_val.sl.r_131 body_val.sl.r_132 body_val.sl.r_133 body_val.sl.r_134 body_val.sl.r_135 body_val.sl.r_136 body_val.sl.r_137 body_val.sl.r_138
        body_val.sl.r_139 body_val.sl.r_14 body_val.sl.r_140 body_val.sl.r_141 body_val.sl.r_142 body_val.sl.r_143 body_val.sl.r_144 body_val.sl.r_145
        body_val.sl.r_146 body_val.sl.r_147 body_val.sl.r_148 body_val.sl.r_149 body_val.sl.r_15 body_val.sl.r_150 body_val.sl.r_151 body_val.sl.r_152
        body_val.sl.r_153 body_val.sl.r_154 body_val.sl.r_155 body_val.sl.r_156 body_val.sl.r_157 body_val.sl.r_158 body_val.sl.r_159 body_val.sl.r_16
        body_val.sl.r_160 body_val.sl.r_161 body_val.sl.r_162 body_val.sl.r_163 body_val.sl.r_164 body_val.sl.r_165 body_val.sl.r_166 body_val.sl.r_167
        body_val.sl.r_168 body_val.sl.r_169 body_val.sl.r_17 body_val.sl.r_170 body_val.sl.r_171 body_val.sl.r_172 body_val.sl.r_173 body_val.sl.r_174
        body_val.sl.r_175 body_val.sl.r_176 body_val.sl.r_177 body_val.sl.r_178 body_val.sl.r_179 body_val.sl.r_18 body_val.sl.r_180 body_val.sl.r_181
        body_val.sl.r_182 body_val.sl.r_183 body_val.sl.r_184 body_val.sl.r_185 body_val.sl.r_186 body_val.sl.r_187 body_val.sl.r_188 body_val.sl.r_189
        body_val.sl.r_19 body_val.sl.r_190 body_val.sl.r_191 body_val.sl.r_192 body_val.sl.r_193 body_val.sl.r_194 body_val.sl.r_195 body_val.sl.r_196
        body_val.sl.r_197 body_val.sl.r_198 body_val.sl.r_199 body_val.sl.r_2 body_val.sl.r_20 body_val.sl.r_200 body_val.sl.r_201 body_val.sl.r_202
        body_val.sl.r_203 body_val.sl.r_204 body_val.sl.r_205 body_val.sl.r_206 body_val.sl.r_207 body_val.sl.r_208 body_val.sl.r_209 body_val.sl.r_21
        body_val.sl.r_210 body_val.sl.r_22 body_val.sl.r_23 body_val.sl.r_24 body_val.sl.r_25 body_val.sl.r_26 body_val.sl.r_27 body_val.sl.r_28 body_val.sl.r_29
        body_val.sl.r_3 body_val.sl.r_30 body_val.sl.r_31 body_val.sl.r_32 body_val.sl.r_33 body_val.sl.r_34 body_val.sl.r_35 body_val.sl.r_36 body_val.sl.r_37
        body_val.sl.r_38 body_val.sl.r_39 body_val.sl.r_4 body_val.sl.r_40 body_val.sl.r_41 body_val.sl.r_42 body_val.sl.r_43 body_val.sl.r_44 body_val.sl.r_45
        body_val.sl.r_46 body_val.sl.r_47 body_val.sl.r_48 body_val.sl.r_49 body_val.sl.r_5 body_val.sl.r_50 body_val.sl.r_51 body_val.sl.r_52 body_val.sl.r_53
        body_val.sl.r_54 body_val.sl.r_55 body_val.sl.r_56 body_val.sl.r_57 body_val.sl.r_58 body_val.sl.r_59 body_val.sl.r_6 body_val.sl.r_60 body_val.sl.r_61
        body_val.sl.r_62 body_val.sl.r_63 body_val.sl.r_64 body_val.sl.r_65 body_val.sl.r_66 body_val.sl.r_67 body_val.sl.r_68 body_val.sl.r_69 body_val.sl.r_7
        body_val.sl.r_70 body_val.sl.r_71 body_val.sl.r_72 body_val.sl.r_73 body_val.sl.r_74 body_val.sl.r_75 body_val.sl.r_76 body_val.sl.r_77 body_val.sl.r_78
        body_val.sl.r_79 body_val.sl.r_8 body_val.sl.r_80 body_val.sl.r_81 body_val.sl.r_82 body_val.sl.r_83 body_val.sl.r_84 body_val.sl.r_85 body_val.sl.r_86
        body_val.sl.r_87 body_val.sl.r_88 body_val.sl.r_89 body_val.sl.r_9 body_val.sl.r_90 body_val.sl.r_91 body_val.sl.r_92 body_val.sl.r_93 body_val.sl.r_94
        body_val.sl.r_95 body_val.sl.r_96 body_val.sl.r_97 body_val.sl.r_98 body_val.sl.r_99 body_val.sl.v1001 body_val.sl.v1012 body_val.sl.v1015
        body_val.sl.v1026 body_val.sl.v1029 body_val.sl.v1037 body_val.sl.v1046 body_val.sl.v1055 body_val.sl.v1064 body_val.sl.v1080 body_val.sl.v1081
        body_val.sl.v1082 body_val.sl.v1089 body_val.sl.v1098 body_val.sl.v1107 body_val.sl.v1116 body_val.sl.v1130 body_val.sl.v1139 body_val.sl.v1148
        body_val.sl.v1157 body_val.sl.v1166 body_val.sl.v1166_1 body_val.sl.v1178 body_val.sl.v1178_1 body_val.sl.v1190 body_val.sl.v1190_1 body_val.sl.v1202
        body_val.sl.v1202_1 body_val.sl.v1263 body_val.sl.v1266 body_val.sl.v1277 body_val.sl.v1280 body_val.sl.v1283 body_val.sl.v1291 body_val.sl.v1294
        body_val.sl.v1297 body_val.sl.v1305 body_val.sl.v1308 body_val.sl.v1311 body_val.sl.v1319 body_val.sl.v1322 body_val.sl.v1325 body_val.sl.v133
        body_val.sl.v1333 body_val.sl.v1336 body_val.sl.v1339 body_val.sl.v1347 body_val.sl.v1350 body_val.sl.v1353 body_val.sl.v1361 body_val.sl.v1364
        body_val.sl.v1367 body_val.sl.v1375 body_val.sl.v1384 body_val.sl.v1390 body_val.sl.v1393 body_val.sl.v1402 body_val.sl.v164 body_val.sl.v167
        body_val.sl.v195 body_val.sl.v198 body_val.sl.v226 body_val.sl.v229 body_val.sl.v257 body_val.sl.v260 body_val.sl.v288 body_val.sl.v291 body_val.sl.v319
        body_val.sl.v322 body_val.sl.v350 body_val.sl.v353 body_val.sl.v381 body_val.sl.v384 body_val.sl.v412 body_val.sl.v415 body_val.sl.v443 body_val.sl.v446
        body_val.sl.v474 body_val.sl.v477 body_val.sl.v505 body_val.sl.v508 body_val.sl.v536 body_val.sl.v539 body_val.sl.v567 body_val.sl.v570 body_val.sl.v598
        body_val.sl.v601 body_val.sl.v629 body_val.sl.v632 body_val.sl.v660 body_val.sl.v663 body_val.sl.v691 body_val.sl.v694 body_val.sl.v722 body_val.sl.v725
        body_val.sl.v753 body_val.sl.v756 body_val.sl.v784 body_val.sl.v787 body_val.sl.v815 body_val.sl.v818 body_val.sl.v846 body_val.sl.v849 body_val.sl.v877
        body_val.sl.v880 body_val.sl.v908 body_val.sl.v911 body_val.sl.v939 body_val.sl.v942 body_val.sl.v970 body_val.sl.v973 body_val.sl.v984 body_val.sl.v987
        body_val.sl.v998
      refine ⟨?_, ?_, ?_, ?_⟩
      all_goals
        simp (disch := decide) only [
          k0_pay1, k0_pay2, k0_pay3, k0_pay4, k0_pay5, k0_pay6, k0_pay7, k0_pay8, k0_pay9, k0_pay10, k0_pay11, k0_pay12, k0_pay13, k0_pay14, k0_pay15, k0_pay16, k0_pay17,
          k0_pay18, k0_pay19, k0_pay20, k0_pay21, k0_pay22, k0_pay23, k0_pay24, k0_pay25, k0_pay26, k0_pay27, k0_pay28, k0_pay29, k0_pay30, k0_pay31, k0_pay32, k0_pay33,
          k0_pay34, k0_pay35, k0_pay36, k0_pay37, k0_pay38, k0_pay39, k0_pay40, k0_pay41, k0_pay42, k0_pay43, k0_pay44, k0_pay45, k0_pay46, k0_pay47, k0_pay48, k0_pay49,
          k0_pay50, k0_pay51, k0_pay52, k0_pay53, k0_pay54, k0_pay55, k0_pay56, k0_pay57, k0_pay58, k0_pay59, k0_pay60, k0_pay61, k0_pay62, k0_pay63, k0_pay64, k0_pay65,
          k0_pay66, k0_pay67, k0_pay68, k0_pay69, k0_pay70, k0_pay71, k0_pay72, k0_pay73, k0_pay74, k0_pay75, k0_pay76, k0_pay77, k0_pay78, k0_pay79, k0_pay80, k0_pay81,
          k0_pay82, k0_pay83, k0_pay84, k0_pay85, k0_pay86, k0_pay87, k0_pay88, k0_pay89, k0_pay90, k0_pay91, k0_pay92, k0_pay93, k0_pay94, k0_pay95, k0_pay96, k0_pay97,
          k0_pay98, k0_pay99, k0_pay100, k0_pay101, k0_pay102, k0_pay103, k0_pay104, k0_pay105, k0_pay106, k0_pay107, k0_pay108, k0_pay109, k0_pay110, k0_pay111,
          k0_pay112, k0_pay113, k0_pay114, k0_pay115, k0_pay116, k0_pay117, k0_pay118, k0_pay119, k0_pay120, k0_pay121, k0_pay122, k0_pay123, k0_pay124, k0_pay125,
          k0_pay126, k0_pay127, k0_pay128, k0_pay129, k0_pay130, k0_pay131, k0_pay132, k0_pay133, k0_pay134, k0_pay135, k0_pay136, k0_pay137, k0_pay138, k0_pay139,
          k0_pay140, k0_pay141, k0_pay143, k0_pay144, k0_pay145, k0_pay146, k0_pay147, k0_pay148, k0_pay149, k0_pay150, k0_pay151, k0_pay152, k0_pay153, k0_pay154,
          k0_pay155, k0_pay156, k0_pay157, k0_pay158, k0_pay159, k0_pay160, k0_pay161, k0_pay162, k0_pay163, k0_pay164, k0_pay165, k0_pay166, k0_pay167, k0_pay168,
          k0_pay169, k0_pay170, k0_pay171, k0_pay172, k0_pay173, k0_pay174, k0_pay175, k0_pay176, k0_pay177, k0_pay178, k0_pay179, k0_pay180, k0_pay181, k0_pay182,
          k0_pay183, k0_pay184, k0_pay185, k0_pay186, k0_pay187, k0_pay188, k0_pay189, k0_pay190, k0_pay191, k0_pay192, k0_pay193, k0_pay194, k0_pay195, k0_pay196,
          k0_pay197, k0_pay198, k0_pay199, k0_pay200, k0_pay201, k0_pay202, k0_pay203, k0_pay204, k0_pay205, k0_pay206, k0_pay207, k0_pay208, k0_pay209, k0_pay210,
          k0_pay211, k0_pay212, k0_pay213, k0_pay214, k0_pay215, k0_pay216, k0_pay217, k0_pay218, k0_pay219, k0_pay220, k0_pay221, k0_pay222, k0_pay223, k0_pay224,
          k0_pay225, k0_pay226, k0_pay227, k0_pay228, k0_pay229, k0_pay230, k0_pay231, k0_pay232, k0_pay233, k0_pay234, k0_pay235, k0_pay236, k0_pay237, k0_pay238,
          k0_pay239, k0_pay240, k0_pay241, k0_pay242, k0_pay243, k0_pay244, k0_pay245, k0_pay246, k0_pay247, k0_pay248, k0_pay249, k0_pay250, k0_pay251, k0_pay252,
          k0_pay253, k0_pay254, k0_pay255, k0_pay256, k0_pay257, k0_pay258, k0_pay259, k0_pay260, k0_pay261, k0_pay262, k0_pay263, k0_pay264, k0_pay265, k0_pay266,
          k0_pay267, k0_pay268, k0_pay269, k0_pay270, k0_pay271, k0_pay272, k0_pay273, k0_pay274, k0_pay275, k0_pay276, k0_pay277, k0_pay278, k0_pay279, k0_pay280,
          k0_pay281, k0_pay282, k0_pay283, k0_pay284, k0_pay285, k0_pay286, k0_pay287, k0_pay288, k0_pay289, k0_pay290, k0_pay291, k0_pay292, k0_pay293, k0_pay294,
          k0_pay295, k0_pay296, k0_pay297, k0_pay298, k0_pay299, k0_pay300, k0_pay301, k0_pay302, k0_pay303, k0_pay304, k0_pay305, k0_pay306, k0_pay307, k0_pay308,
          k0_pay309, k0_pay310, k0_pay311, k0_pay312, k0_pay313, k0_pay314, k0_pay315, k0_pay316, k0_pay317, k0_pay318, k0_pay319, k0_pay320, k0_pay321, k0_pay322,
          k0_pay323, k0_pay324, k0_pay325, k0_pay326, k0_pay327, k0_pay328, k0_pay329, k0_pay330, k0_pay331, k0_pay332, k0_pay333, k0_pay334, k0_pay335, k0_pay336,
          k0_pay337, k0_pay338, k0_pay339, k0_pay340, k0_pay341, k0_pay342, k0_pay343, k0_pay344, k0_pay345, k0_pay346, k0_pay347, k0_pay348, k0_pay349, k0_pay350,
          k0_pay351, k0_pay352, k0_pay353, k0_pay354, k0_pay355, k0_pay356, k0_pay357, k0_pay358, k0_pay359, k0_pay360, k0_pay361, k0_pay362, k0_pay363, k0_pay364,
          k0_pay365, k0_pay366, k0_pay367, k0_pay368, k0_pay369, k0_pay370, k0_pay371, k0_pay372, k0_pay373, k0_pay374, k0_pay375, k0_pay376, k0_pay377, k0_pay378,
          k0_pay379, k0_pay380, k0_pay381, k0_pay382, k0_pay383, k0_pay384, k0_pay385, k0_pay386, k0_pay387, k0_pay388, k0_pay389, k0_pay390, k0_pay391, k0_pay392,
          k0_pay393, k0_pay394, k0_pay395, k0_pay396, k0_pay397, k0_pay398, k0_pay399, k0_pay400,
          View.readCov_cons_toLoadRect, View.readCov_skip, readAt_eq_ldOf, ↓ld_writes_last, ↓ld_writes_skip, ↓ld_fill, ld_keysL, ld_keys0L, ld_valsL, ld_zero, ld_zero', read_kScr, read_vScr, read_aScr, read_w0, read_w1, read_w3, read_w4, read_w5,
          stack_eq, shapeCast_shapeCast, headOut, outOf, sums, refFast, addChunk, scoreOf, weightOf, topOf, top0, Nat.reduceMul]
      all_goals rfl
    isplitl [Hk0_part27_3]; · iexists _; isplitr [Hk0_part27_3]; rotate_left; · iexact Hk0_part27_3
                              ipureintro; rfl
    isplitl [Hk0_part27_5]; · iexists _; isplitr [Hk0_part27_5]; rotate_left; · iexact Hk0_part27_5
                              ipureintro; rfl
    sl_close
end Body
end Cert.Kernel.Hand

end
-- ==== Proof.RunVal.lean ====
module

public import proofs.«01_k».proof.Proof.BodyVal
public import Idealize.ShloMosaic.Lib.Pipeline.FrameBody
public import Idealize.ShloMosaic.Lib.Tactic

@[expose] public section

set_option maxRecDepth 16384

noncomputable section

namespace Cert.Kernel.Hand.Exact

open Cert.Kernel Cert.Kernel.Gen Cert.Kernel.Model Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline library's beside the transfers' counters. -/
local notation "𝕄" => MT nD τ sig Unit (Elt F) ℕ (Pipeline.UD sig nD τ) ℕ

theorem coord0 : ∀ t : Fin grid0.N, (grid0.coords t 0).val = t.val / 32 := by decide +kernel
theorem coord1 : ∀ t : Fin grid0.N, (grid0.coords t 1).val = t.val / 16 % 2 := by decide +kernel
theorem coord2 : ∀ t : Fin grid0.N, (grid0.coords t 2).val = t.val % 16 := by decide +kernel
theorem cond_of : ∀ t : Fin grid0.N, k0_cond1 (grid0.coords t) ≠ 1#1 → t.val % 16 ≠ 0 := by decide +kernel

variable (m : (ℓ : Loc nD τ sig) → Buf (Elt F) ℓ) (ρ : Dev nD → PrngReg)
variable (G : (c : Dev nD) → Buf (Elt F) ((c.tc : Thread nD τ).loc main_v0))

/-- The block of `G` that point `t` writes. -/
abbrev gblk (c : Dev nD) (t : Fin cfg0.N) : FVec F S1x256x256 .f32 := (win0_1.blk t).view.read (Elt F) (G c)

/-- Either path's rows at point `t` are `G`'s block. -/
def Good : Prop := ∀ (c : Dev nD) (t : Fin cfg0.N),
  fastOut (kTile (V m c main_arg1) (grid0.coords t 0).val (grid0.coords t 1).val) (vTile (V m c main_arg2) (grid0.coords t 0).val (grid0.coords t 1).val) (iblk m c 0 t) = gblk G c t
  ∧ robustOut (kTile (V m c main_arg1) (grid0.coords t 0).val (grid0.coords t 1).val) (vTile (V m c main_arg2) (grid0.coords t 0).val (grid0.coords t 1).val) (iblk m c 0 t) = gblk G c t

/-- Before point `n`: inside a run of sixteen points the two scratch buffers hold the keys and the values of the run's heads. -/
def PhiV (c : Dev nD) (n : ℕ) : sProp 𝕄 :=
  iprop(iprop(someP c kScr (fun f => n % 16 ≠ 0 → f = kTile (V m c main_arg1) (n / 32) (n / 16 % 2))
      ∗ someP c vScr (fun f => n % 16 ≠ 0 → f = vTile (V m c main_arg2) (n / 32) (n / 16 % 2)) ∗ some0 c sScr ∗ some0 c pScr ∗ some0 c aScr)
    ∗ (∃ r, prngReg c r) ∗ cells0 c ∗ hbPt c kHbm (V m c main_arg1) ∗ hbPt c vHbm (V m c main_arg2))

/-- The proof data: the queries' buffer left in place, the result's buffer left at `G`'s block. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => gblk G c t
  Φ t := PhiV m c t.val
  q _ := fullShare
  owed _ := 0

theorem A_eq (c : Dev nD) (w : Fin cfg0.W) : (dats m G 0 c).A w = V m c (Pipeline.arrRef spec0 w) := by
  dsimp only [dats]
theorem after0_0 (c : Dev nD) (t : Fin cfg0.N) : (dats m G 0 c).after 0 t = iblk m c 0 t := by dsimp only [dats]
theorem after0_1 (c : Dev nD) (t : Fin cfg0.N) : (dats m G 0 c).after 1 t = gblk G c t := by dsimp only [dats]

def bodyPre (c : Dev nD) (t : Fin cfg0.N) : sProp 𝕄 :=
  iprop((dats m G 0 c).Φ t.castSucc ∗ (dats m G 0 c).owesAt () t.castSucc
    ∗ (∃ d, owns (c : Thread nD τ) (st0_0 t) fullShare ((dats m G 0 c).before 0 t d))
    ∗ (∃ d, owns (c : Thread nD τ) (st0_1 t) fullShare ((dats m G 0 c).before 1 t d)))
def bodyPost (c : Dev nD) (t : Fin cfg0.N) : sProp 𝕄 :=
  iprop((dats m G 0 c).Φ t.succ ∗ (dats m G 0 c).owesAt () t.succ
    ∗ owns (c : Thread nD τ) (st0_0 t) fullShare ((dats m G 0 c).after 0 t)
    ∗ owns (c : Thread nD τ) (st0_1 t) fullShare ((dats m G 0 c).after 1 t))

theorem sound_body (hG : Good m G) (c : Dev nD) (t : Fin cfg0.N) :
    bodyPre m G c t ⊢ wp frame (wpE (defs₀ (F := F)) Variants.none c none) Set.univ (bodyAt0 t) (fun _ => bodyPost m G c t) := by
  unfold bodyPre bodyPost bodyAt0
  rw [show (dats m G 0 c).Φ t.succ = PhiV m c (t.val + 1) from rfl, after0_0, after0_1]
  rw [show (dats m G 0 c).Φ t.castSucc = PhiV m c t.val from rfl]
  unfold Dat.owesAt Pipeline.owesWithin
  rw [show (dats m G 0 c).owed t.castSucc = 0 from rfl, show (dats m G 0 c).owed t.succ = 0 from rfl]
  simp only [before0 m (dats m G 0 c) (A_eq m G c 0) (after0_0 m G c) t]
  unfold owns PhiV
  have h0 := coord0 t
  have h1 := coord1 t
  have hg := hG c t
  iintro ⟨⟨⟨⟨%f7, %e7, H7⟩, ⟨%f8, %e8, H8⟩, H10, H11, H12⟩, Hg, Hq, Hh1, Hh2⟩, ⟨%W, -, HW⟩, ⟨%d0, %f0, %hf0, H0⟩, ⟨%d1, %f6, -, H6⟩⟩
  iapply (body_val c (grid0.coords t) (st0_0 t) _ (st0_1 t) _ f0 (V m c main_arg1) (V m c main_arg2) W _)
  isplitl [H0]; · iexact H0
  isplitl [H6]; · iexists _; iexact H6
  isplitl [H7]
  · iexists f7; isplitr; · ipureintro; intro h; rw [h0, h1]; exact e7 (cond_of t h)
    iexact H7
  isplitl [H8]
  · iexists f8; isplitr; · ipureintro; intro h; rw [h0, h1]; exact e8 (cond_of t h)
    iexact H8
  isplitl [H10]; · iexact H10
  isplitl [H11]; · iexact H11
  isplitl [H12]; · iexact H12
  isplitl [Hq]; · iexact Hq
  isplitl [Hh1]; · iexact Hh1
  isplitl [Hh2]; · iexact Hh2
  isplitl [HW]; · iexact HW
  iintro ⟨H0, ⟨%f6', %e6', H6⟩, ⟨%f7', %e7', H7⟩, ⟨%f8', %e8', H8⟩, H10, H11, H12, Hq, Hh1, Hh2, ⟨%W', HW'⟩⟩
  isplitl [H7 H8 H10 H11 H12 Hg Hq Hh1 Hh2]
  · isplitl [H7 H8 H10 H11 H12]
    · isplitl [H7]
      · iexists f7'; isplitr
        · ipureintro; intro h
          rw [e7', h0, h1, show (t.val + 1) / 32 = t.val / 32 by omega, show (t.val + 1) / 16 % 2 = t.val / 16 % 2 by omega]
        iexact H7
      isplitl [H8]
      · iexists f8'; isplitr
        · ipureintro; intro h
          rw [e8', h0, h1, show (t.val + 1) / 32 = t.val / 32 by omega, show (t.val + 1) / 16 % 2 = t.val / 16 % 2 by omega]
        iexact H8
      isplitl [H10]; · iexact H10
      isplitl [H11]; · iexact H11
      iexact H12
    isplitl [Hg]; · iexact Hg
    isplitl [Hq]; · iexact Hq
    isplitl [Hh1]; · iexact Hh1
    iexact Hh2
  isplitl [HW']
  · iexists W'; isplitr; · ipureintro; exact fun _ _ => Or.inl trivial
    iexact HW'
  isplitl [H0]
  · iexists f0; isplitr; · ipureintro; exact hf0
    iexact H0
  iexists f6'; isplitr
  · ipureintro
    rw [hf0] at e6'
    rcases e6' with h | h
    · exact h.trans hg.1
    · exact h.trans hg.2
  iexact H6

theorem body_obligation (hG : Good m G) (c : Dev nD) : Pipeline.BodyObligationLoose (dats (F := F) m G 0 c) (defs₀ (F := F)) Variants.none () Set.univ := fun t => by
  rw [bigSep_W0, bigSep_W0, defs₀_row]
  exact triple_restated (sound_body m G hG c t) rfl .rfl fun _ => .rfl

theorem hin (c : Dev nD) : Pipeline.ΦD osem0 spec0 H0 (V m) c ⊢ (dats (F := F) m G 0 c).Φ 0 := by
  rw [PhiD0_eq, show (dats m G 0 c).Φ 0 = PhiV m c 0 from rfl]
  unfold PhiV
  iintro ⟨⟨⟨%f7, H7⟩, ⟨%f8, H8⟩, Hr⟩, Hs⟩
  isplitr [Hs]
  · isplitl [H7]
    · iexists f7; isplitr; · ipureintro; exact fun h => absurd rfl h
      iexact H7
    isplitl [H8]
    · iexists f8; isplitr; · ipureintro; exact fun h => absurd rfl h
      iexact H8
    iexact Hr
  iexact Hs

theorem hout (c : Dev nD) : (dats (F := F) m G 0 c).Φ (Fin.last cfg0.N) ⊢ Pipeline.ΦD osem0 spec0 H0 (V m) c := by
  rw [PhiD0_eq, show (dats m G 0 c).Φ (Fin.last cfg0.N) = PhiV m c (Fin.last cfg0.N).val from rfl]
  unfold PhiV
  iintro ⟨⟨⟨%f7, %e7, H7⟩, ⟨%f8, %e8, H8⟩, Hr⟩, Hs⟩
  isplitr [Hs]
  · isplitl [H7]
    · iexists f7; iexact H7
    isplitl [H8]
    · iexists f8; iexact H8
    iexact Hr
  iexact Hs

set_option backward.isDefEq.respectTransparency.types false in
theorem run_main (hG : Good m G) : θ_run defs (onTc (τ := τ) (main (F := F))) (s₀ m ρ)
    (fun r => Pipeline.FramePost cfgs (dats m G) 0 (V m) r ∧ r.2.sem = fun _ => 0) :=
  Pipeline.θ_run_frame_dma (Q' := _) cfgs (dats m G) (0 : Fin 1) launch0 osem0 defs₀ Variants.none ownSemFacts0 H0 H0_sub m ρ main
    (hbody := body_obligation m G hG) (hshare := fun c => (dats m G 0 c).share_full fun _ => rfl)
    (howed := fun _ _ => rfl) (V := V m) (hmain := hmain m Variants.none) (hA := A_eq m G)
    (hin := hin m G) (hout := hout m G)

/-- The result array ends holding `G`. -/
theorem final_o (c : Dev nD) : (dats m G 0 c).arrAt 1 cfg0.N = G c := by
  refine (dats m G 0 c).arrAt_eq_of_covers 1 _ (by decide +kernel) fun t hf y => ?_
  blk_simp
  rw [after0_1]
  rfl

/-- The kernel's run where either path's rows are `G`'s: the result is `G`, the three arguments end as they were. -/
theorem run (hG : Good m G) : θ_run defs (onTc (τ := τ) (main (F := F))) ⟨m, fun _ => 0, ρ⟩ (fun r => ∀ c : Dev nD,
      r.2.mem ((c.tc : Thread nD τ).loc main_v0) = G c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 1).trans (final_o m G c), ((h.1 c).1 0).trans ((dats m G 0 c).arrAt_in 0 rfl _),
      (h.1 c).2 main_arg1 (Pipeline.mem_restRefs_of main_arg1 (by decide) (by decide)),
      (h.1 c).2 main_arg2 (Pipeline.mem_restRefs_of main_arg2 (by decide) (by decide))⟩) (run_main m ρ G hG)

end Cert.Kernel.Hand.Exact

end
-- ==== Proof.Num.lean ====
module

public import Idealize.ShloMosaic.Lib.Pointwise

@[expose] public section

noncomputable section

/-! The arithmetic of a weighted mean over the extended reals: real scores, values that may be anything. -/

namespace Cert.Mean

/-- An extended real that is a real. -/
def IsReal (x : EReal) : Prop := ∃ r : ℝ, x = (r : EReal)

theorem IsReal.of_ne {x : EReal} (h1 : x ≠ ⊥) (h2 : x ≠ ⊤) : IsReal x := ⟨x.toReal, (EReal.coe_toReal h2 h1).symm⟩
theorem IsReal.eq_coe {x : EReal} : IsReal x → x = (x.toReal : EReal) | ⟨a, ha⟩ => by rw [ha, EReal.toReal_coe]
theorem IsReal.coe (r : ℝ) : IsReal (r : EReal) := ⟨r, rfl⟩
theorem IsReal.mul {x y : EReal} : IsReal x → IsReal y → IsReal (x * y)
  | ⟨a, ha⟩, ⟨b, hb⟩ => ⟨a * b, by rw [ha, hb, EReal.coe_mul]⟩
theorem IsReal.add {x y : EReal} : IsReal x → IsReal y → IsReal (x + y)
  | ⟨a, ha⟩, ⟨b, hb⟩ => ⟨a + b, by rw [ha, hb, EReal.coe_add]⟩
theorem IsReal.max {x y : EReal} (hx : IsReal x) (hy : IsReal y) : IsReal (max x y) := by
  rcases max_choice x y with h | h <;> rw [h] <;> assumption
theorem IsReal.sum {ι : Type} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih
theorem IsReal.ne_top {x : EReal} : IsReal x → x ≠ ⊤ | ⟨a, ha⟩ => by rw [ha]; exact EReal.coe_ne_top a
theorem IsReal.ne_bot {x : EReal} : IsReal x → x ≠ ⊥ | ⟨a, ha⟩ => by rw [ha]; exact EReal.coe_ne_bot a
theorem IsReal.fold_max {ι : Type} (s : Finset ι) (hs : s.Nonempty) {f : ι → EReal} (h : ∀ i, IsReal (f i)) : IsReal (s.fold Max.max ⊥ f) := by
  obtain ⟨i, hi⟩ := hs
  refine .of_ne (bot_lt_iff_ne_bot.mp ?_) (lt_top_iff_ne_top.mp ?_)
  · exact (Finset.lt_fold_max _).mpr (.inr ⟨i, hi, bot_lt_iff_ne_bot.mpr (h i).ne_bot⟩)
  · exact (Finset.fold_max_lt _).mpr ⟨bot_lt_top, fun x _ => lt_top_iff_ne_top.mpr (h x).ne_top⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real goes into a sum of extended reals. -/
theorem mul_sum {ι : Type} (r : ℝ) (hr : 0 ≤ r) (s : Finset ι) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

/-- Two to a real power. -/
def two (x : ℝ) : ℝ := Real.rpow 2 x
theorem two_pos (x : ℝ) : 0 < two x := Real.rpow_pos_of_pos (by norm_num) x
theorem two_add (x y : ℝ) : two (x + y) = two x * two y := Real.rpow_add (by norm_num) x y

/-- Sums rescaled at every chunk are the unscaled sums times two to minus the reference. -/
theorem acc_eq {κ : Type} [Fintype κ] (ρ : ℕ → ℝ) (s : ℕ → κ → ℝ) (v : ℕ → κ → EReal) (a : ℕ → EReal) (h0 : a 0 = 0)
    (hs : ∀ n, a (n + 1) = (two (ρ n - ρ (n + 1)) : EReal) * a n + ∑ k, v n k * (two (s n k - ρ (n + 1)) : EReal)) (n : ℕ) :
    a n = (two (-ρ n) : EReal) * ∑ i ∈ Finset.range n, ∑ k, v i k * (two (s i k) : EReal) := by
  induction n with
  | zero => simp [h0]
  | succ n ih =>
    rw [hs, ih, Finset.sum_range_succ, EReal.left_distrib_of_nonneg_of_ne_top (EReal.coe_nonneg.mpr (two_pos _).le) (EReal.coe_ne_top _),
      ← mul_assoc, ← EReal.coe_mul, ← two_add, mul_sum _ (two_pos _).le Finset.univ]
    congr 1
    · congr 3; ring
    · refine Finset.sum_congr rfl fun k _ => ?_
      rw [show s n k - ρ (n + 1) = -ρ (n + 1) + s n k by ring, two_add, EReal.coe_mul, mul_left_comm]

/-- The mean of `V` weighted by two to the scores. -/
def mean {κ : Type} [Fintype κ] (S : κ → ℝ) (V : κ → EReal) : EReal :=
  (∑ j, V j * (two (S j) : EReal)) * ((1 / ∑ j, two (S j) : ℝ) : EReal)

/-- A quotient of two sums scaled alike. -/
theorem div_scaled {c B : ℝ} (hc : 0 < c) (hB : 0 < B) (A : EReal) :
    Idealize.ShloMosaic.Ideal.div ((c : EReal) * A) ((c : EReal) * (B : EReal)) = A * ((1 / B : ℝ) : EReal) := by
  rw [← EReal.coe_mul, Idealize.ShloMosaic.Ideal.div_coe (mul_pos hc hB).ne', mul_comm (c : EReal) A, mul_assoc, ← EReal.coe_mul]
  congr 2
  field_simp

/-- The reference's form: each weight over the weights' sum, the scores less any real. -/
theorem mean_of_normed {κ : Type} [Fintype κ] [Nonempty κ] (S : κ → ℝ) (V : κ → EReal) (M : ℝ) :
    ∑ j, V j * Idealize.ShloMosaic.Ideal.div (two (S j - M) : EReal) (∑ j, (two (S j - M) : EReal)) = mean S V := by
  have hB : 0 < ∑ j, two (S j) := Finset.sum_pos (fun j _ => two_pos _) Finset.univ_nonempty
  have e : ∀ j, two (S j - M) = two (-M) * two (S j) := fun j => by rw [← two_add]; congr 1; ring
  unfold mean
  rw [mul_comm, mul_sum _ (by positivity)]
  refine Finset.sum_congr rfl fun j _ => ?_
  rw [← coe_sum]
  simp only [e]
  rw [← Finset.mul_sum, EReal.coe_mul, EReal.coe_mul, div_scaled (two_pos _) hB]
  rw [mul_comm _ (V j * _), mul_assoc]

/-- Eight chunks of 512 are 4096. -/
theorem sum_chunks {M : Type} [AddCommMonoid M] (f : Fin 4096 → M) :
    ∑ i ∈ Finset.range 8, ∑ k : Fin 512, f ⟨(512 * i + k.val) % 4096, Nat.mod_lt _ (by norm_num)⟩ = ∑ j, f j := by
  rw [Finset.sum_range, ← Fintype.sum_prod_type']
  refine Fintype.sum_equiv (finProdFinEquiv (m := 8) (n := 512)) _ _ fun x => congrArg f (Fin.ext ?_)
  have h1 := x.1.isLt; have h2 := x.2.isLt
  show (512 * x.1.val + x.2.val) % 4096 = x.2.val + 512 * x.1.val
  omega

end Cert.Mean

end
-- ==== Proof.KerNum.lean ====
module

public import proofs.«01_k».proof.Proof.BodyVal
public import proofs.«01_k».proof.Proof.Num

@[expose] public section

set_option maxRecDepth 16384

noncomputable section

namespace Cert.Kernel.Hand

open Cert.Kernel Cert.Kernel.Gen Cert.Kernel.Model Cert.Mean
open Idealize.ShloMosaic Idealize.ShloMosaic.TcCoe

theorem ofBits_lowest : IsReal (Ideal.ofBits .f32 0xF149F2CA#32) := by
  simp [Ideal.ofBits, Ideal.ieee]
  exact ⟨-(13234890 * 2 ^ 76), by rw [EReal.coe_neg, EReal.coe_mul, EReal.coe_pow]⟩

theorem ofBits_ninf : Ideal.ofBits .f32 0xFF800000#32 = ⊥ := by
  simp [Ideal.ofBits, Ideal.ieee]

theorem score_at (k : FVec Ideal S1x512x128 .bf16) (q : FVec Ideal S128x256 .bf16) (r : Fin 512) (x : Fin 256) :
    scoreOf k q (ix2 r x) = ∑ d : Fin 128, k (ix3 0 r d) * q (ix2 d x) := by
  pointwise [scoreOf]

theorem top_at (s : FVec Ideal S512x256 .f32) (x : Fin 256) :
    topOf s (ix2 0 x) = Finset.univ.fold max ⊥ fun r : Fin 512 => s (ix2 r x) := by
  pointwise [topOf]
  rw [ofBits_ninf]

theorem top0_at (k : FVec Ideal S1x128x128 .bf16) (q : FVec Ideal S128x256 .bf16) (x : Fin 256) :
    top0 k q (ix2 0 x) = Finset.univ.fold max ⊥ fun r : Fin 128 => ∑ d : Fin 128, k (ix3 0 r d) * q (ix2 d x) := by
  pointwise [top0]
  rw [ofBits_ninf]

theorem weight_at (s : FVec Ideal S512x256 .f32) (ρ : FVec Ideal S1x256 .f32) (r : Fin 512) (x : Fin 256) :
    weightOf s ρ (ix2 r x) = Ideal.exp2 (s (ix2 r x) - ρ (ix2 0 x)) := by
  pointwise [weightOf]
  rfl

theorem add_at (r r' : FVec Ideal S1x256 .f32) (acc : FVec Ideal S80x256 .f32) (p : FVec Ideal S512x256 .bf16) (v : FVec Ideal S1x64x512 .bf16)
    (d : Fin 80) (x : Fin 256) :
    addChunk r r' acc p v (ix2 d x) = Ideal.exp2 (r (ix2 0 x) - r' (ix2 0 x)) * acc (ix2 d x)
      + ∑ k : Fin 512, (if h : d.val < 64 then v (ix3 0 ⟨d.val, h⟩ k) else 1) * p (ix2 k x) := by
  pointwise [addChunk, stack, onesRows]
  rfl

theorem out_at (acc : FVec Ideal S80x256 .f32) (d : Fin 64) (x : Fin 256) :
    outOf acc (ix2 d x) = Ideal.div (acc (ix2 ⟨d.val, by omega⟩ x)) (acc (ix2 64 x)) := by
  pointwise [outOf]

/-- The scores of real keys and queries are real. -/
theorem score_real {k : FVec Ideal S1x512x128 .bf16} {q : FVec Ideal S128x256 .bf16} (hk : ∀ i, IsReal (k i)) (hq : ∀ i, IsReal (q i)) (r : Fin 512) (x : Fin 256) :
    IsReal (scoreOf k q (ix2 r x)) := by
  rw [score_at]; exact IsReal.sum _ fun d => (hk _).mul (hq _)

theorem top_real {k : FVec Ideal S1x512x128 .bf16} {q : FVec Ideal S128x256 .bf16} (hk : ∀ i, IsReal (k i)) (hq : ∀ i, IsReal (q i)) (x : Fin 256) :
    IsReal (topOf (scoreOf k q) (ix2 0 x)) := by
  rw [top_at]; exact IsReal.fold_max _ Finset.univ_nonempty fun r => score_real hk hq r x

theorem top0_real {k : FVec Ideal S1x128x128 .bf16} {q : FVec Ideal S128x256 .bf16} (hk : ∀ i, IsReal (k i)) (hq : ∀ i, IsReal (q i)) (x : Fin 256) :
    IsReal (top0 k q (ix2 0 x)) := by
  rw [top0_at]; exact IsReal.fold_max _ Finset.univ_nonempty fun r => IsReal.sum _ fun d => (hk _).mul (hq _)

theorem lowest_real (x : Fin 256) : IsReal ((lowest (F := Ideal)) (ix2 0 x)) := ofBits_lowest

theorem refFast_real {k : ℕ → FVec Ideal S1x512x128 .bf16} {q : FVec Ideal S128x256 .bf16} {r0 : FVec Ideal S1x256 .f32} (hk : ∀ n i, IsReal (k n i)) (hq : ∀ i, IsReal (q i))
    (x : Fin 256) (h0 : IsReal (r0 (ix2 0 x))) : ∀ n, IsReal (refFast k q r0 n (ix2 0 x))
  | 0 => h0
  | 1 => h0.max (lowest_real x)
  | 2 => (h0.max (lowest_real x)).max h0
  | n + 3 => (refFast_real hk hq x h0 (n + 2)).max (top_real (hk n) hq x)

theorem refRobust_real {k : ℕ → FVec Ideal S1x512x128 .bf16} {q : FVec Ideal S128x256 .bf16} (hk : ∀ n i, IsReal (k n i)) (hq : ∀ i, IsReal (q i))
    (x : Fin 256) : ∀ n, IsReal (refRobust k q n (ix2 0 x))
  | 0 => lowest_real x
  | n + 1 => (refRobust_real hk hq x n).max (top_real (hk n) hq x)

theorem exp2_sub {a b : EReal} (ha : IsReal a) (hb : IsReal b) : Ideal.exp2 (a - b) = (two (a.toReal - b.toReal) : EReal) := by
  conv_lhs => rw [ha.eq_coe, hb.eq_coe, ← EReal.coe_sub]
  rfl

/-- The sums after `n` chunks, whatever real references the chunks were weighted against. -/
theorem sums_at {k : ℕ → FVec Ideal S1x512x128 .bf16} {q : FVec Ideal S128x256 .bf16} (v : ℕ → FVec Ideal S1x64x512 .bf16) (ρ : ℕ → FVec Ideal S1x256 .f32)
    (hk : ∀ n i, IsReal (k n i)) (hq : ∀ i, IsReal (q i)) (x : Fin 256) (hρ : ∀ n, IsReal (ρ n (ix2 0 x))) (d : Fin 80) (n : ℕ) :
    sums k q v ρ (fun _ => Scalar.ofBits .f32 0x00000000#32) n (ix2 d x)
      = (two (-(ρ n (ix2 0 x)).toReal) : EReal) * ∑ i ∈ Finset.range n, ∑ r : Fin 512,
          (if h : d.val < 64 then v i (ix3 0 ⟨d.val, h⟩ r) else 1) * (two (scoreOf (k i) q (ix2 r x)).toReal : EReal) := by
  refine acc_eq (fun n => (ρ n (ix2 0 x)).toReal) (fun i r => (scoreOf (k i) q (ix2 r x)).toReal)
    (fun i r => if h : d.val < 64 then v i (ix3 0 ⟨d.val, h⟩ r) else 1)
    (fun n => sums k q v ρ (fun _ => Scalar.ofBits .f32 0x00000000#32) n (ix2 d x)) Ideal.ofBits_zero_f32 (fun n => ?_) n
  show addChunk (ρ n) (ρ (n + 1)) _ _ _ (ix2 d x) = _
  rw [add_at, exp2_sub (hρ _) (hρ _)]
  simp only [weight_at, exp2_sub (score_real (hk n) hq _ x) (hρ (n + 1))]

/-- A head's result at one query: the mean of the values over all the keys. -/
theorem head_at {k : ℕ → FVec Ideal S1x512x128 .bf16} {q : FVec Ideal S128x256 .bf16} (v : ℕ → FVec Ideal S1x64x512 .bf16) (ρ : ℕ → FVec Ideal S1x256 .f32)
    (hk : ∀ n i, IsReal (k n i)) (hq : ∀ i, IsReal (q i)) (x : Fin 256) (hρ : ∀ n, IsReal (ρ n (ix2 0 x))) (d : Fin 64)
    (S : Fin 4096 → ℝ) (V : Fin 4096 → EReal)
    (hS : ∀ i < 8, ∀ r : Fin 512, (scoreOf (k i) q (ix2 r x)).toReal = S ⟨(512 * i + r.val) % 4096, Nat.mod_lt _ (by norm_num)⟩)
    (hV : ∀ i < 8, ∀ r : Fin 512, v i (ix3 0 d r) = V ⟨(512 * i + r.val) % 4096, Nat.mod_lt _ (by norm_num)⟩) :
    outOf (sums k q v ρ (fun _ => Scalar.ofBits .f32 0x00000000#32) 8) (ix2 d x) = mean S V := by
  have hB : 0 < ∑ j, two (S j) := Finset.sum_pos (fun j _ => two_pos _) Finset.univ_nonempty
  have e1 : ∑ i ∈ Finset.range 8, ∑ r : Fin 512, (if h : d.val < 64 then v i (ix3 0 ⟨d.val, h⟩ r) else 1) * (two (scoreOf (k i) q (ix2 r x)).toReal : EReal)
      = ∑ j, V j * (two (S j) : EReal) := by
    rw [← sum_chunks fun j => V j * (two (S j) : EReal)]
    refine Finset.sum_congr rfl fun i hi => Finset.sum_congr rfl fun r _ => ?_
    rw [dif_pos d.isLt, hS i (Finset.mem_range.mp hi)]
    exact congrArg (· * _) (hV i (Finset.mem_range.mp hi) r)
  have e2 : ∑ i ∈ Finset.range 8, ∑ r : Fin 512, (if h : (64 : Fin 80).val < 64 then v i (ix3 0 ⟨(64 : Fin 80).val, h⟩ r) else 1) * (two (scoreOf (k i) q (ix2 r x)).toReal : EReal)
      = ((∑ j, two (S j) : ℝ) : EReal) := by
    rw [coe_sum, ← sum_chunks fun j => (two (S j) : EReal)]
    refine Finset.sum_congr rfl fun i hi => Finset.sum_congr rfl fun r _ => ?_
    rw [dif_neg (by decide), one_mul, hS i (Finset.mem_range.mp hi)]
  rw [out_at, sums_at v ρ hk hq x hρ, sums_at v ρ hk hq x hρ, e2]
  refine (congrArg (fun z => Ideal.div (_ * z) _) e1).trans ?_
  exact div_scaled (two_pos _) hB _

theorem keysAt_at (X : FVec Ideal S4x4096x128 .bf16) (g : Fin 4) (o : ℕ) (r : Fin 512) (d : Fin 128) :
    keysAt X g.val o (ix3 0 r d) = X (ix3 g ⟨(o + r.val) % 4096, Nat.mod_lt _ (by norm_num)⟩ d) :=
  congrArg X (funext fun a => Fin.ext (by
    have h1 := g.isLt; have h2 := d.isLt
    match a with
    | ⟨0, _⟩ => show (g.val + 0) % 4 = g.val; omega
    | ⟨1, _⟩ => rfl
    | ⟨2, _⟩ => show (0 + d.val) % 128 = d.val; omega))

theorem valsAt_at (Y : FVec Ideal S8x256x512 .bf16) (n : ℕ) (c : Fin 256) (d : Fin 64) (o : ℕ) (h : o + d.val = c.val) (r : Fin 512) :
    valsAt Y n o (ix3 0 d r) = Y (ix3 ⟨n % 8, Nat.mod_lt _ (by norm_num)⟩ c r) :=
  congrArg Y (funext fun a => Fin.ext (by
    have h1 := c.isLt; have h2 := r.isLt
    match a with
    | ⟨0, _⟩ => rfl
    | ⟨1, _⟩ => show (o + d.val) % 256 = c.val; omega
    | ⟨2, _⟩ => show (0 + r.val) % 512 = r.val; omega))

theorem qAt_at (Q : FVec Ideal S1x512x256 .bf16) (g : Fin 4) (d : Fin 128) (x : Fin 256) :
    qAt Q g.val (ix2 d x) = Q (ix3 0 ⟨g.val * 128 + d.val, by omega⟩ x) := by
  pointwise [qAt]
  refine congrArg Q (funext fun a => Fin.ext ?_)
  have h1 := g.isLt; have h2 := d.isLt; have h3 := x.isLt
  match a with
  | ⟨0, _⟩ => rfl
  | ⟨1, _⟩ => show (128 * g.val + d.val) % 512 = g.val * 128 + d.val; omega
  | ⟨2, _⟩ => show (0 + x.val) % 256 = x.val; omega

/-- Either path's result for a head of one block of queries. -/
theorem headOut_at {X : FVec Ideal S4x4096x128 .bf16} (Y : FVec Ideal S8x256x512 .bf16) {Q : FVec Ideal S1x512x256 .bf16} (hX : ∀ i, IsReal (X i)) (hQ : ∀ i, IsReal (Q i))
    (g : Fin 4) (ρ : ℕ → FVec Ideal S1x256 .f32) (x : Fin 256) (hρ : ∀ n, IsReal (ρ n (ix2 0 x))) (d : Fin 64) (c : Fin 256) (hc : 64 * g.val + d.val = c.val) :
    headOut X Y (qAt Q g.val) g.val ρ (ix2 d x)
      = mean (fun j : Fin 4096 => (∑ e : Fin 128, Q (ix3 0 ⟨g.val * 128 + e.val, by omega⟩ x) * X (ix3 g j e)).toReal)
          (fun j : Fin 4096 => Y (ix3 ⟨j.val / 512, by omega⟩ c ⟨j.val % 512, by omega⟩)) := by
  refine head_at (fun n => valsAt Y n (64 * g.val)) ρ (fun n i => hX _) (fun i => ?_) x hρ d _ _ (fun i hi r => ?_) fun i hi r => ?_
  · exact hQ _
  · rw [score_at]
    refine congrArg EReal.toReal (Finset.sum_congr rfl fun e _ => ?_)
    exact (mul_comm _ _).trans (congrArg₂ (· * ·) (qAt_at Q g e x) (keysAt_at X g (512 * i) r e))
  · refine (valsAt_at Y i c d _ hc r).trans (congrArg Y ?_)
    have h2 := r.isLt
    refine funext fun a => Fin.ext ?_
    match a with
    | ⟨0, _⟩ => show i % 8 = (512 * i + r.val) % 4096 / 512; omega
    | ⟨1, _⟩ => rfl
    | ⟨2, _⟩ => show r.val = (512 * i + r.val) % 4096 % 512; omega

/-- The mean that both paths compute at an element of a block of the result. -/
def blockMean (X : FVec Ideal S4x4096x128 .bf16) (Y : FVec Ideal S8x256x512 .bf16) (Q : FVec Ideal S1x512x256 .bf16) (c x : Fin 256) : EReal :=
  mean (fun j : Fin 4096 => (∑ e : Fin 128, Q (ix3 0 ⟨c.val / 64 * 128 + e.val, by omega⟩ x) * X (ix3 ⟨c.val / 64, by omega⟩ j e)).toReal)
    (fun j : Fin 4096 => Y (ix3 ⟨j.val / 512, by omega⟩ c ⟨j.val % 512, by omega⟩))

theorem fastOut_at {X : FVec Ideal S4x4096x128 .bf16} (Y : FVec Ideal S8x256x512 .bf16) {Q : FVec Ideal S1x512x256 .bf16} (hX : ∀ i, IsReal (X i)) (hQ : ∀ i, IsReal (Q i)) (c x : Fin 256) :
    fastOut X Y Q (ix3 0 c x) = blockMean X Y Q c x := by
  have e : fastOut X Y Q (ix3 0 c x) = headOut X Y (qAt Q (c.val / 64)) (c.val / 64)
      (refFast (fun n => keysAt X (c.val / 64) (512 * n)) (qAt Q (c.val / 64)) (top0 (keys0 X (c.val / 64)) (qAt Q (c.val / 64)))) (ix2 ⟨c.val % 64, by omega⟩ x) := by
    rw [ix2_eq_valueIdx]; rfl
  rw [e]
  exact headOut_at Y hX hQ ⟨c.val / 64, by omega⟩ _ x
    (refFast_real (fun n i => hX _) (fun i => hQ _) x (top0_real (fun i => hX _) (fun i => hQ _) x)) ⟨c.val % 64, by omega⟩ c (by show 64 * (c.val / 64) + c.val % 64 = c.val; omega)

theorem robustOut_at {X : FVec Ideal S4x4096x128 .bf16} (Y : FVec Ideal S8x256x512 .bf16) {Q : FVec Ideal S1x512x256 .bf16} (hX : ∀ i, IsReal (X i)) (hQ : ∀ i, IsReal (Q i)) (c x : Fin 256) :
    robustOut X Y Q (ix3 0 c x) = blockMean X Y Q c x := by
  have e : robustOut X Y Q (ix3 0 c x) = headOut X Y (qAt Q (c.val / 64)) (c.val / 64)
      (refRobust (fun n => keysAt X (c.val / 64) (512 * n)) (qAt Q (c.val / 64))) (ix2 ⟨c.val % 64, by omega⟩ x) := by
    rw [ix2_eq_valueIdx]; rfl
  rw [e]
  exact headOut_at Y hX hQ ⟨c.val / 64, by omega⟩ _ x
    (refRobust_real (fun n i => hX _) (fun i => hQ _) x) ⟨c.val % 64, by omega⟩ c (by show 64 * (c.val / 64) + c.val % 64 = c.val; omega)

end Cert.Kernel.Hand

end
-- ==== Proof.RefNum.lean ====
module

public import proofs.«01_k».proof.Proof.RefRun
public import proofs.«01_k».proof.Proof.Num

@[expose] public section

set_option maxRecDepth 16384

noncomputable section

namespace Cert.ReferenceIdeal.Hand

open Cert.ReferenceIdeal Cert.ReferenceIdeal.Gen Cert.Mean
open Idealize.ShloMosaic Idealize.ShloMosaic.TcCoe

theorem ofBits_ninf : Ideal.ofBits .f32 0xFF800000#32 = ⊥ := by
  simp [Ideal.ofBits, Ideal.ieee]

theorem ofBits_two : Ideal.ofBits .f32 0x40000000#32 = ((2 : ℝ) : EReal) := by
  simp [Ideal.ofBits, Ideal.ieee]
  rw [← EReal.coe_mul]; norm_num

theorem scores_at (q : FVec Ideal S8x1024x4096 .bf16) (k : FVec Ideal S8x8x4096x128 .bf16) (b h : Fin 8) (p j : Fin 4096) :
    scores q k (ix4 b h p j) = ∑ d : Fin 128, q (ix3 b ⟨h.val * 128 + d.val, by omega⟩ p) * k (ix4 b h j d) := by
  pointwise [scores]

theorem weights_at (s : FVec Ideal S8x8x4096x4096 .f32) (b h : Fin 8) (p j : Fin 4096) :
    weights s (ix4 b h p j) = Ideal.pow ((2 : ℝ) : EReal) (s (ix4 b h p j) - Finset.univ.fold max ⊥ fun j : Fin 4096 => s (ix4 b h p j)) := by
  pointwise [weights]
  rw [ofBits_two, ofBits_ninf]

theorem normed_at (s : FVec Ideal S8x8x4096x4096 .f32) (b h : Fin 8) (p j : Fin 4096) :
    normed s (ix4 b h p j) = Ideal.div (s (ix4 b h p j)) (∑ j : Fin 4096, s (ix4 b h p j)) := by
  pointwise [normed]

theorem values_at (v : FVec Ideal S8x8x512x512 .bf16) (b h : Fin 8) (d : Fin 64) (j : Fin 4096) :
    values v (ix4 b h d j) = v (ix4 b ⟨j.val / 512, by omega⟩ ⟨h.val * 64 + d.val, by omega⟩ ⟨j.val % 512, by omega⟩) := by
  pointwise [values]

theorem result_at (q : FVec Ideal S8x1024x4096 .bf16) (k : FVec Ideal S8x8x4096x128 .bf16) (v : FVec Ideal S8x8x512x512 .bf16) (b : Fin 8) (ch : Fin 512) (p : Fin 4096) :
    result q k v (ix3 b ch p) = ∑ j : Fin 4096, values v (ix4 b ⟨ch.val / 64, by omega⟩ ⟨ch.val % 64, by omega⟩ j)
      * normed (weights (scores q k)) (ix4 b ⟨ch.val / 64, by omega⟩ p j) := by
  pointwise [result]

/-- The attention as one formula: the mean of the values, weighted by two to the scores. -/
def attn (q : FVec Ideal S8x1024x4096 .bf16) (k : FVec Ideal S8x8x4096x128 .bf16) (v : FVec Ideal S8x8x512x512 .bf16) (b : Fin 8) (ch : Fin 512) (p : Fin 4096) : EReal :=
  mean (fun j : Fin 4096 => (∑ d : Fin 128, q (ix3 b ⟨ch.val / 64 * 128 + d.val, by omega⟩ p) * k (ix4 b ⟨ch.val / 64, by omega⟩ j d)).toReal)
    (fun j : Fin 4096 => v (ix4 b ⟨j.val / 512, by omega⟩ ch ⟨j.val % 512, by omega⟩))

/-- The score of a query against a key. -/
abbrev sc (q : FVec Ideal S8x1024x4096 .bf16) (k : FVec Ideal S8x8x4096x128 .bf16) (b h : Fin 8) (p j : Fin 4096) : EReal :=
  ∑ d : Fin 128, q (ix3 b ⟨h.val * 128 + d.val, by omega⟩ p) * k (ix4 b h j d)

theorem weights_mean (q : FVec Ideal S8x1024x4096 .bf16) (k : FVec Ideal S8x8x4096x128 .bf16)
    (hq : ∀ i, IsReal (q i)) (hk : ∀ i, IsReal (k i)) (b h : Fin 8) (p : Fin 4096) :
    ∃ M : ℝ, ∀ j : Fin 4096, weights (scores q k) (ix4 b h p j) = (two ((sc q k b h p j).toReal - M) : EReal) := by
  have hs : ∀ j : Fin 4096, IsReal (sc q k b h p j) := fun j => IsReal.sum _ fun d => (hq _).mul (hk _)
  obtain ⟨M, hM⟩ : IsReal (Finset.univ.fold max ⊥ fun j : Fin 4096 => sc q k b h p j) :=
    IsReal.fold_max _ Finset.univ_nonempty hs
  refine ⟨M, fun j => ?_⟩
  rw [weights_at]
  simp only [scores_at]
  rw [hM]
  refine (congrArg (fun z : EReal => Ideal.pow ((2 : ℝ) : EReal) (z - M)) (hs j).eq_coe).trans ?_
  rw [← EReal.coe_sub]
  rfl

/-- Of real queries and keys the reference computes that mean, whatever the values. -/
theorem result_eq_attn (q : FVec Ideal S8x1024x4096 .bf16) (k : FVec Ideal S8x8x4096x128 .bf16) (v : FVec Ideal S8x8x512x512 .bf16)
    (hq : ∀ i, IsReal (q i)) (hk : ∀ i, IsReal (k i)) (b : Fin 8) (ch : Fin 512) (p : Fin 4096) :
    result q k v (ix3 b ch p) = attn q k v b ch p := by
  obtain ⟨M, hM⟩ := weights_mean q k hq hk b ⟨ch.val / 64, by omega⟩ p
  rw [result_at]
  simp only [normed_at, hM, values_at]
  rw [mean_of_normed]
  unfold attn
  refine congrArg (mean _) (funext fun j => ?_)
  refine congrArg (fun c => v (ix4 b _ c _)) (Fin.ext ?_)
  show ch.val / 64 * 64 + ch.val % 64 = ch.val
  omega

end Cert.ReferenceIdeal.Hand

end
-- ==== Proof.Algebraic.lean ====
module

public import proofs.«01_k».proof.Proof.RunVal
public import proofs.«01_k».proof.Proof.KerNum
public import proofs.«01_k».proof.Proof.RefNum
public import proofs.«01_k».proof.Proof.Transfer
public import Idealize.ShloMosaic.Lib.Pipeline.ValueKit

@[expose] public section

set_option maxRecDepth 16384

noncomputable section

namespace Cert.Algebraic

open Cert.Kernel Cert.Kernel.Gen Cert.Kernel.Hand Cert.Mean
open Cert.ReferenceIdeal.Hand (attn result result_eq_attn)
open Idealize.ShloMosaic Idealize.ShloMosaic.TcCoe Idealize.SL.Sem

/-- The tiles' mean is the attention's formula at the element the block places. -/
theorem blockMean_eq (q : FVec Ideal S8x1024x4096 .bf16) (K : FVec Ideal S8x8x4096x128 .bf16) (V : FVec Ideal S8x8x512x512 .bf16) (Q : FVec Ideal S1x512x256 .bf16)
    (b : Fin 8) (g : Fin 2) (n : Fin 16) (hQ : ∀ (c : Fin 512) (x : Fin 256), Q (ix3 0 c x) = q (ix3 b ⟨512 * g.val + c.val, by omega⟩ ⟨256 * n.val + x.val, by omega⟩))
    (c x : Fin 256) :
    blockMean (kTile K b.val g.val) (vTile V b.val g.val) Q c x = attn q K V b ⟨256 * g.val + c.val, by omega⟩ ⟨256 * n.val + x.val, by omega⟩ := by
  unfold blockMean attn
  refine congrArg₂ mean (funext fun j => congrArg EReal.toReal (Finset.sum_congr rfl fun e _ => ?_)) (funext fun j => ?_)
  · refine congrArg₂ (· * ·) ((hQ _ _).trans (congrArg (fun z => q (ix3 b z _)) (Fin.ext ?_))) (congrArg K (wrapIx_eq _ _ _ fun a => ?_))
    · show 512 * g.val + (c.val / 64 * 128 + e.val) = (256 * g.val + c.val) / 64 * 128 + e.val; omega
    · match a with
      | ⟨0, _⟩ => rfl
      | ⟨1, _⟩ => show 4 * g.val + c.val / 64 = (256 * g.val + c.val) / 64; omega
      | ⟨2, _⟩ => rfl
      | ⟨3, _⟩ => rfl
  · refine congrArg V (wrapIx_eq _ _ _ fun a => ?_)
    match a with
    | ⟨0, _⟩ => rfl
    | ⟨1, _⟩ => rfl
    | ⟨2, _⟩ => rfl
    | ⟨3, _⟩ => rfl

variable (m : (ℓ : Loc nD τ sig) → Buf (Elt Ideal) ℓ) (ρ : Dev nD → PrngReg)

/-- The reference's result, of the kernel's arguments. -/
abbrev val (c : Dev nD) : FVec Ideal S8x512x4096 .f32 :=
  result (m ((c.tc : Thread nD τ).loc main_arg0)) (m ((c.tc : Thread nD τ).loc main_arg1)) (m ((c.tc : Thread nD τ).loc main_arg2))

theorem index0 : ∀ t : Fin grid0.N, win0_0.index t = ![(grid0.coords t 0).val, (grid0.coords t 1).val, (grid0.coords t 2).val] := by decide +kernel
theorem index1 : ∀ t : Fin grid0.N, win0_1.index t = ![(grid0.coords t 0).val, (grid0.coords t 1).val, (grid0.coords t 2).val] := by decide +kernel

/-- A point's sequence, group of heads and block of queries. -/
abbrev bOf (t : Fin cfg0.N) : Fin 8 := grid0.coords t 0
abbrev gOf (t : Fin cfg0.N) : Fin 2 := grid0.coords t 1
abbrev nOf (t : Fin cfg0.N) : Fin 16 := grid0.coords t 2

theorem emb0 (t : Fin cfg0.N) (r : Fin 512) (x : Fin 256) :
    (win0_0.blk t).view.emb (ix3 0 r x) = ix3 (bOf t) ⟨512 * (gOf t).val + r.val, by omega⟩ ⟨256 * (nOf t).val + x.val, by omega⟩ := by
  funext a
  refine Fin.ext ?_
  match a with
  | ⟨0, _⟩ => blk_simp [index0]; rfl
  | ⟨1, _⟩ => blk_simp [index0]; exact congrArg (· + r.val) (mul_comm (gOf t).val 512)
  | ⟨2, _⟩ => blk_simp [index0]; exact congrArg (· + x.val) (mul_comm (nOf t).val 256)

theorem emb1 (t : Fin cfg0.N) (r x : Fin 256) :
    (win0_1.blk t).view.emb (ix3 0 r x) = ix3 (bOf t) ⟨256 * (gOf t).val + r.val, by omega⟩ ⟨256 * (nOf t).val + x.val, by omega⟩ := by
  funext a
  refine Fin.ext ?_
  match a with
  | ⟨0, _⟩ => blk_simp [index1]; rfl
  | ⟨1, _⟩ => blk_simp [index1]; exact congrArg (· + r.val) (mul_comm (gOf t).val 256)
  | ⟨2, _⟩ => blk_simp [index1]; exact congrArg (· + x.val) (mul_comm (nOf t).val 256)

theorem iblk_at (c : Dev nD) (t : Fin cfg0.N) (r : Fin 512) (x : Fin 256) :
    iblk m c 0 t (ix3 0 r x) = m ((c.tc : Thread nD τ).loc main_arg0)
      (ix3 (bOf t) ⟨512 * (gOf t).val + r.val, by omega⟩ ⟨256 * (nOf t).val + x.val, by omega⟩) :=
  congrArg (m ((c.tc : Thread nD τ).loc main_arg0)) (emb0 t r x)

/-- Where the queries and the keys are real, either path leaves the reference's block. -/
theorem good (hq : ∀ (c : Dev nD) i, IsReal (m ((c.tc : Thread nD τ).loc main_arg0) i)) (hk : ∀ (c : Dev nD) i, IsReal (m ((c.tc : Thread nD τ).loc main_arg1) i)) :
    Exact.Good m (val m) := by
  intro c t
  have key : ∀ r x : Fin 256, blockMean (kTile (V m c main_arg1) (bOf t).val (gOf t).val) (vTile (V m c main_arg2) (bOf t).val (gOf t).val) (iblk m c 0 t) r x
      = Exact.gblk (F := Ideal) (val m) c t (ix3 0 r x) := fun r x => by
    refine (blockMean_eq (m ((c.tc : Thread nD τ).loc main_arg0)) (m ((c.tc : Thread nD τ).loc main_arg1)) (m ((c.tc : Thread nD τ).loc main_arg2)) _ (bOf t) (gOf t) (nOf t) (iblk_at m c t) r x).trans ?_
    refine (result_eq_attn _ _ _ (hq c) (hk c) _ _ _).symm.trans ?_
    exact congrArg (val m c) (emb1 t r x).symm
  have hQ : ∀ i, IsReal (iblk m c 0 t i) := fun i => hq c _
  have ix : ∀ y : S1x256x256.Idx, y = ix3 0 (y 1) (y 2) := fun y => by
    funext a
    match a with
    | ⟨0, _⟩ => exact Fin.eq_zero (y 0)
    | ⟨1, _⟩ => rfl
    | ⟨2, _⟩ => rfl
  refine ⟨funext fun y => ?_, funext fun y => ?_⟩ <;> rw [ix y]
  · exact (fastOut_at _ (fun i => hk c _) hQ _ _).trans (key _ _)
  · exact (robustOut_at _ (fun i => hk c _) hQ _ _).trans (key _ _)

theorem real_of_cmp (x : EReal) (h : Ideal.cmp .olt (max x (-x)) (Ideal.ofBits .f32 0x7F800000#32) = 1#1) : IsReal x := by
  rw [show Ideal.ofBits .f32 0x7F800000#32 = ⊤ by simp [Ideal.ofBits, Ideal.ieee]] at h
  have h' : max x (-x) < ⊤ := by by_contra hn; simp [Ideal.cmp, hn] at h
  refine .of_ne (fun e => ?_) fun e => ?_ <;> simp [e] at h'

instance preFacts : Cert.Pre_finite.Facts where
  bitsLt_bf16_f32 := by decide
  bcast_S_S8x1024x4096 := by decide
  bcast_S_S8x8x4096x128 := by decide

/-- The idealized kernel and the reference end with the same result. -/
theorem algebraic : Cert.algebraic_KernelIdeal_ReferenceIdeal_pre_finite := by
  intro m g m' g' hpre hagree
  have hq : ∀ (c : Dev nD) i, IsReal (m ((c.tc : Thread nD τ).loc main_arg0) i) := fun c i => real_of_cmp _ (congrFun (hpre c).1 i)
  have hk : ∀ (c : Dev nD) i, IsReal (m ((c.tc : Thread nD τ).loc main_arg1) i) := fun c i => real_of_cmp _ (congrFun (hpre c).2 i)
  refine ⟨val m, Cert.Transfer.run_ideal Ideal m g _ (Exact.run m g (val m) (good m hq hk)), ?_⟩
  refine (θ_run Cert.ReferenceIdeal.defs _ _).mono (fun r h c => ⟨(h c).1.trans ?_, (h c).2⟩) (Cert.ReferenceIdeal.Hand.run m' g')
  obtain ⟨h0, h1, h2⟩ := hagree c
  rw [h0, h1, h2]

end Cert.Algebraic

end
-- ==== Proof.PostRow.lean ====
module

public import Idealize.ShloMosaic.Lib.Pointwise

@[expose] public section

noncomputable section

/-! The layer's second half as it acts on one token's row, over the extended reals: the two attentions' norms and
    the output projection, the gated feed-forward net, the per-layer embedding and the last norm. -/

namespace Cert.PostRow

open Idealize.ShloMosaic

/-- One over the root mean square of a row; `n` is the row's length as the programs spell it. -/
def inv (n : BitVec 32) {k : ℕ} (x : Fin k → EReal) : EReal :=
  Ideal.rsqrt (Ideal.div (∑ i : Fin k, x i * x i) (Ideal.ofBits .f32 n) + Ideal.ofBits .f32 0x358637BD#32)

/-- The row scaled to unit root mean square, then by the gain `g`. -/
def norm (n : BitVec 32) {k : ℕ} (x g : Fin k → EReal) (j : Fin k) : EReal := x j * inv n x * g j

/-- The token after the attentions: their normed rows, one after the other, through the output projection. -/
def mixed (x : Fin 1024 → EReal) (a ga b gb : Fin 512 → EReal) (w : Fin 1024 → Fin 1024 → EReal) (j : Fin 1024) : EReal :=
  x j + (∑ i : Fin 512, norm 0x44000000#32 a ga i * w ⟨i.val, by omega⟩ j + ∑ i : Fin 512, norm 0x44000000#32 b gb i * w ⟨512 + i.val, by omega⟩ j)

/-- One over one plus the exponential of minus `x`. -/
def gate (x : EReal) : EReal := Ideal.div 1 (1 + Ideal.exp (-x))

/-- The token after the feed-forward net. -/
def fed (h g : Fin 1024 → EReal) (w1 w2 : Fin 1024 → Fin 2816 → EReal) (w3 : Fin 2816 → Fin 1024 → EReal) (j : Fin 1024) : EReal :=
  h j + ∑ f : Fin 2816, (∑ i : Fin 1024, norm 0x44800000#32 h g i * w1 i f) * gate (∑ i : Fin 1024, norm 0x44800000#32 h g i * w1 i f)
    * (∑ i : Fin 1024, norm 0x44800000#32 h g i * w2 i f) * w3 f j

/-- The token after the per-layer embedding `p`. -/
def embedded (h g : Fin 1024 → EReal) (w : Fin 1024 → Fin 1024 → EReal) (p : Fin 256 → EReal) (v : Fin 256 → Fin 1024 → EReal) (j : Fin 1024) : EReal :=
  h j + gate (∑ i : Fin 1024, norm 0x44800000#32 h g i * w i j) * ∑ e : Fin 256, p e * v e j

/-- The whole half on one token. -/
def half (x : Fin 1024 → EReal) (a b : Fin 512 → EReal) (p : Fin 256 → EReal) (ga gb : Fin 512 → EReal) (wo : Fin 1024 → Fin 1024 → EReal)
    (g1 : Fin 1024 → EReal) (w1 w2 : Fin 1024 → Fin 2816 → EReal) (w3 : Fin 2816 → Fin 1024 → EReal)
    (g2 : Fin 1024 → EReal) (wg : Fin 1024 → Fin 1024 → EReal) (wp : Fin 256 → Fin 1024 → EReal) (g3 : Fin 1024 → EReal) : Fin 1024 → EReal :=
  norm 0x44800000#32 (embedded (fed (mixed x a ga b gb wo) g1 w1 w2 w3) g2 wg p wp) g3

/-- The half of token `s` of batch entry `b`, from the arrays, for any number of entries and of tokens. -/
abbrev halfAt {B S : ℕ} (X0 : FVec Ideal ⟨3, ![B, S, 1024]⟩ .f32) (X1 X2 : FVec Ideal ⟨3, ![B, 512, S]⟩ .f32) (X3 : FVec Ideal ⟨3, ![B, S, 256]⟩ .f32)
    (X4 X5 : FVec Ideal ⟨2, ![512, 1]⟩ .f32) (X6 : FVec Ideal ⟨2, ![1024, 1024]⟩ .bf16) (X7 : FVec Ideal ⟨2, ![1, 1024]⟩ .f32)
    (X8 X9 : FVec Ideal ⟨2, ![1024, 2816]⟩ .bf16) (X10 : FVec Ideal ⟨2, ![2816, 1024]⟩ .bf16) (X11 : FVec Ideal ⟨2, ![1, 1024]⟩ .f32)
    (X12 : FVec Ideal ⟨2, ![1024, 1024]⟩ .bf16) (X13 : FVec Ideal ⟨2, ![256, 1024]⟩ .bf16) (X14 : FVec Ideal ⟨2, ![1, 1024]⟩ .f32)
    (b : Fin B) (s : Fin S) (j : Fin 1024) : EReal :=
  half (fun j => X0 (ix3 b s j)) (fun i => X1 (ix3 b i s)) (fun i => X2 (ix3 b i s)) (fun e => X3 (ix3 b s e)) (fun i => X4 (ix2 i 0)) (fun i => X5 (ix2 i 0))
    (fun i j => X6 (ix2 i j)) (fun j => X7 (ix2 0 j)) (fun i f => X8 (ix2 i f)) (fun i f => X9 (ix2 i f)) (fun f j => X10 (ix2 f j)) (fun j => X11 (ix2 0 j))
    (fun i j => X12 (ix2 i j)) (fun e j => X13 (ix2 e j)) (fun j => X14 (ix2 0 j)) j

/-- A place in an array of three axes, by its three coordinates. -/
theorem ix3_self {a b c : ℕ} (i : (⟨3, ![a, b, c]⟩ : Shape).Idx) : i = ix3 (i 0) (i 1) (i 2) := by
  funext k
  match k with
  | ⟨0, _⟩ => rfl
  | ⟨1, _⟩ => rfl
  | ⟨2, _⟩ => rfl

end Cert.PostRow

end
-- ==== Proof.PostNum.lean ====
module

public import proofs.«01_k».proof.Proof.Gen.PostIdeal.Value
public import proofs.«01_k».proof.Proof.PostRow

@[expose] public section

set_option maxRecDepth 16384

noncomputable section

/-! The kernel's stages on a group of 128 tokens, each read at a token and a channel. -/

namespace Cert.PostIdeal.Hand

open Cert.PostIdeal Cert.PostIdeal.Gen Cert.PostRow
open Idealize.ShloMosaic Idealize.ShloMosaic.TcCoe

theorem pay4_at (a : FVec Ideal S1x512x128 .f32) (ga : FVec Ideal S512x1 .f32) (b : FVec Ideal S1x512x128 .f32) (gb : FVec Ideal S512x1 .f32)
    (w : FVec Ideal S1024x1024 .bf16) (x : FVec Ideal S1x128x1024 .f32) (r : Fin 128) (j : Fin 1024) :
    k0_pay4 (F := Ideal) (k0_pay3 a ga b gb w) x (ix2 r j) = mixed (fun j => x (ix3 0 r j)) (fun i => a (ix3 0 i r)) (fun i => ga (ix2 i 0))
      (fun i => b (ix3 0 i r)) (fun i => gb (ix2 i 0)) (fun i j => w (ix2 i j)) j := by
  pointwise [k0_pay4, k0_pay3]
  rfl

theorem pay12_at (h : FVec Ideal S128x1024 .f32) (g : FVec Ideal S1x1024 .f32) (r : Fin 128) (j : Fin 1024) :
    k0_pay12 (F := Ideal) h g (ix2 r j) = norm 0x44800000#32 (fun j => h (ix2 r j)) (fun j => g (ix2 0 j)) j := by
  pointwise [k0_pay12]
  rfl

theorem pay28_at (h : FVec Ideal S128x1024 .f32) (g : FVec Ideal S1x1024 .f32) (r : Fin 128) (j : Fin 1024) :
    k0_pay28 (F := Ideal) h g (ix2 r j) = norm 0x44800000#32 (fun j => h (ix2 r j)) (fun j => g (ix2 0 j)) j :=
  pay12_at h g r j

theorem pay13_at (h : FVec Ideal S128x1024 .f32) (g : FVec Ideal S1x1024 .f32) (w : FVec Ideal S1024x2816 .bf16) (r : Fin 128) (f : Fin 2816) :
    k0_pay13 (F := Ideal) h g w (ix2 r f) = ∑ i : Fin 1024, norm 0x44800000#32 (fun j => h (ix2 r j)) (fun j => g (ix2 0 j)) i * w (ix2 i f) := by
  pointwise [k0_pay13]
  exact Finset.sum_congr rfl fun i _ => by rw [pay12_at]

theorem pay23_at (h : FVec Ideal S128x1024 .f32) (u v : FVec Ideal S128x2816 .f32) (w : FVec Ideal S2816x1024 .bf16) (r : Fin 128) (j : Fin 1024) :
    k0_pay23 (F := Ideal) h u v w (ix2 r j) = h (ix2 r j) + ∑ f : Fin 2816, u (ix2 r f) * gate (u (ix2 r f)) * v (ix2 r f) * w (ix2 f j) := by
  pointwise [k0_pay23]
  rfl

theorem pay29_at (h : FVec Ideal S128x1024 .f32) (y : FVec Ideal S128x1024 .bf16) (w : FVec Ideal S1024x1024 .bf16) (p : FVec Ideal S1x128x256 .f32)
    (v : FVec Ideal S256x1024 .bf16) (g : FVec Ideal S1x1024 .f32) (r : Fin 128) (j : Fin 1024) :
    k0_pay29 (F := Ideal) h y w p v g (ix3 0 r j) = norm 0x44800000#32
      (fun j => h (ix2 r j) + gate (∑ i : Fin 1024, y (ix2 r i) * w (ix2 i j)) * ∑ e : Fin 256, p (ix3 0 r e) * v (ix2 e j)) (fun j => g (ix2 0 j)) j := by
  pointwise [k0_pay29]
  rfl

end Cert.PostIdeal.Hand

end
-- ==== Proof.PostBlock.lean ====
module

public import proofs.«01_k».proof.Proof.PostNum
public import Idealize.ShloMosaic.Lib.Pipeline.ValueKit

@[expose] public section

set_option maxRecDepth 16384

noncomputable section

/-! A point's block from its operands' blocks. -/

namespace Cert.PostIdeal.Hand

open Cert.PostIdeal Cert.PostIdeal.Gen Cert.PostRow
open Idealize.ShloMosaic Idealize.ShloMosaic.TcCoe

/-- What the kernel makes of a group of 128 tokens, from what it loads for the group and from the weights. -/
def group (x : FVec Ideal S1x128x1024 .f32) (a b : FVec Ideal S1x512x128 .f32) (p : FVec Ideal S1x128x256 .f32) (ga gb : FVec Ideal S512x1 .f32)
    (wo : FVec Ideal S1024x1024 .bf16) (g1 : FVec Ideal S1x1024 .f32) (w1 w2 : FVec Ideal S1024x2816 .bf16) (w3 : FVec Ideal S2816x1024 .bf16)
    (g2 : FVec Ideal S1x1024 .f32) (wg : FVec Ideal S1024x1024 .bf16) (wp : FVec Ideal S256x1024 .bf16) (g3 : FVec Ideal S1x1024 .f32) : FVec Ideal S1x128x1024 .f32 :=
  let h := k0_pay4 (k0_pay3 a ga b gb wo) x
  let h' := k0_pay23 h (k0_pay13 h g1 w1) (k0_pay14 h g1 w2) w3
  k0_pay29 h' (k0_pay28 h' g2) wg p wp g3

theorem group_at (x : FVec Ideal S1x128x1024 .f32) (a b : FVec Ideal S1x512x128 .f32) (p : FVec Ideal S1x128x256 .f32) (ga gb : FVec Ideal S512x1 .f32)
    (wo : FVec Ideal S1024x1024 .bf16) (g1 : FVec Ideal S1x1024 .f32) (w1 w2 : FVec Ideal S1024x2816 .bf16) (w3 : FVec Ideal S2816x1024 .bf16)
    (g2 : FVec Ideal S1x1024 .f32) (wg : FVec Ideal S1024x1024 .bf16) (wp : FVec Ideal S256x1024 .bf16) (g3 : FVec Ideal S1x1024 .f32) (r : Fin 128) (j : Fin 1024) :
    group x a b p ga gb wo g1 w1 w2 w3 g2 wg wp g3 (ix3 0 r j) = half (fun j => x (ix3 0 r j)) (fun i => a (ix3 0 i r)) (fun i => b (ix3 0 i r)) (fun e => p (ix3 0 r e))
      (fun i => ga (ix2 i 0)) (fun i => gb (ix2 i 0)) (fun i j => wo (ix2 i j)) (fun j => g1 (ix2 0 j)) (fun i f => w1 (ix2 i f)) (fun i f => w2 (ix2 i f))
      (fun f j => w3 (ix2 f j)) (fun j => g2 (ix2 0 j)) (fun i j => wg (ix2 i j)) (fun e j => wp (ix2 e j)) (fun j => g3 (ix2 0 j)) j := by
  have e1 := funext (pay4_at a ga b gb wo x r)
  have e2 := fun h : FVec Ideal S128x1024 .f32 => funext fun j : Fin 1024 =>
    (pay23_at h (k0_pay13 h g1 w1) (k0_pay14 h g1 w2) w3 r j).trans
      (show _ = fed (fun j => h (ix2 r j)) (fun j => g1 (ix2 0 j)) (fun i f => w1 (ix2 i f)) (fun i f => w2 (ix2 i f)) (fun f j => w3 (ix2 f j)) j by
        refine congrArg (@HAdd.hAdd EReal EReal EReal _ (h (ix2 r j))) (Finset.sum_congr rfl fun f _ => ?_)
        rw [pay13_at, show k0_pay14 h g1 w2 (ix2 r f) = _ from pay13_at h g1 w2 r f])
  unfold half
  rw [← e1, ← e2]
  refine (pay29_at _ _ wg p wp g3 r j).trans ?_
  refine congrArg (fun z => norm 0x44800000#32 z (fun j => g3 (ix2 0 j)) j) (funext fun j => ?_)
  refine congrArg (fun z => _ + gate z * _) (Finset.sum_congr rfl fun i _ => ?_)
  rw [pay28_at]

variable (x0 : FVec Ideal S1x512x1024 .f32) (x1 x2 : FVec Ideal S1x512x512 .f32) (x3 : FVec Ideal S1x512x256 .f32) (x4 x5 : FVec Ideal S512x1 .f32)
  (x6 : FVec Ideal S1024x1024 .bf16) (x7 : FVec Ideal S1x1024 .f32) (x8 x9 : FVec Ideal S1024x2816 .bf16) (x10 : FVec Ideal S2816x1024 .bf16)
  (x11 : FVec Ideal S1x1024 .f32) (x12 : FVec Ideal S1024x1024 .bf16) (x13 : FVec Ideal S256x1024 .bf16) (x14 : FVec Ideal S1x1024 .f32)

/-- The half of token `R` of a block, from the operands' blocks. -/
abbrev tok (R : Fin 512) (j : Fin 1024) : EReal := halfAt (B := 1) (S := 512) x0 x1 x2 x3 x4 x5 x6 x7 x8 x9 x10 x11 x12 x13 x14 0 R j

/-- What a load of the rectangle `ρ` reads. -/
abbrev ld {S : Shape} {e : EltTy} (X : S.Idx → Elt Ideal e) (ρ : Rect S) : ρ.shape.Idx → Elt Ideal e := View.ld X ρ

/-- A load of a whole matrix reads it. -/
theorem ld_whole {n k : ℕ} {e : EltTy} (X : (⟨2, ![n, k]⟩ : Shape).Idx → Elt Ideal e) (inb) :
    ld X (Rect.unit (s := ⟨2, ![n, k]⟩) ![0, 0] ![n, k] inb) = X :=
  funext fun x => View.ld_unit_apply_of X _ _ inb x x fun a => by
    match a with
    | ⟨0, _⟩ => exact (Nat.zero_add _).symm
    | ⟨1, _⟩ => exact (Nat.zero_add _).symm

/-- A load of 128 rows from `o` on, at a row. -/
theorem ld_rows {n o : ℕ} {e : EltTy} (X : (⟨3, ![1, 512, n]⟩ : Shape).Idx → Elt Ideal e) (inb) (r : Fin 128) (R : Fin 512) (hR : R.val = o + r.val) (j : Fin n) :
    ld X (Rect.unit (s := ⟨3, ![1, 512, n]⟩) ![0, o, 0] ![1, 128, n] inb) (ix3 0 r j) = X (ix3 0 R j) :=
  View.ld_unit_apply_of X _ _ inb _ _ fun a => by
    match a with
    | ⟨0, _⟩ => rfl
    | ⟨1, _⟩ => exact hR
    | ⟨2, _⟩ => exact (Nat.zero_add _).symm

/-- A load of 128 columns from `o` on, at a column. -/
theorem ld_cols {o : ℕ} {e : EltTy} (X : (⟨3, ![1, 512, 512]⟩ : Shape).Idx → Elt Ideal e) (inb) (r : Fin 128) (R : Fin 512) (hR : R.val = o + r.val) (i : Fin 512) :
    ld X (Rect.unit (s := ⟨3, ![1, 512, 512]⟩) ![0, 0, o] ![1, 512, 128] inb) (ix3 0 i r) = X (ix3 0 i R) :=
  View.ld_unit_apply_of X _ _ inb _ _ fun a => by
    match a with
    | ⟨0, _⟩ => rfl
    | ⟨1, _⟩ => exact (Nat.zero_add _).symm
    | ⟨2, _⟩ => exact hR

/-- The group of tokens from `o` on, each from its row of the operands' blocks. -/
theorem group_tok (o : ℕ) (r : Fin 128) (R : Fin 512) (hR : R.val = o + r.val) (j : Fin 1024) (i0) (i1) (i3) :
    group (ld (e := .f32) x0 (Rect.unit (s := S1x512x1024) ![0, o, 0] S1x128x1024.size i0)) (ld (e := .f32) x1 (Rect.unit (s := S1x512x512) ![0, 0, o] S1x512x128.size i1))
      (ld (e := .f32) x2 (Rect.unit (s := S1x512x512) ![0, 0, o] S1x512x128.size i1)) (ld (e := .f32) x3 (Rect.unit (s := S1x512x256) ![0, o, 0] S1x128x256.size i3))
      (ld (e := .f32) x4 r0_1) (ld (e := .f32) x5 r0_1) (ld (e := .bf16) x6 r0_2) (ld (e := .f32) x7 r0_10) (ld (e := .bf16) x8 r0_11) (ld (e := .bf16) x9 r0_11) (ld (e := .bf16) x10 r0_12) (ld (e := .f32) x11 r0_10)
      (ld (e := .bf16) x12 r0_2) (ld (e := .bf16) x13 r0_14) (ld (e := .f32) x14 r0_10) (ix3 0 r j) = tok x0 x1 x2 x3 x4 x5 x6 x7 x8 x9 x10 x11 x12 x13 x14 R j := by
  rw [ld_whole (e := .f32) x4, ld_whole (e := .f32) x5, ld_whole (e := .bf16) x6, ld_whole (e := .f32) x7, ld_whole (e := .bf16) x8, ld_whole (e := .bf16) x9, ld_whole (e := .bf16) x10, ld_whole (e := .f32) x11, ld_whole (e := .bf16) x12, ld_whole (e := .bf16) x13, ld_whole (e := .f32) x14, group_at]
  unfold tok
  unfold halfAt
  rw [← funext (ld_rows (e := .f32) x0 i0 r R hR), ← funext (ld_rows (e := .f32) x3 i3 r R hR), ← funext (ld_cols (e := .f32) x1 i1 r R hR), ← funext (ld_cols (e := .f32) x2 i1 r R hR)]

/-- The block a point leaves, at a token. -/
theorem out_at (R : Fin 512) (j : Fin 1024) :
    out0_15 (F := Ideal) x0 x1 x2 x3 x4 x5 x6 x7 x8 x9 x10 x11 x12 x13 x14 (ix3 0 R j) = tok x0 x1 x2 x3 x4 x5 x6 x7 x8 x9 x10 x11 x12 x13 x14 R j := by
  have piece : ∀ (o : ℕ) (i0) (i1) (i3), View.TileAt (Val := Elt Ideal) (S := S1x512x1024) (e := .f32) (ix3 0 R j) ![0, o, 0] S1x128x1024.size
      (group (ld (e := .f32) x0 (Rect.unit (s := S1x512x1024) ![0, o, 0] S1x128x1024.size i0)) (ld (e := .f32) x1 (Rect.unit (s := S1x512x512) ![0, 0, o] S1x512x128.size i1))
        (ld (e := .f32) x2 (Rect.unit (s := S1x512x512) ![0, 0, o] S1x512x128.size i1)) (ld (e := .f32) x3 (Rect.unit (s := S1x512x256) ![0, o, 0] S1x128x256.size i3))
        (ld (e := .f32) x4 r0_1) (ld (e := .f32) x5 r0_1) (ld (e := .bf16) x6 r0_2) (ld (e := .f32) x7 r0_10) (ld (e := .bf16) x8 r0_11) (ld (e := .bf16) x9 r0_11) (ld (e := .bf16) x10 r0_12) (ld (e := .f32) x11 r0_10)
        (ld (e := .bf16) x12 r0_2) (ld (e := .bf16) x13 r0_14) (ld (e := .f32) x14 r0_10)) (tok x0 x1 x2 x3 x4 x5 x6 x7 x8 x9 x10 x11 x12 x13 x14 R j) := by
    intro o i0 i1 i3 y hy
    have e : y = ix3 0 (y 1) j := by
      funext a
      match a with
      | ⟨0, _⟩ => exact Fin.eq_zero (y 0)
      | ⟨1, _⟩ => rfl
      | ⟨2, _⟩ => exact Fin.ext ((Nat.zero_add _).symm.trans (hy 2).symm)
    rw [e]
    exact group_tok x0 x1 x2 x3 x4 x5 x6 x7 x8 x9 x10 x11 x12 x13 x14 o (y 1) R (hy 1) j i0 i1 i3
  refine View.canon_eq_of_allAt _ _ _ (cover0_15 _ _ _ _ _) ?_
  refine View.allAt_cons_unit _ _ _ _ _ (piece 384 _ _ _) ?_
  refine View.allAt_cons_unit _ _ _ _ _ (piece 256 _ _ _) ?_
  refine View.allAt_cons_unit _ _ _ _ _ (piece 128 _ _ _) ?_
  exact View.allAt_cons_unit _ _ _ _ _ (piece 0 _ _ _) (View.allAt_nil _ _)

/-- The block a point leaves, at a token, where the operands' blocks are cut from arrays: the half of the token in the
    arrays, whatever their numbers of entries and of tokens. -/
theorem out_in {B S : ℕ} (X0 : FVec Ideal ⟨3, ![B, S, 1024]⟩ .f32) (X1 X2 : FVec Ideal ⟨3, ![B, 512, S]⟩ .f32) (X3 : FVec Ideal ⟨3, ![B, S, 256]⟩ .f32)
    (b : Fin B) (s : Fin S) (R : Fin 512) (h0 : ∀ j, x0 (ix3 0 R j) = X0 (ix3 b s j)) (h1 : ∀ i, x1 (ix3 0 i R) = X1 (ix3 b i s))
    (h2 : ∀ i, x2 (ix3 0 i R) = X2 (ix3 b i s)) (h3 : ∀ e, x3 (ix3 0 R e) = X3 (ix3 b s e)) (j : Fin 1024) :
    out0_15 (F := Ideal) x0 x1 x2 x3 x4 x5 x6 x7 x8 x9 x10 x11 x12 x13 x14 (ix3 0 R j) = halfAt X0 X1 X2 X3 x4 x5 x6 x7 x8 x9 x10 x11 x12 x13 x14 b s j := by
  refine (out_at x0 x1 x2 x3 x4 x5 x6 x7 x8 x9 x10 x11 x12 x13 x14 R j).trans ?_
  unfold tok halfAt
  rw [funext h0, funext h1, funext h2, funext h3]

end Cert.PostIdeal.Hand

end
-- ==== Proof.PostRef.lean ====
module

public import proofs.«01_k».proof.Proof.Gen.PostReferenceIdeal.Run
public import proofs.«01_k».proof.Proof.PostRow

@[expose] public section

set_option maxRecDepth 16384

noncomputable section

/-! The reference's stages, each read at a batch entry, a token and a channel. -/

namespace Cert.PostReferenceIdeal.Hand

open Cert.PostReferenceIdeal Cert.PostReferenceIdeal.Gen Cert.PostReferenceIdeal.Value Cert.PostRow
open Idealize.ShloMosaic Idealize.ShloMosaic.TcCoe

variable (V : Valuation τ sig (Elt Ideal))

theorem v33_at (b : Fin 8) (s : Fin 4096) (j : Fin 1024) :
    res_main_v33 V (ix3 b s j) = mixed (fun j => V (Proc.devRef .tc main_arg0) (ix3 b s j)) (fun i => V (Proc.devRef .tc main_arg1) (ix3 b i s)) (fun i => V (Proc.devRef .tc main_arg4) (ix2 i 0))
      (fun i => V (Proc.devRef .tc main_arg2) (ix3 b i s)) (fun i => V (Proc.devRef .tc main_arg5) (ix2 i 0)) (fun i j => V (Proc.devRef .tc main_arg6) (ix2 i j)) j := by
  pointwise [res_main_v33, res_main_v0, res_main_v1]
  rfl

theorem v47_at (b : Fin 8) (s : Fin 4096) (j : Fin 1024) :
    res_main_v47 V (ix3 b s j) = norm 0x44800000#32 (fun j => res_main_v33 V (ix3 b s j)) (fun j => V (Proc.devRef .tc main_arg7) (ix2 0 j)) j := by
  pointwise [res_main_v47]
  rfl

theorem v49_at (b : Fin 8) (s : Fin 4096) (f : Fin 2816) :
    @Eq EReal (res_main_v49 V (ix3 b s f)) (∑ i : Fin 1024, norm 0x44800000#32 (fun j => res_main_v33 V (ix3 b s j)) (fun j => V (Proc.devRef .tc main_arg7) (ix2 0 j)) i
      * V (Proc.devRef .tc main_arg8) (ix2 i f)) := by
  pointwise [res_main_v49]
  exact Finset.sum_congr rfl fun i _ => by rw [v47_at]

theorem v56_at (b : Fin 8) (s : Fin 4096) (j : Fin 1024) :
    res_main_v56 V (ix3 b s j) = fed (fun j => res_main_v33 V (ix3 b s j)) (fun j => V (Proc.devRef .tc main_arg7) (ix2 0 j)) (fun i f => V (Proc.devRef .tc main_arg8) (ix2 i f))
      (fun i f => V (Proc.devRef .tc main_arg9) (ix2 i f)) (fun f j => V (Proc.devRef .tc main_arg10) (ix2 f j)) j := by
  pointwise [res_main_v56]
  simp only [v47_at]
  refine congrArg (@HAdd.hAdd EReal EReal EReal _ (res_main_v33 V (ix3 b s j))) (Finset.sum_congr rfl fun f _ => ?_)
  rw [v49_at]
  rfl

theorem v82_at (b : Fin 8) (s : Fin 4096) (j : Fin 1024) :
    res_main_v82 V (ix3 b s j) = embedded (fun j => res_main_v56 V (ix3 b s j)) (fun j => V (Proc.devRef .tc main_arg11) (ix2 0 j)) (fun i j => V (Proc.devRef .tc main_arg12) (ix2 i j))
      (fun e => V (Proc.devRef .tc main_arg3) (ix3 b s e)) (fun e j => V (Proc.devRef .tc main_arg13) (ix2 e j)) j := by
  pointwise [res_main_v82]
  rfl

/-- The reference's result at a token is the half of that token's rows. -/
theorem result_at (b : Fin 8) (s : Fin 4096) (j : Fin 1024) :
    @Eq EReal (val2 V (Proc.devRef .tc main_v96) (ix3 b s j)) (halfAt (V (Proc.devRef .tc main_arg0)) (V (Proc.devRef .tc main_arg1)) (V (Proc.devRef .tc main_arg2))
      (V (Proc.devRef .tc main_arg3)) (V (Proc.devRef .tc main_arg4)) (V (Proc.devRef .tc main_arg5)) (V (Proc.devRef .tc main_arg6))
      (V (Proc.devRef .tc main_arg7)) (V (Proc.devRef .tc main_arg8)) (V (Proc.devRef .tc main_arg9)) (V (Proc.devRef .tc main_arg10))
      (V (Proc.devRef .tc main_arg11)) (V (Proc.devRef .tc main_arg12)) (V (Proc.devRef .tc main_arg13)) (V (Proc.devRef .tc main_arg14)) b s j) := by
  rw [val2_main_v96]
  unfold halfAt half
  rw [← funext (v33_at V b s), ← funext (v56_at V b s), ← funext (v82_at V b s)]
  pointwise
  rfl

end Cert.PostReferenceIdeal.Hand

end
-- ==== Proof.PostAlgebraic.lean ====
module

public import proofs.«01_k».proof.Defs
public import proofs.«01_k».proof.Proof.PostBlock
public import proofs.«01_k».proof.Proof.PostRef
public import Idealize.ShloMosaic.Lib.Pipeline.ValueKit

@[expose] public section

set_option maxRecDepth 16384

noncomputable section

/-! The array the kernel ends with, and that the reference ends with the same. -/

namespace Cert.PostIdeal.Hand

open Cert.PostIdeal Cert.PostIdeal.Gen Cert.PostRow
open Idealize.ShloMosaic Idealize.ShloMosaic.TcCoe Idealize.SL.Sem Idealize.ShloMosaic.StableHlo

variable (m : (ℓ : Loc nD τ sig) → Buf (Elt Ideal) ℓ) (ρ : Dev nD → PrngReg)

/-- The result array. -/
def val (c : Dev nD) : FVec Ideal S8x4096x1024 .f32 := fun i =>
  halfAt (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12)) (m ((c : Thread nD τ).loc main_arg13)) (m ((c : Thread nD τ).loc main_arg14)) (i 0) (i 1) (i 2)

/-- A point's batch entry and block of tokens. -/
abbrev bOf (t : Fin cfg0.N) : Fin 8 := grid0.coords t 0
abbrev nOf (t : Fin cfg0.N) : Fin 8 := grid0.coords t 1

/-- Token `R` of a point's block, in the array. -/
abbrev row (t : Fin cfg0.N) (R : Fin 512) : Fin 4096 := ⟨(nOf t).val * 512 + R.val, by omega⟩

theorem index0 : ∀ t : Fin grid0.N, win0_0.index t = ![(grid0.coords t 0).val, (grid0.coords t 1).val, 0] := by decide +kernel
theorem index1 : ∀ t : Fin grid0.N, win0_1.index t = ![(grid0.coords t 0).val, 0, (grid0.coords t 1).val] := by decide +kernel
theorem index2 : ∀ t : Fin grid0.N, win0_2.index t = ![(grid0.coords t 0).val, 0, (grid0.coords t 1).val] := by decide +kernel
theorem index3 : ∀ t : Fin grid0.N, win0_3.index t = ![(grid0.coords t 0).val, (grid0.coords t 1).val, 0] := by decide +kernel
theorem index15 : ∀ t : Fin grid0.N, win0_15.index t = ![(grid0.coords t 0).val, (grid0.coords t 1).val, 0] := by decide +kernel

theorem emb0 (t : Fin cfg0.N) (R : Fin 512) (j : Fin 1024) : (win0_0.blk t).view.emb (ix3 0 R j) = ix3 (bOf t) (row t R) j := by
  blk_ext [index0] <;> rfl
theorem emb1 (t : Fin cfg0.N) (i R : Fin 512) : (win0_1.blk t).view.emb (ix3 0 i R) = ix3 (bOf t) i (row t R) := by
  blk_ext [index1] <;> rfl
theorem emb2 (t : Fin cfg0.N) (i R : Fin 512) : (win0_2.blk t).view.emb (ix3 0 i R) = ix3 (bOf t) i (row t R) := by
  blk_ext [index2] <;> rfl
theorem emb3 (t : Fin cfg0.N) (R : Fin 512) (e : Fin 256) : (win0_3.blk t).view.emb (ix3 0 R e) = ix3 (bOf t) (row t R) e := by
  blk_ext [index3] <;> rfl
theorem emb15 (t : Fin cfg0.N) (R : Fin 512) (j : Fin 1024) : (win0_15.blk t).view.emb (ix3 0 R j) = ix3 (bOf t) (row t R) j := by
  blk_ext [index15] <;> rfl

/-- A weight's one block is the whole weight. -/
theorem whole (c : Dev nD) (t : Fin cfg0.N) :
    iblk m c 4 t = m ((c : Thread nD τ).loc main_arg4) ∧ iblk m c 5 t = m ((c : Thread nD τ).loc main_arg5)
    ∧ iblk m c 6 t = m ((c : Thread nD τ).loc main_arg6) ∧ iblk m c 7 t = m ((c : Thread nD τ).loc main_arg7)
    ∧ iblk m c 8 t = m ((c : Thread nD τ).loc main_arg8) ∧ iblk m c 9 t = m ((c : Thread nD τ).loc main_arg9)
    ∧ iblk m c 10 t = m ((c : Thread nD τ).loc main_arg10) ∧ iblk m c 11 t = m ((c : Thread nD τ).loc main_arg11)
    ∧ iblk m c 12 t = m ((c : Thread nD τ).loc main_arg12) ∧ iblk m c 13 t = m ((c : Thread nD τ).loc main_arg13)
    ∧ iblk m c 14 t = m ((c : Thread nD τ).loc main_arg14) := by
  have z : ∀ t : Fin grid0.N, win0_4.index t = ![0, 0] ∧ win0_5.index t = ![0, 0] ∧ win0_6.index t = ![0, 0] ∧ win0_7.index t = ![0, 0]
      ∧ win0_8.index t = ![0, 0] ∧ win0_9.index t = ![0, 0] ∧ win0_10.index t = ![0, 0] ∧ win0_11.index t = ![0, 0]
      ∧ win0_12.index t = ![0, 0] ∧ win0_13.index t = ![0, 0] ∧ win0_14.index t = ![0, 0] := by decide +kernel
  obtain ⟨z4, z5, z6, z7, z8, z9, z10, z11, z12, z13, z14⟩ := z t
  refine ⟨?_, ?_, ?_, ?_, ?_, ?_, ?_, ?_, ?_, ?_, ?_⟩
  all_goals
    refine funext fun y => congrArg (m _) ?_
    blk_ext [z4, z5, z6, z7, z8, z9, z10, z11, z12, z13, z14]

/-- A point leaves the halves of its block's tokens. -/
theorem out_val (c : Dev nD) (t : Fin cfg0.N) (R : Fin 512) (j : Fin 1024) :
    out0_15 (F := Ideal) (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) (iblk m c 14 t) (ix3 0 R j) = val m c (ix3 (bOf t) (row t R) j) := by
  obtain ⟨z4, z5, z6, z7, z8, z9, z10, z11, z12, z13, z14⟩ := whole m c t
  rw [z4, z5, z6, z7, z8, z9, z10, z11, z12, z13, z14]
  exact out_in _ _ _ _ _ _ _ _ _ _ _ _ _ _ _ (m ((c : Thread nD τ).loc main_arg0)) (m ((c : Thread nD τ).loc main_arg1))
    (m ((c : Thread nD τ).loc main_arg2)) (m ((c : Thread nD τ).loc main_arg3)) (bOf t) (row t R) R (fun j => congrArg (m _) (emb0 t R j))
    (fun i => congrArg (m _) (emb1 t i R)) (fun i => congrArg (m _) (emb2 t i R)) (fun e => congrArg (m _) (emb3 t R e)) j

/-- The result array ends holding `val`. -/
theorem final (c : Dev nD) : (dats m 0 c).arrAt 15 cfg0.N = val m c := by
  refine (dats m 0 c).arrAt_eq_of_covers 15 _ (by decide +kernel) fun t hf y => ?_
  blk_simp
  rw [after0_15]
  rw [(ix3_self y).trans (congrArg (fun z => ix3 z (y 1) (y 2)) (Fin.eq_zero (y 0)))]
  exact (out_val m c t (y 1) (y 2)).trans (congrArg (val m c) (emb15 t (y 1) (y 2))).symm

/-- The idealized kernel and the reference end with the same result. -/
theorem algebraic : Cert.algebraic_PostIdeal_PostReferenceIdeal := by
  intro m g m' g' _ hagree
  refine ⟨val m, (θ_run defs _ _).mono (fun r h c => ⟨(h c).1.trans (final m c), (h c).2⟩) (Value.run_blocks m g), ?_⟩
  refine (θ_run Cert.PostReferenceIdeal.defs _ _).mono (fun r h c => ⟨(h c).1.trans ?_, (h c).2⟩) (Cert.PostReferenceIdeal.Value.run m' g')
  refine (Cert.PostReferenceIdeal.Value.val2_main_v96 (launchContents m' c)).symm.trans (funext fun i => ?_)
  obtain ⟨h0, h1, h2, h3, h4, h5, h6, h7, h8, h9, h10, h11, h12, h13, h14⟩ := hagree c
  rw [ix3_self i]
  refine (Cert.PostReferenceIdeal.Hand.result_at (launchContents m' c) (i 0) (i 1) (i 2)).trans ?_
  unfold val
  rw [← h0, ← h1, ← h2, ← h3, ← h4, ← h5, ← h6, ← h7, ← h8, ← h9, ← h10, ← h11, ← h12, ← h13, ← h14]
  rfl

end Cert.PostIdeal.Hand

end
-- ==== Proof.PromptRef.lean ====
module

public import proofs.«01_k».proof.Proof.Gen.PromptReferenceIdeal.Run
public import proofs.«01_k».proof.Proof.PostRow

@[expose] public section

set_option maxRecDepth 16384

noncomputable section

/-! The same reference at the prompt's shapes: its stages, each read at a batch entry, a token and a channel. -/

namespace Cert.PromptReferenceIdeal.Hand

open Cert.PromptReferenceIdeal Cert.PromptReferenceIdeal.Gen Cert.PromptReferenceIdeal.Value Cert.PostRow
open Idealize.ShloMosaic Idealize.ShloMosaic.TcCoe

variable (V : Valuation τ sig (Elt Ideal))

theorem v33_at (b : Fin 2) (s : Fin 16384) (j : Fin 1024) :
    res_main_v33 V (ix3 b s j) = mixed (fun j => V (Proc.devRef .tc main_arg0) (ix3 b s j)) (fun i => V (Proc.devRef .tc main_arg1) (ix3 b i s)) (fun i => V (Proc.devRef .tc main_arg4) (ix2 i 0))
      (fun i => V (Proc.devRef .tc main_arg2) (ix3 b i s)) (fun i => V (Proc.devRef .tc main_arg5) (ix2 i 0)) (fun i j => V (Proc.devRef .tc main_arg6) (ix2 i j)) j := by
  pointwise [res_main_v33, res_main_v0, res_main_v1]
  rfl

theorem v47_at (b : Fin 2) (s : Fin 16384) (j : Fin 1024) :
    res_main_v47 V (ix3 b s j) = norm 0x44800000#32 (fun j => res_main_v33 V (ix3 b s j)) (fun j => V (Proc.devRef .tc main_arg7) (ix2 0 j)) j := by
  pointwise [res_main_v47]
  rfl

theorem v49_at (b : Fin 2) (s : Fin 16384) (f : Fin 2816) :
    @Eq EReal (res_main_v49 V (ix3 b s f)) (∑ i : Fin 1024, norm 0x44800000#32 (fun j => res_main_v33 V (ix3 b s j)) (fun j => V (Proc.devRef .tc main_arg7) (ix2 0 j)) i
      * V (Proc.devRef .tc main_arg8) (ix2 i f)) := by
  pointwise [res_main_v49]
  exact Finset.sum_congr rfl fun i _ => by rw [v47_at]

theorem v56_at (b : Fin 2) (s : Fin 16384) (j : Fin 1024) :
    res_main_v56 V (ix3 b s j) = fed (fun j => res_main_v33 V (ix3 b s j)) (fun j => V (Proc.devRef .tc main_arg7) (ix2 0 j)) (fun i f => V (Proc.devRef .tc main_arg8) (ix2 i f))
      (fun i f => V (Proc.devRef .tc main_arg9) (ix2 i f)) (fun f j => V (Proc.devRef .tc main_arg10) (ix2 f j)) j := by
  pointwise [res_main_v56]
  simp only [v47_at]
  refine congrArg (@HAdd.hAdd EReal EReal EReal _ (res_main_v33 V (ix3 b s j))) (Finset.sum_congr rfl fun f _ => ?_)
  rw [v49_at]
  rfl

theorem v82_at (b : Fin 2) (s : Fin 16384) (j : Fin 1024) :
    res_main_v82 V (ix3 b s j) = embedded (fun j => res_main_v56 V (ix3 b s j)) (fun j => V (Proc.devRef .tc main_arg11) (ix2 0 j)) (fun i j => V (Proc.devRef .tc main_arg12) (ix2 i j))
      (fun e => V (Proc.devRef .tc main_arg3) (ix3 b s e)) (fun e j => V (Proc.devRef .tc main_arg13) (ix2 e j)) j := by
  pointwise [res_main_v82]
  rfl

/-- The reference's result at a token is the half of that token's rows. -/
theorem result_at (b : Fin 2) (s : Fin 16384) (j : Fin 1024) :
    @Eq EReal (val2 V (Proc.devRef .tc main_v96) (ix3 b s j)) (halfAt (V (Proc.devRef .tc main_arg0)) (V (Proc.devRef .tc main_arg1)) (V (Proc.devRef .tc main_arg2))
      (V (Proc.devRef .tc main_arg3)) (V (Proc.devRef .tc main_arg4)) (V (Proc.devRef .tc main_arg5)) (V (Proc.devRef .tc main_arg6))
      (V (Proc.devRef .tc main_arg7)) (V (Proc.devRef .tc main_arg8)) (V (Proc.devRef .tc main_arg9)) (V (Proc.devRef .tc main_arg10))
      (V (Proc.devRef .tc main_arg11)) (V (Proc.devRef .tc main_arg12)) (V (Proc.devRef .tc main_arg13)) (V (Proc.devRef .tc main_arg14)) b s j) := by
  rw [val2_main_v96]
  unfold halfAt half
  rw [← funext (v33_at V b s), ← funext (v56_at V b s), ← funext (v82_at V b s)]
  pointwise
  rfl

end Cert.PromptReferenceIdeal.Hand

end
-- ==== Proof.PromptAlgebraic.lean ====
module

public import proofs.«01_k».proof.Defs
public import proofs.«01_k».proof.Proof.Gen.PromptIdeal.Value
public import proofs.«01_k».proof.Proof.PostBlock
public import proofs.«01_k».proof.Proof.PromptRef
public import Idealize.ShloMosaic.Lib.Pipeline.ValueKit

@[expose] public section

set_option maxRecDepth 16384

noncomputable section

/-! The array the kernel ends with at the prompt's shapes, and that the reference ends with the same. A point's block
    is the one of the sample's shapes: only the array and the grid differ. -/

namespace Cert.PromptIdeal.Hand

open Cert.PromptIdeal Cert.PromptIdeal.Gen Cert.PostRow
open Idealize.ShloMosaic Idealize.ShloMosaic.TcCoe Idealize.SL.Sem Idealize.ShloMosaic.StableHlo

variable (m : (ℓ : Loc nD τ sig) → Buf (Elt Ideal) ℓ) (ρ : Dev nD → PrngReg)

/-- The result array. -/
def val (c : Dev nD) : FVec Ideal S2x16384x1024 .f32 := fun i =>
  halfAt (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12)) (m ((c : Thread nD τ).loc main_arg13)) (m ((c : Thread nD τ).loc main_arg14)) (i 0) (i 1) (i 2)

/-- A point's batch entry and block of tokens. -/
abbrev bOf (t : Fin cfg0.N) : Fin 2 := grid0.coords t 0
abbrev nOf (t : Fin cfg0.N) : Fin 32 := grid0.coords t 1

/-- Token `R` of a point's block, in the array. -/
abbrev row (t : Fin cfg0.N) (R : Fin 512) : Fin 16384 := ⟨(nOf t).val * 512 + R.val, by omega⟩

theorem index0 : ∀ t : Fin grid0.N, win0_0.index t = ![(grid0.coords t 0).val, (grid0.coords t 1).val, 0] := by decide +kernel
theorem index1 : ∀ t : Fin grid0.N, win0_1.index t = ![(grid0.coords t 0).val, 0, (grid0.coords t 1).val] := by decide +kernel
theorem index2 : ∀ t : Fin grid0.N, win0_2.index t = ![(grid0.coords t 0).val, 0, (grid0.coords t 1).val] := by decide +kernel
theorem index3 : ∀ t : Fin grid0.N, win0_3.index t = ![(grid0.coords t 0).val, (grid0.coords t 1).val, 0] := by decide +kernel
theorem index15 : ∀ t : Fin grid0.N, win0_15.index t = ![(grid0.coords t 0).val, (grid0.coords t 1).val, 0] := by decide +kernel

theorem emb0 (t : Fin cfg0.N) (R : Fin 512) (j : Fin 1024) : (win0_0.blk t).view.emb (ix3 0 R j) = ix3 (bOf t) (row t R) j := by
  blk_ext [index0] <;> rfl
theorem emb1 (t : Fin cfg0.N) (i R : Fin 512) : (win0_1.blk t).view.emb (ix3 0 i R) = ix3 (bOf t) i (row t R) := by
  blk_ext [index1] <;> rfl
theorem emb2 (t : Fin cfg0.N) (i R : Fin 512) : (win0_2.blk t).view.emb (ix3 0 i R) = ix3 (bOf t) i (row t R) := by
  blk_ext [index2] <;> rfl
theorem emb3 (t : Fin cfg0.N) (R : Fin 512) (e : Fin 256) : (win0_3.blk t).view.emb (ix3 0 R e) = ix3 (bOf t) (row t R) e := by
  blk_ext [index3] <;> rfl
theorem emb15 (t : Fin cfg0.N) (R : Fin 512) (j : Fin 1024) : (win0_15.blk t).view.emb (ix3 0 R j) = ix3 (bOf t) (row t R) j := by
  blk_ext [index15] <;> rfl

/-- A weight's one block is the whole weight. -/
theorem whole (c : Dev nD) (t : Fin cfg0.N) :
    iblk m c 4 t = m ((c : Thread nD τ).loc main_arg4) ∧ iblk m c 5 t = m ((c : Thread nD τ).loc main_arg5)
    ∧ iblk m c 6 t = m ((c : Thread nD τ).loc main_arg6) ∧ iblk m c 7 t = m ((c : Thread nD τ).loc main_arg7)
    ∧ iblk m c 8 t = m ((c : Thread nD τ).loc main_arg8) ∧ iblk m c 9 t = m ((c : Thread nD τ).loc main_arg9)
    ∧ iblk m c 10 t = m ((c : Thread nD τ).loc main_arg10) ∧ iblk m c 11 t = m ((c : Thread nD τ).loc main_arg11)
    ∧ iblk m c 12 t = m ((c : Thread nD τ).loc main_arg12) ∧ iblk m c 13 t = m ((c : Thread nD τ).loc main_arg13)
    ∧ iblk m c 14 t = m ((c : Thread nD τ).loc main_arg14) := by
  have z : ∀ t : Fin grid0.N, win0_4.index t = ![0, 0] ∧ win0_5.index t = ![0, 0] ∧ win0_6.index t = ![0, 0] ∧ win0_7.index t = ![0, 0]
      ∧ win0_8.index t = ![0, 0] ∧ win0_9.index t = ![0, 0] ∧ win0_10.index t = ![0, 0] ∧ win0_11.index t = ![0, 0]
      ∧ win0_12.index t = ![0, 0] ∧ win0_13.index t = ![0, 0] ∧ win0_14.index t = ![0, 0] := by decide +kernel
  obtain ⟨z4, z5, z6, z7, z8, z9, z10, z11, z12, z13, z14⟩ := z t
  refine ⟨?_, ?_, ?_, ?_, ?_, ?_, ?_, ?_, ?_, ?_, ?_⟩
  all_goals
    refine funext fun y => congrArg (m _) ?_
    blk_ext [z4, z5, z6, z7, z8, z9, z10, z11, z12, z13, z14]

/-- A point leaves the halves of its block's tokens. -/
theorem out_val (c : Dev nD) (t : Fin cfg0.N) (R : Fin 512) (j : Fin 1024) :
    out0_15 (F := Ideal) (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) (iblk m c 14 t) (ix3 0 R j) = val m c (ix3 (bOf t) (row t R) j) := by
  obtain ⟨z4, z5, z6, z7, z8, z9, z10, z11, z12, z13, z14⟩ := whole m c t
  rw [z4, z5, z6, z7, z8, z9, z10, z11, z12, z13, z14]
  exact Cert.PostIdeal.Hand.out_in _ _ _ _ _ _ _ _ _ _ _ _ _ _ _ (m ((c : Thread nD τ).loc main_arg0)) (m ((c : Thread nD τ).loc main_arg1))
    (m ((c : Thread nD τ).loc main_arg2)) (m ((c : Thread nD τ).loc main_arg3)) (bOf t) (row t R) R (fun j => congrArg (m _) (emb0 t R j))
    (fun i => congrArg (m _) (emb1 t i R)) (fun i => congrArg (m _) (emb2 t i R)) (fun e => congrArg (m _) (emb3 t R e)) j

/-- The result array ends holding `val`. -/
theorem final (c : Dev nD) : (dats m 0 c).arrAt 15 cfg0.N = val m c := by
  refine (dats m 0 c).arrAt_eq_of_covers 15 _ (by decide +kernel) fun t hf y => ?_
  blk_simp
  rw [after0_15]
  rw [(ix3_self y).trans (congrArg (fun z => ix3 z (y 1) (y 2)) (Fin.eq_zero (y 0)))]
  exact (out_val m c t (y 1) (y 2)).trans (congrArg (val m c) (emb15 t (y 1) (y 2))).symm

/-- The idealized kernel and the reference end with the same result. -/
theorem algebraic : Cert.algebraic_PromptIdeal_PromptReferenceIdeal := by
  intro m g m' g' _ hagree
  refine ⟨val m, (θ_run defs _ _).mono (fun r h c => ⟨(h c).1.trans (final m c), (h c).2⟩) (Value.run_blocks m g), ?_⟩
  refine (θ_run Cert.PromptReferenceIdeal.defs _ _).mono (fun r h c => ⟨(h c).1.trans ?_, (h c).2⟩) (Cert.PromptReferenceIdeal.Value.run m' g')
  refine (Cert.PromptReferenceIdeal.Value.val2_main_v96 (launchContents m' c)).symm.trans (funext fun i => ?_)
  obtain ⟨h0, h1, h2, h3, h4, h5, h6, h7, h8, h9, h10, h11, h12, h13, h14⟩ := hagree c
  rw [ix3_self i]
  refine (Cert.PromptReferenceIdeal.Hand.result_at (launchContents m' c) (i 0) (i 1) (i 2)).trans ?_
  unfold val
  rw [← h0, ← h1, ← h2, ← h3, ← h4, ← h5, ← h6, ← h7, ← h8, ← h9, ← h10, ← h11, ← h12, ← h13, ← h14]
  rfl

end Cert.PromptIdeal.Hand

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Post.Frame
public import proofs.«01_k».proof.Proof.Gen.PostIdeal.Value
public import proofs.«01_k».proof.Proof.Gen.PostReferenceIdeal.Run
public import proofs.«01_k».proof.Proof.Gen.Prompt.Frame
public import proofs.«01_k».proof.Proof.Gen.PromptIdeal.Value
public import proofs.«01_k».proof.Proof.Gen.PromptReferenceIdeal.Run
public import proofs.«01_k».proof.Proof.Frame
public import proofs.«01_k».proof.Proof.Transfer
public import proofs.«01_k».proof.Proof.RefRun
public import proofs.«01_k».proof.Proof.Algebraic
public import proofs.«01_k».proof.Proof.PostAlgebraic
public import proofs.«01_k».proof.Proof.PromptAlgebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Post.Gen.facts, Cert.PostIdeal.Gen.facts, Cert.PostReferenceIdeal.Gen.facts,
    Cert.Prompt.Gen.facts, Cert.PromptIdeal.Gen.facts, Cert.PromptReferenceIdeal.Gen.facts, Cert.Algebraic.preFacts,
    fun m g _ => Cert.Kernel.Hand.frame m g,
    fun m g _ => Cert.Transfer.run_ideal Ideal m g _ (Cert.Kernel.Hand.frame m g),
    fun m g _ => Cert.Transfer.run_ideal Ideal m g _ (Cert.Kernel.Hand.frame m g),
    fun m g _ => Cert.ReferenceIdeal.Hand.frame m g,
    fun m g _ => Cert.ReferenceIdeal.Hand.frame m g,
    fun m g _ => Cert.Post.Gen.frame m g,
    fun m g _ => Cert.PostIdeal.Gen.frame m g,
    fun m g _ => (θ_run Cert.PostReferenceIdeal.defs _ _).mono
      (fun r h => ⟨fun c => (h c).2, sem_eq_zero_of_no_sems (by decide) r.2⟩) (Cert.PostReferenceIdeal.Value.run m g),
    fun m g _ => Cert.Prompt.Gen.frame m g,
    fun m g _ => Cert.PromptIdeal.Gen.frame m g,
    fun m g _ => (θ_run Cert.PromptReferenceIdeal.defs _ _).mono
      (fun r h => ⟨fun c => (h c).2, sem_eq_zero_of_no_sems (by decide) r.2⟩) (Cert.PromptReferenceIdeal.Value.run m g),
    trivial, Cert.Algebraic.algebraic, trivial, Cert.PostIdeal.Hand.algebraic,
    trivial, Cert.PromptIdeal.Hand.algebraic⟩

end Cert.Proof

end
